-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v42) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v15)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v15) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v79) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v35_0)) (v1 : (c : Dev Cert.ProjIdeal.nD) → Buf (Elt Ideal) ((c.tc : Thread Cert.ProjIdeal.nD Cert.ProjIdeal.τ).loc Cert.ProjIdeal.main_v35_1)) (v2 : (c : Dev Cert.ProjIdeal.nD) → Buf (Elt Ideal) ((c.tc : Thread Cert.ProjIdeal.nD Cert.ProjIdeal.τ).loc Cert.ProjIdeal.main_v35_2)) (v3 : (c : Dev Cert.ProjIdeal.nD) → Buf (Elt Ideal) ((c.tc : Thread Cert.ProjIdeal.nD Cert.ProjIdeal.τ).loc Cert.ProjIdeal.main_v35_3)) (v4 : (c : Dev Cert.ProjIdeal.nD) → Buf (Elt Ideal) ((c.tc : Thread Cert.ProjIdeal.nD Cert.ProjIdeal.τ).loc Cert.ProjIdeal.main_v35_4)) (v5 : (c : Dev Cert.ProjIdeal.nD) → Buf (Elt Ideal) ((c.tc : Thread Cert.ProjIdeal.nD Cert.ProjIdeal.τ).loc Cert.ProjIdeal.main_v35_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v35_0) = v0 c
          ∧ r.2.mem ((c.tc : Thread Cert.ProjIdeal.nD Cert.ProjIdeal.τ).loc Cert.ProjIdeal.main_v35_1) = v1 c
          ∧ r.2.mem ((c.tc : Thread Cert.ProjIdeal.nD Cert.ProjIdeal.τ).loc Cert.ProjIdeal.main_v35_2) = v2 c
          ∧ r.2.mem ((c.tc : Thread Cert.ProjIdeal.nD Cert.ProjIdeal.τ).loc Cert.ProjIdeal.main_v35_3) = v3 c
          ∧ r.2.mem ((c.tc : Thread Cert.ProjIdeal.nD Cert.ProjIdeal.τ).loc Cert.ProjIdeal.main_v35_4) = v4 c
          ∧ r.2.mem ((c.tc : Thread Cert.ProjIdeal.nD Cert.ProjIdeal.τ).loc Cert.ProjIdeal.main_v35_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v78) = v0 c
          ∧ r.2.mem ((c.tc : Thread Cert.ProjRefIdeal.nD Cert.ProjRefIdeal.τ).loc Cert.ProjRefIdeal.main_v82) = v1 c
          ∧ r.2.mem ((c.tc : Thread Cert.ProjRefIdeal.nD Cert.ProjRefIdeal.τ).loc Cert.ProjRefIdeal.main_v86) = v2 c
          ∧ r.2.mem ((c.tc : Thread Cert.ProjRefIdeal.nD Cert.ProjRefIdeal.τ).loc Cert.ProjRefIdeal.main_v89) = v3 c
          ∧ r.2.mem ((c.tc : Thread Cert.ProjRefIdeal.nD Cert.ProjRefIdeal.τ).loc Cert.ProjRefIdeal.main_v90) = v4 c
          ∧ r.2.mem ((c.tc : Thread Cert.ProjRefIdeal.nD Cert.ProjRefIdeal.τ).loc Cert.ProjRefIdeal.main_v94) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Proj_ProjIdeal
    ∧ algebraic_ProjIdeal_ProjRefIdeal (hProjIdeal := hProjIdeal) (hProjRefIdeal := hProjRefIdeal)
-- ==== Pre_finite.lean ====
abbrev S16x4 : Shape := ⟨2, ![16, 4]⟩
abbrev S16x32x512x128 : Shape := ⟨4, ![16, 32, 512, 128]⟩
abbrev S65536x512 : Shape := ⟨2, ![65536, 512]⟩
abbrev S4x64 : Shape := ⟨2, ![4, 64]⟩
abbrev S8x128 : Shape := ⟨2, ![8, 128]⟩
abbrev S_ : Shape := ⟨0, ![]⟩
abbrev S1x1 : Shape := ⟨2, ![1, 1]⟩

class Facts : Prop where
  bitsLt_bf16_f32 : FTy.bits .bf16 < FTy.bits .f32
  bcast_S_S16x32x512x128 : S_.BroadcastsInDim S16x32x512x128 (![] : Fin 0 → Fin S16x32x512x128.rank)
  reducesTo_S16x32x512x128_S_d0_1_2_3 : S16x32x512x128.ReducesTo [0, 1, 2, 3] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S4x64 : S_.BroadcastsInDim S4x64 (![] : Fin 0 → Fin S4x64.rank)
  reducesTo_S4x64_S_d0_1 : S4x64.ReducesTo [0, 1] S_
  slices_S8x128_S1x1_2_0 : S8x128.Slices ![2, 0] S1x1
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_v29 : IVec S_ 1) (main_v30 : FVec F S1x1 .f32) (main_v32 : IVec S1x1 1) (main_v33 : FVec F S1x1 .f32) : IVec S_ 1 :=
  let main_v34 : IVec S1x1 1 := cmpf .ogt main_v30 main_v33
  let main_v35 : IVec S1x1 1 := andi main_v32 main_v34
  let main_c_12 : IVec S_ 1 := constantI S_ 1 1#1
  let main_v36 : IVec S_ 1 := (fun x v => Host.reduce IntOp.andi x v reducesTo_S1x1_S_d0_1 h_S_) main_v35 main_c_12
  let main_v37 : IVec S_ 1 := andi main_v29 main_v36
  main_v37

def fn_part1 {F : FTy → Type} [FloatOps F] (main_arg4 : FVec F S4x64 .f32) (main_arg5 : FVec F S8x128 .f32) (main_v14 : IVec S_ 1) (main_v15 : FVec F S16x32x512x128 .f32) (main_v16 : FVec F S16x32x512x128 .f32) : IVec S_ 1 :=
  let main_v17 : IVec S16x32x512x128 1 := cmpf .olt main_v15 main_v16
  let main_cst_5 : FVec F S_ .f32 := constant S_ .f32 0xFF800000#32
  let main_v18 : FVec F S16x32x512x128 .f32 := broadcastInDim S16x32x512x128 ![] bcast_S_S16x32x512x128 main_cst_5
  let main_v19 : IVec S16x32x512x128 1 := cmpf .ogt main_v15 main_v18
  let main_v20 : IVec S16x32x512x128 1 := andi main_v17 main_v19
  let main_c_6 : IVec S_ 1 := constantI S_ 1 1#1
  let main_v21 : IVec S_ 1 := (fun x v => Host.reduce IntOp.andi x v reducesTo_S16x32x512x128_S_d0_1_2_3 h_S_) main_v20 main_c_6
  let main_v22 : IVec S_ 1 := andi main_v14 main_v21
  let main_cst_7 : FVec F S_ .f32 := constant S_ .f32 0x7F800000#32
  let main_v23 : FVec F S4x64 .f32 := broadcastInDim S4x64 ![] bcast_S_S4x64 main_cst_7
  let main_v24 : IVec S4x64 1 := cmpf .olt main_arg4 main_v23
  let main_cst_8 : FVec F S_ .f32 := constant S_ .f32 0xFF800000#32
  let main_v25 : FVec F S4x64 .f32 := broadcastInDim S4x64 ![] bcast_S_S4x64 main_cst_8
  let main_v26 : IVec S4x64 1 := cmpf .ogt main_arg4 main_v25
  let main_v27 : IVec S4x64 1 := andi main_v24 main_v26
  let main_c_9 : IVec S_ 1 := constantI S_ 1 1#1
  let main_v28 : IVec S_ 1 := (fun x v => Host.reduce IntOp.andi x v reducesTo_S4x64_S_d0_1 h_S_) main_v27 main_c_9
  let main_v29 : IVec S_ 1 := andi main_v22 main_v28
  let main_v30 : FVec F S1x1 .f32 := (extractStridedSlice S1x1 ![2, 0] · slices_S8x128_S1x1_2_0) main_arg5
  let main_cst_10 : FVec F S_ .f32 := constant S_ .f32 0x7F800000#32
  let main_v31 : FVec F S1x1 .f32 := broadcastInDim S1x1 ![] bcast_S_S1x1 main_cst_10
  let main_v32 : IVec S1x1 1 := cmpf .olt main_v30 main_v31
  let main_cst_11 : FVec F S_ .f32 := constant S_ .f32 0xFF800000#32
  let main_v33 : FVec F S1x1 .f32 := broadcastInDim S1x1 ![] bcast_S_S1x1 main_cst_11
  fn_part2 (F := F) main_v29 main_v30 main_v32 main_v33

def fn {F : FTy → Type} [FloatOps F] (main_arg0 : FVec F S16x4 .f32) (main_arg1 : FVec F S16x32x512x128 .bf16) (main_arg2 : FVec F S65536x512 .bf16) (main_arg3 : FVec F S16x32x512x128 .bf16) (main_arg4 : FVec F S4x64 .f32) (main_arg5 : FVec F S8x128 .f32) : IVec S_ 1 :=
  let main_v0 : FVec F S16x32x512x128 .f32 := (extf .f32 · bitsLt_bf16_f32) main_arg1
  let main_cst : FVec F S_ .f32 := constant S_ .f32 0x7F800000#32
  let main_v1 : FVec F S16x32x512x128 .f32 := broadcastInDim S16x32x512x128 ![] bcast_S_S16x32x512x128 main_cst
  let main_v2 : IVec S16x32x512x128 1 := cmpf .olt main_v0 main_v1
  let main_cst_0 : FVec F S_ .f32 := constant S_ .f32 0xFF800000#32
  let main_v3 : FVec F S16x32x512x128 .f32 := broadcastInDim S16x32x512x128 ![] bcast_S_S16x32x512x128 main_cst_0
  let main_v4 : IVec S16x32x512x128 1 := cmpf .ogt main_v0 main_v3
  let main_v5 : IVec S16x32x512x128 1 := andi main_v2 main_v4
  let main_c : IVec S_ 1 := constantI S_ 1 1#1
  let main_v6 : IVec S_ 1 := (fun x v => Host.reduce IntOp.andi x v reducesTo_S16x32x512x128_S_d0_1_2_3 h_S_) main_v5 main_c
  let main_v7 : FVec F S65536x512 .f32 := (extf .f32 · bitsLt_bf16_f32) main_arg2
  let main_cst_1 : FVec F S_ .f32 := constant S_ .f32 0x7F800000#32
  let main_v8 : FVec F S65536x512 .f32 := broadcastInDim S65536x512 ![] bcast_S_S65536x512 main_cst_1
  let main_v9 : IVec S65536x512 1 := cmpf .olt main_v7 main_v8
  let main_cst_2 : FVec F S_ .f32 := constant S_ .f32 0xFF800000#32
  let main_v10 : FVec F S65536x512 .f32 := broadcastInDim S65536x512 ![] bcast_S_S65536x512 main_cst_2
  let main_v11 : IVec S65536x512 1 := cmpf .ogt main_v7 main_v10
  let main_v12 : IVec S65536x512 1 := andi main_v9 main_v11
  let main_c_3 : IVec S_ 1 := constantI S_ 1 1#1
  let main_v13 : IVec S_ 1 := (fun x v => Host.reduce IntOp.andi x v reducesTo_S65536x512_S_d0_1 h_S_) main_v12 main_c_3
  let main_v14 : IVec S_ 1 := andi main_v6 main_v13
  let main_v15 : FVec F S16x32x512x128 .f32 := (extf .f32 · bitsLt_bf16_f32) main_arg3
  let main_cst_4 : FVec F S_ .f32 := constant S_ .f32 0x7F800000#32
  let main_v16 : FVec F S16x32x512x128 .f32 := broadcastInDim S16x32x512x128 ![] bcast_S_S16x32x512x128 main_cst_4
  fn_part1 (F := F) main_arg4 main_arg5 main_v14 main_v15 main_v16
-- ==== Kernel.lean ====
abbrev S16x4 : Shape := ⟨2, ![16, 4]⟩
abbrev S16x32x512x128 : Shape := ⟨4, ![16, 32, 512, 128]⟩
abbrev S65536x512 : Shape := ⟨2, ![65536, 512]⟩
abbrev S4x64 : Shape := ⟨2, ![4, 64]⟩
abbrev S8x128 : Shape := ⟨2, ![8, 128]⟩
abbrev S1x32x128x128 : Shape := ⟨4, ![1, 32, 128, 128]⟩
abbrev S4096x128 : Shape := ⟨2, ![4096, 128]⟩
abbrev S4096x256 : Shape := ⟨2, ![4096, 256]⟩
abbrev S1x64 : Shape := ⟨2, ![1, 64]⟩
abbrev S1 : Shape := ⟨1, ![1]⟩
abbrev S1x1 : Shape := ⟨2, ![1, 1]⟩
abbrev S1x128 : Shape := ⟨2, ![1, 128]⟩
abbrev S128x1 : Shape := ⟨2, ![128, 1]⟩
abbrev S1x1x128x128 : Shape := ⟨4, ![1, 1, 128, 128]⟩
abbrev S128x128 : Shape := ⟨2, ![128, 128]⟩
abbrev S128x256 : Shape := ⟨2, ![128, 256]⟩
abbrev S256x128 : Shape := ⟨2, ![256, 128]⟩
abbrev S256x256 : Shape := ⟨2, ![256, 256]⟩
abbrev S8x256 : Shape := ⟨2, ![8, 256]⟩
abbrev S32x8x256 : Shape := ⟨3, ![32, 8, 256]⟩
abbrev S256 : Shape := ⟨1, ![256]⟩
abbrev S1x256 : Shape := ⟨2, ![1, 256]⟩
abbrev S128 : Shape := ⟨1, ![128]⟩

abbrev nBuf : Space → Nat
  | .hbm => 7
  | .vmem => 14
  | .smem => 1
  | _ => 0

abbrev bufTy : (tb : Table) → Fin (tcTables nBuf tb) → BufTy
  | .hbm, ⟨0, _⟩ => ⟨S16x4, .f32⟩
  | .hbm, ⟨1, _⟩ => ⟨S16x32x512x128, .bf16⟩
  | .hbm, ⟨2, _⟩ => ⟨S65536x512, .bf16⟩
  | .hbm, ⟨3, _⟩ => ⟨S16x32x512x128, .bf16⟩
  | .hbm, ⟨4, _⟩ => ⟨S4x64, .f32⟩
  | .hbm, ⟨5, _⟩ => ⟨S8x128, .f32⟩
  | .hbm, ⟨6, _⟩ => ⟨S65536x512, .bf16⟩
  | .local _ .vmem, ⟨0, _⟩ => ⟨S1x32x128x128, .bf16⟩
  | .local _ .vmem, ⟨1, _⟩ => ⟨S1x32x128x128, .bf16⟩
  | .local _ .vmem, ⟨2, _⟩ => ⟨S4096x128, .bf16⟩
  | .local _ .vmem, ⟨3, _⟩ => ⟨S4096x128, .bf16⟩
  | .local _ .vmem, ⟨4, _⟩ => ⟨S1x32x128x128, .bf16⟩
  | .local _ .vmem, ⟨5, _⟩ => ⟨S1x32x128x128, .bf16⟩
  | .local _ .vmem, ⟨6, _⟩ => ⟨S4x64, .f32⟩
  | .local _ .vmem, ⟨7, _⟩ => ⟨S8x128, .f32⟩
  | .local _ .vmem, ⟨8, _⟩ => ⟨S4096x128, .bf16⟩
  | .local _ .vmem, ⟨9, _⟩ => ⟨S4096x128, .bf16⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .smem, ⟨0, _⟩ => ⟨S16x4, .f32⟩
  | _, _ => ⟨S16x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def k0_off1 (i : grid0.Coords) : Fin 2 → Nat :=
  let arg0 : BitVec 32 := BitVec.ofNat 32 (i 0).val
  let v37 : Index := Scalar.indexCast arg0
  let arg1 : BitVec 32 := BitVec.ofNat 32 (i 1).val
  let v38 : Index := Scalar.indexCast arg1
  ![v37.toNat, v38.toNat]
@[reducible] def k0_t1_loop : Scf.Loop 32 :=
  let c0_i32_11 : BitVec 32 := 0#32
  let c2_i32 : BitVec 32 := 2#32
  let v43 : BitVec 32 := Scalar.addi c0_i32_11 c2_i32
  let c1_i32_12 : BitVec 32 := 1#32
  ⟨c0_i32_11, v43, c1_i32_12⟩
def k0_off2 (k0_t1 : Fin k0_t1_loop.trips) (c0_i32_14 : BitVec 32) : Fin 4 → Nat :=
  let c0_32 : Index := 0#32
  let c16_i32 : BitVec 32 := 16#32
  let c0_i32_11 : BitVec 32 := 0#32
  let c1_i32_12 : BitVec 32 := 1#32
  let arg13 : BitVec 32 := Scf.iv c0_i32_11 c1_i32_12 k0_t1
  let v44 : BitVec 32 := Scalar.muli c16_i32 arg13
  let v45 : BitVec 32 := Scalar.addi v44 c0_i32_14
  let v76 : Index := Scalar.indexCast v45
  let c0_33 : Index := 0#32
  let c0_34 : Index := 0#32
  ![0, v76.toNat, 0, 0]
def k0_mult1 (k0_t1 : Fin k0_t1_loop.trips) : BitVec 32 :=
  let c16_i32 : BitVec 32 := 16#32
  let c0_i32_11 : BitVec 32 := 0#32
  let c1_i32_12 : BitVec 32 := 1#32
  let arg13 : BitVec 32 := Scf.iv c0_i32_11 c1_i32_12 k0_t1
  let v44 : BitVec 32 := Scalar.muli c16_i32 arg13
  let c0_i32_14 : BitVec 32 := 0#32
  let v45 : BitVec 32 := Scalar.addi v44 c0_i32_14
  let c128_i32 : BitVec 32 := 128#32
  let v362 : BitVec 32 := Scalar.muli v45 c128_i32
  v362
def k0_off3 (k0_t1 : Fin k0_t1_loop.trips) (c0_i32_14 : BitVec 32) : Fin 2 → Nat :=
  let c16_i32 : BitVec 32 := 16#32
  let c0_i32_11 : BitVec 32 := 0#32
  let c1_i32_12 : BitVec 32 := 1#32
  let arg13 : BitVec 32 := Scf.iv c0_i32_11 c1_i32_12 k0_t1
  let v44 : BitVec 32 := Scalar.muli c16_i32 arg13
  let v45 : BitVec 32 := Scalar.addi v44 c0_i32_14
  let c128_i32 : BitVec 32 := 128#32
  let v362 : BitVec 32 := Scalar.muli v45 c128_i32
  let v363 : BitVec 32 := v362
  let v365 : Index := Scalar.indexCast v363
  let c0_229 : Index := 0#32
  ![v365.toNat, 0]
def k0_mult2 (k0_t1 : Fin k0_t1_loop.trips) : BitVec 32 :=
  let c16_i32_15 : BitVec 32 := 16#32
  let c0_i32_11 : BitVec 32 := 0#32
  let c1_i32_12 : BitVec 32 := 1#32
  let arg13 : BitVec 32 := Scf.iv c0_i32_11 c1_i32_12 k0_t1
  let v46 : BitVec 32 := Scalar.muli c16_i32_15 arg13
  let c1_i32_16 : BitVec 32 := 1#32
  let v47 : BitVec 32 := Scalar.addi v46 c1_i32_16
  let c128_i32_449 : BitVec 32 := 128#32
  let v630 : BitVec 32 := Scalar.muli v47 c128_i32_449
  v630
def k0_mult3 (k0_t1 : Fin k0_t1_loop.trips) : BitVec 32 :=
  let c16_i32_17 : BitVec 32 := 16#32
  let c0_i32_11 : BitVec 32 := 0#32
  let c1_i32_12 : BitVec 32 := 1#32
  let arg13 : BitVec 32 := Scf.iv c0_i32_11 c1_i32_12 k0_t1
  let v48 : BitVec 32 := Scalar.muli c16_i32_17 arg13
  let c2_i32_18 : BitVec 32 := 2#32
  let v49 : BitVec 32 := Scalar.addi v48 c2_i32_18
  let c128_i32_670 : BitVec 32 := 128#32
  let v898 : BitVec 32 := Scalar.muli v49 c128_i32_670
  v898
def k0_mult4 (k0_t1 : Fin k0_t1_loop.trips) : BitVec 32 :=
  let c16_i32_19 : BitVec 32 := 16#32
  let c0_i32_11 : BitVec 32 := 0#32
  let c1_i32_12 : BitVec 32 := 1#32
  let arg13 : BitVec 32 := Scf.iv c0_i32_11 c1_i32_12 k0_t1
  let v50 : BitVec 32 := Scalar.muli c16_i32_19 arg13
  let c3_i32 : BitVec 32 := 3#32
  let v51 : BitVec 32 := Scalar.addi v50 c3_i32
  let c128_i32_891 : BitVec 32 := 128#32
  let v1166 : BitVec 32 := Scalar.muli v51 c128_i32_891
  v1166
def k0_mult5 (k0_t1 : Fin k0_t1_loop.trips) : BitVec 32 :=
  let c16_i32_20 : BitVec 32 := 16#32
  let c0_i32_11 : BitVec 32 := 0#32
  let c1_i32_12 : BitVec 32 := 1#32
  let arg13 : BitVec 32 := Scf.iv c0_i32_11 c1_i32_12 k0_t1
  let v52 : BitVec 32 := Scalar.muli c16_i32_20 arg13
  let c4_i32 : BitVec 32 := 4#32
  let v53 : BitVec 32 := Scalar.addi v52 c4_i32
  let c128_i32_1112 : BitVec 32 := 128#32
  let v1434 : BitVec 32 := Scalar.muli v53 c128_i32_1112
  v1434
def k0_mult6 (k0_t1 : Fin k0_t1_loop.trips) : BitVec 32 :=
  let c16_i32_21 : BitVec 32 := 16#32
  let c0_i32_11 : BitVec 32 := 0#32
  let c1_i32_12 : BitVec 32 := 1#32
  let arg13 : BitVec 32 := Scf.iv c0_i32_11 c1_i32_12 k0_t1
  let v54 : BitVec 32 := Scalar.muli c16_i32_21 arg13
  let c5_i32 : BitVec 32 := 5#32
  let v55 : BitVec 32 := Scalar.addi v54 c5_i32
  let c128_i32_1333 : BitVec 32 := 128#32
  let v1702 : BitVec 32 := Scalar.muli v55 c128_i32_1333
  v1702
def k0_mult7 (k0_t1 : Fin k0_t1_loop.trips) : BitVec 32 :=
  let c16_i32_22 : BitVec 32 := 16#32
  let c0_i32_11 : BitVec 32 := 0#32
  let c1_i32_12 : BitVec 32 := 1#32
  let arg13 : BitVec 32 := Scf.iv c0_i32_11 c1_i32_12 k0_t1
  let v56 : BitVec 32 := Scalar.muli c16_i32_22 arg13
  let c6_i32 : BitVec 32 := 6#32
  let v57 : BitVec 32 := Scalar.addi v56 c6_i32
  let c128_i32_1554 : BitVec 32 := 128#32
  let v1970 : BitVec 32 := Scalar.muli v57 c128_i32_1554
  v1970
def k0_mult8 (k0_t1 : Fin k0_t1_loop.trips) : BitVec 32 :=
  let c16_i32_23 : BitVec 32 := 16#32
  let c0_i32_11 : BitVec 32 := 0#32
  let c1_i32_12 : BitVec 32 := 1#32
  let arg13 : BitVec 32 := Scf.iv c0_i32_11 c1_i32_12 k0_t1
  let v58 : BitVec 32 := Scalar.muli c16_i32_23 arg13
  let c7_i32 : BitVec 32 := 7#32
  let v59 : BitVec 32 := Scalar.addi v58 c7_i32
  let c128_i32_1775 : BitVec 32 := 128#32
  let v2238 : BitVec 32 := Scalar.muli v59 c128_i32_1775
  v2238
def k0_mult9 (k0_t1 : Fin k0_t1_loop.trips) : BitVec 32 :=
  let c16_i32_24 : BitVec 32 := 16#32
  let c0_i32_11 : BitVec 32 := 0#32
  let c1_i32_12 : BitVec 32 := 1#32
  let arg13 : BitVec 32 := Scf.iv c0_i32_11 c1_i32_12 k0_t1
  let v60 : BitVec 32 := Scalar.muli c16_i32_24 arg13
  let c8_i32 : BitVec 32 := 8#32
  let v61 : BitVec 32 := Scalar.addi v60 c8_i32
  let c128_i32_1996 : BitVec 32 := 128#32
  let v2506 : BitVec 32 := Scalar.muli v61 c128_i32_1996
  v2506
def k0_mult10 (k0_t1 : Fin k0_t1_loop.trips) : BitVec 32 :=
  let c16_i32_25 : BitVec 32 := 16#32
  let c0_i32_11 : BitVec 32 := 0#32
  let c1_i32_12 : BitVec 32 := 1#32
  let arg13 : BitVec 32 := Scf.iv c0_i32_11 c1_i32_12 k0_t1
  let v62 : BitVec 32 := Scalar.muli c16_i32_25 arg13
  let c9_i32 : BitVec 32 := 9#32
  let v63 : BitVec 32 := Scalar.addi v62 c9_i32
  let c128_i32_2217 : BitVec 32 := 128#32
  let v2774 : BitVec 32 := Scalar.muli v63 c128_i32_2217
  v2774
def k0_mult11 (k0_t1 : Fin k0_t1_loop.trips) : BitVec 32 :=
  let c16_i32_26 : BitVec 32 := 16#32
  let c0_i32_11 : BitVec 32 := 0#32
  let c1_i32_12 : BitVec 32 := 1#32
  let arg13 : BitVec 32 := Scf.iv c0_i32_11 c1_i32_12 k0_t1
  let v64 : BitVec 32 := Scalar.muli c16_i32_26 arg13
  let c10_i32 : BitVec 32 := 10#32
  let v65 : BitVec 32 := Scalar.addi v64 c10_i32
  let c128_i32_2438 : BitVec 32 := 128#32
  let v3042 : BitVec 32 := Scalar.muli v65 c128_i32_2438
  v3042
def k0_mult12 (k0_t1 : Fin k0_t1_loop.trips) : BitVec 32 :=
  let c16_i32_27 : BitVec 32 := 16#32
  let c0_i32_11 : BitVec 32 := 0#32
  let c1_i32_12 : BitVec 32 := 1#32
  let arg13 : BitVec 32 := Scf.iv c0_i32_11 c1_i32_12 k0_t1
  let v66 : BitVec 32 := Scalar.muli c16_i32_27 arg13
  let c11_i32 : BitVec 32 := 11#32
  let v67 : BitVec 32 := Scalar.addi v66 c11_i32
  let c128_i32_2659 : BitVec 32 := 128#32
  let v3310 : BitVec 32 := Scalar.muli v67 c128_i32_2659
  v3310
def k0_mult13 (k0_t1 : Fin k0_t1_loop.trips) : BitVec 32 :=
  let c16_i32_28 : BitVec 32 := 16#32
  let c0_i32_11 : BitVec 32 := 0#32
  let c1_i32_12 : BitVec 32 := 1#32
  let arg13 : BitVec 32 := Scf.iv c0_i32_11 c1_i32_12 k0_t1
  let v68 : BitVec 32 := Scalar.muli c16_i32_28 arg13
  let c12_i32 : BitVec 32 := 12#32
  let v69 : BitVec 32 := Scalar.addi v68 c12_i32
  let c128_i32_2880 : BitVec 32 := 128#32
  let v3578 : BitVec 32 := Scalar.muli v69 c128_i32_2880
  v3578
def k0_mult14 (k0_t1 : Fin k0_t1_loop.trips) : BitVec 32 :=
  let c16_i32_29 : BitVec 32 := 16#32
  let c0_i32_11 : BitVec 32 := 0#32
  let c1_i32_12 : BitVec 32 := 1#32
  let arg13 : BitVec 32 := Scf.iv c0_i32_11 c1_i32_12 k0_t1
  let v70 : BitVec 32 := Scalar.muli c16_i32_29 arg13
  let c13_i32 : BitVec 32 := 13#32
  let v71 : BitVec 32 := Scalar.addi v70 c13_i32
  let c128_i32_3101 : BitVec 32 := 128#32
  let v3846 : BitVec 32 := Scalar.muli v71 c128_i32_3101
  v3846
def k0_mult15 (k0_t1 : Fin k0_t1_loop.trips) : BitVec 32 :=
  let c16_i32_30 : BitVec 32 := 16#32
  let c0_i32_11 : BitVec 32 := 0#32
  let c1_i32_12 : BitVec 32 := 1#32
  let arg13 : BitVec 32 := Scf.iv c0_i32_11 c1_i32_12 k0_t1
  let v72 : BitVec 32 := Scalar.muli c16_i32_30 arg13
  let c14_i32 : BitVec 32 := 14#32
  let v73 : BitVec 32 := Scalar.addi v72 c14_i32
  let c128_i32_3322 : BitVec 32 := 128#32
  let v4114 : BitVec 32 := Scalar.muli v73 c128_i32_3322
  v4114
def k0_mult16 (k0_t1 : Fin k0_t1_loop.trips) : BitVec 32 :=
  let c16_i32_31 : BitVec 32 := 16#32
  let c0_i32_11 : BitVec 32 := 0#32
  let c1_i32_12 : BitVec 32 := 1#32
  let arg13 : BitVec 32 := Scf.iv c0_i32_11 c1_i32_12 k0_t1
  let v74 : BitVec 32 := Scalar.muli c16_i32_31 arg13
  let c15_i32 : BitVec 32 := 15#32
  let v75 : BitVec 32 := Scalar.addi v74 c15_i32
  let c128_i32_3521 : BitVec 32 := 128#32
  let v4359 : BitVec 32 := Scalar.muli v75 c128_i32_3521
  v4359
@[reducible] def k0_t2_loop : Scf.Loop 32 :=
  let c0_i32_98 : BitVec 32 := 0#32
  let c7_i32 : BitVec 32 := 7#32
  let v182 : BitVec 32 := Scalar.addi c0_i32_98 c7_i32
  let c1_i32_99 : BitVec 32 := 1#32
  ⟨c0_i32_98, v182, c1_i32_99⟩
def k0_off4 (k0_t2 : Fin k0_t2_loop.trips) (c0_i32_1180 : BitVec 32) : Fin 4 → Nat :=
  let c0_1182 : Index := 0#32
  let c4_i32 : BitVec 32 := 4#32
  let c0_i32_98 : BitVec 32 := 0#32
  let c1_i32_99 : BitVec 32 := 1#32
  let arg13 : BitVec 32 := Scf.iv c0_i32_98 c1_i32_99 k0_t2
  let v1681 : BitVec 32 := Scalar.muli c4_i32 arg13
  let v1682 : BitVec 32 := Scalar.addi v1681 c0_i32_1180
  let c1_i32_1181 : BitVec 32 := 1#32
  let v1683 : BitVec 32 := Scalar.addi v1682 c1_i32_1181
  let v1684 : Index := Scalar.indexCast v1683
  let c0_1183 : Index := 0#32
  let c0_1184 : Index := 0#32
  ![0, v1684.toNat, 0, 0]
def k0_mult17 (k0_t2 : Fin k0_t2_loop.trips) : BitVec 32 :=
  let c4_i32 : BitVec 32 := 4#32
  let c0_i32_98 : BitVec 32 := 0#32
  let c1_i32_99 : BitVec 32 := 1#32
  let arg13 : BitVec 32 := Scf.iv c0_i32_98 c1_i32_99 k0_t2
  let v1681 : BitVec 32 := Scalar.muli c4_i32 arg13
  let c0_i32_1180 : BitVec 32 := 0#32
  let v1682 : BitVec 32 := Scalar.addi v1681 c0_i32_1180
  let c128_i32 : BitVec 32 := 128#32
  let v2092 : BitVec 32 := Scalar.muli v1682 c128_i32
  v2092
def k0_off5 (k0_t2 : Fin k0_t2_loop.trips) (c0_i32_1180 : BitVec 32) : Fin 2 → Nat :=
  let c4_i32 : BitVec 32 := 4#32
  let c0_i32_98 : BitVec 32 := 0#32
  let c1_i32_99 : BitVec 32 := 1#32
  let arg13 : BitVec 32 := Scf.iv c0_i32_98 c1_i32_99 k0_t2
  let v1681 : BitVec 32 := Scalar.muli c4_i32 arg13
  let v1682 : BitVec 32 := Scalar.addi v1681 c0_i32_1180
  let c128_i32 : BitVec 32 := 128#32
  let v2092 : BitVec 32 := Scalar.muli v1682 c128_i32
  let v2093 : BitVec 32 := v2092
  let v2095 : Index := Scalar.indexCast v2093
  let c0_1482 : Index := 0#32
  ![v2095.toNat, 0]
def k0_mult18 (k0_t2 : Fin k0_t2_loop.trips) : BitVec 32 :=
  let c4_i32_1483 : BitVec 32 := 4#32
  let c0_i32_98 : BitVec 32 := 0#32
  let c1_i32_99 : BitVec 32 := 1#32
  let arg13 : BitVec 32 := Scf.iv c0_i32_98 c1_i32_99 k0_t2
  let v2097 : BitVec 32 := Scalar.muli c4_i32_1483 arg13
  let c1_i32_1484 : BitVec 32 := 1#32
  let v2098 : BitVec 32 := Scalar.addi v2097 c1_i32_1484
  let c128_i32_1786 : BitVec 32 := 128#32
  let v2508 : BitVec 32 := Scalar.muli v2098 c128_i32_1786
  v2508
def k0_mult19 (k0_t2 : Fin k0_t2_loop.trips) : BitVec 32 :=
  let c4_i32_1788 : BitVec 32 := 4#32
  let c0_i32_98 : BitVec 32 := 0#32
  let c1_i32_99 : BitVec 32 := 1#32
  let arg13 : BitVec 32 := Scf.iv c0_i32_98 c1_i32_99 k0_t2
  let v2513 : BitVec 32 := Scalar.muli c4_i32_1788 arg13
  let c2_i32 : BitVec 32 := 2#32
  let v2514 : BitVec 32 := Scalar.addi v2513 c2_i32
  let c128_i32_2090 : BitVec 32 := 128#32
  let v2924 : BitVec 32 := Scalar.muli v2514 c128_i32_2090
  v2924
def k0_mult20 (k0_t2 : Fin k0_t2_loop.trips) : BitVec 32 :=
  let c4_i32_2092 : BitVec 32 := 4#32
  let c0_i32_98 : BitVec 32 := 0#32
  let c1_i32_99 : BitVec 32 := 1#32
  let arg13 : BitVec 32 := Scf.iv c0_i32_98 c1_i32_99 k0_t2
  let v2929 : BitVec 32 := Scalar.muli c4_i32_2092 arg13
  let c3_i32 : BitVec 32 := 3#32
  let v2930 : BitVec 32 := Scalar.addi v2929 c3_i32
  let c128_i32_2394 : BitVec 32 := 128#32
  let v3340 : BitVec 32 := Scalar.muli v2930 c128_i32_2394
  v3340
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x4 : Shape := ⟨2, ![16, 4]⟩
abbrev S16x32x512x128 : Shape := ⟨4, ![16, 32, 512, 128]⟩
abbrev S65536x512 : Shape := ⟨2, ![65536, 512]⟩
abbrev S4x64 : Shape := ⟨2, ![4, 64]⟩
abbrev S8x128 : Shape := ⟨2, ![8, 128]⟩
abbrev S16x32x4x2x2x32x128 : Shape := ⟨7, ![16, 32, 4, 2, 2, 32, 128]⟩
abbrev S16x32x128x4x2x2x32 : Shape := ⟨7, ![16, 32, 128, 4, 2, 2, 32]⟩
abbrev S16x4096x4x2x64 : Shape := ⟨5, ![16, 4096, 4, 2, 64]⟩
abbrev S16x4096x4x2x2x32 : Shape := ⟨6, ![16, 4096, 4, 2, 2, 32]⟩
abbrev S16x32x128x512 : Shape := ⟨4, ![16, 32, 128, 512]⟩
abbrev S16x4096x4x128 : Shape := ⟨4, ![16, 4096, 4, 128]⟩
abbrev S1x64 : Shape := ⟨2, ![1, 64]⟩
abbrev S64 : Shape := ⟨1, ![64]⟩
abbrev S_ : Shape := ⟨0, ![]⟩
abbrev S1x1 : Shape := ⟨2, ![1, 1]⟩
abbrev S16x4x2x4096x4096 : Shape := ⟨5, ![16, 4, 2, 4096, 4096]⟩
abbrev S16x4x2x4096 : Shape := ⟨4, ![16, 4, 2, 4096]⟩
abbrev S16x4x2x4096x1 : Shape := ⟨5, ![16, 4, 2, 4096, 1]⟩
abbrev S16x4x1x4096x4096 : Shape := ⟨5, ![16, 4, 1, 4096, 4096]⟩
abbrev S16x4x4096x4096 : Shape := ⟨4, ![16, 4, 4096, 4096]⟩
abbrev S16x4x128x4096 : Shape := ⟨4, ![16, 4, 128, 4096]⟩
abbrev S16x4096x4 : Shape := ⟨3, ![16, 4096, 4]⟩
abbrev S16x4096x4x1 : Shape := ⟨4, ![16, 4096, 4, 1]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 90
  | .vmem => 0
  | .smem => 0
  | _ => 0

abbrev bufTy : (tb : Table) → Fin (tcTables nBuf tb) → BufTy
  | .hbm, ⟨0, _⟩ => ⟨S16x4, .f32⟩
  | .hbm, ⟨1, _⟩ => ⟨S16x32x512x128, .bf16⟩
  | .hbm, ⟨2, _⟩ => ⟨S65536x512, .bf16⟩
  | .hbm, ⟨3, _⟩ => ⟨S16x32x512x128, .bf16⟩
  | .hbm, ⟨4, _⟩ => ⟨S4x64, .f32⟩
  | .hbm, ⟨5, _⟩ => ⟨S8x128, .f32⟩
  | .hbm, ⟨6, _⟩ => ⟨S16x32x512x128, .f32⟩
  | .hbm, ⟨7, _⟩ => ⟨S16x32x4x2x2x32x128, .f32⟩
  | .hbm, ⟨8, _⟩ => ⟨S16x32x128x4x2x2x32, .f32⟩
  | .hbm, ⟨9, _⟩ => ⟨S16x4096x4x2x64, .f32⟩
  | .hbm, ⟨10, _⟩ => ⟨S65536x512, .f32⟩
  | .hbm, ⟨11, _⟩ => ⟨S16x4096x4x2x2x32, .f32⟩
  | .hbm, ⟨12, _⟩ => ⟨S16x4096x4x2x2x32, .f32⟩
  | .hbm, ⟨13, _⟩ => ⟨S16x4096x4x2x64, .f32⟩
  | .hbm, ⟨14, _⟩ => ⟨S16x32x512x128, .f32⟩
  | .hbm, ⟨15, _⟩ => ⟨S16x32x128x512, .f32⟩
  | .hbm, ⟨16, _⟩ => ⟨S16x4096x4x128, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S16x4x2x4096x4096, .f32⟩
  | .hbm, ⟨38, _⟩ => ⟨S_, .f32⟩
  | .hbm, ⟨39, _⟩ => ⟨S_, .f32⟩
  | .hbm, ⟨40, _⟩ => ⟨S16x4x2x4096x4096, .f32⟩
  | .hbm, ⟨41, _⟩ => ⟨S16x4x2x4096x4096, .f32⟩
  | .hbm, ⟨42, _⟩ => ⟨S_, .f32⟩
  | .hbm, ⟨43, _⟩ => ⟨S16x4x2x4096, .f32⟩
  | .hbm, ⟨44, _⟩ => ⟨S_, .f32⟩
  | .hbm, ⟨45, _⟩ => ⟨S16x4x2x4096, .f32⟩
  | .hbm, ⟨46, _⟩ => ⟨S16x4x2x4096, .f32⟩
  | .hbm, ⟨47, _⟩ => ⟨S16x4x2x4096x1, .f32⟩
  | .hbm, ⟨48, _⟩ => ⟨S16x4x2x4096x4096, .f32⟩
  | .hbm, ⟨49, _⟩ => ⟨S16x4x2x4096x4096, .f32⟩
  | .hbm, ⟨50, _⟩ => ⟨S16x4x2x4096x4096, .f32⟩
  | .hbm, ⟨51, _⟩ => ⟨S_, .f32⟩
  | .hbm, ⟨52, _⟩ => ⟨S16x4x2x4096, .f32⟩
  | .hbm, ⟨53, _⟩ => ⟨S16x4x2x4096x1, .f32⟩
  | .hbm, ⟨54, _⟩ => ⟨S16x4x2x4096x4096, .f32⟩
  | .hbm, ⟨55, _⟩ => ⟨S16x4x2x4096x4096, .f32⟩
  | .hbm, ⟨56, _⟩ => ⟨S16x4x1x4096x4096, .f32⟩
  | .hbm, ⟨57, _⟩ => ⟨S16x4x4096x4096, .f32⟩
  | .hbm, ⟨58, _⟩ => ⟨S16x4x1x4096x4096, .f32⟩
  | .hbm, ⟨59, _⟩ => ⟨S16x4x4096x4096, .f32⟩
  | .hbm, ⟨60, _⟩ => ⟨S16x4x4096x4096, .f32⟩
  | .hbm, ⟨61, _⟩ => ⟨S16x4x4096x4096, .f32⟩
  | .hbm, ⟨62, _⟩ => ⟨S16x4x4096x4096, .f32⟩
  | .hbm, ⟨63, _⟩ => ⟨S16x4x128x4096, .f32⟩
  | .hbm, ⟨64, _⟩ => ⟨S16x4096x4x128, .f32⟩
  | .hbm, ⟨65, _⟩ => ⟨S16x4096x4x128, .f32⟩
  | .hbm, ⟨66, _⟩ => ⟨S_, .f32⟩
  | .hbm, ⟨67, _⟩ => ⟨S16x4096x4, .f32⟩
  | .hbm, ⟨68, _⟩ => ⟨S16x4096x4x1, .f32⟩
  | .hbm, ⟨69, _⟩ => ⟨S_, .f32⟩
  | .hbm, ⟨70, _⟩ => ⟨S16x4096x4x1, .f32⟩
  | .hbm, ⟨71, _⟩ => ⟨S16x4096x4x1, .f32⟩
  | .hbm, ⟨72, _⟩ => ⟨S_, .f32⟩
  | .hbm, ⟨73, _⟩ => ⟨S16x4096x4x1, .f32⟩
  | .hbm, ⟨74, _⟩ => ⟨S16x4096x4x1, .f32⟩
  | .hbm, ⟨75, _⟩ => ⟨S16x4096x4x1, .f32⟩
  | .hbm, ⟨76, _⟩ => ⟨S16x4096x4x128, .f32⟩
  | .hbm, ⟨77, _⟩ => ⟨S16x4096x4x128, .f32⟩
  | .hbm, ⟨78, _⟩ => ⟨S1x128, .f32⟩
  | .hbm, ⟨79, _⟩ => ⟨S128, .f32⟩
  | .hbm, ⟨80, _⟩ => ⟨S1x1x1x128, .f32⟩
  | .hbm, ⟨81, _⟩ => ⟨S16x4096x4x128, .f32⟩
  | .hbm, ⟨82, _⟩ => ⟨S16x4096x4x128, .f32⟩
  | .hbm, ⟨83, _⟩ => ⟨S1x128, .f32⟩
  | .hbm, ⟨84, _⟩ => ⟨S128, .f32⟩
  | .hbm, ⟨85, _⟩ => ⟨S1x1x1x128, .f32⟩
  | .hbm, ⟨86, _⟩ => ⟨S16x4096x4x128, .f32⟩
  | .hbm, ⟨87, _⟩ => ⟨S16x4096x4x128, .f32⟩
  | .hbm, ⟨88, _⟩ => ⟨S65536x512, .f32⟩
  | .hbm, ⟨89, _⟩ => ⟨S65536x512, .bf16⟩
  | _, _ => ⟨S16x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_5 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]
-- ==== Ffn.lean ====
abbrev S65536x1024 : Shape := ⟨2, ![65536, 1024]⟩
abbrev S4x1024x5632 : Shape := ⟨3, ![4, 1024, 5632]⟩
abbrev S4x2816x1024 : Shape := ⟨3, ![4, 2816, 1024]⟩
abbrev S4x3x1024 : Shape := ⟨3, ![4, 3, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1x1024x256 : Shape := ⟨3, ![1, 1024, 256]⟩
abbrev S1024x256 : Shape := ⟨2, ![1024, 256]⟩
abbrev S256x2816 : Shape := ⟨2, ![256, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S4x1024x5632, .f32⟩
  | .hbm, ⟨2, _⟩ => ⟨S4x2816x1024, .f32⟩
  | .hbm, ⟨3, _⟩ => ⟨S4x3x1024, .f32⟩
  | .hbm, ⟨4, _⟩ => ⟨S4x3x1024, .f32⟩
  | .hbm, ⟨5, _⟩ => ⟨S4x1024x5632, .bf16⟩
  | .hbm, ⟨6, _⟩ => ⟨S4x2816x1024, .bf16⟩
  | .hbm, ⟨7, _⟩ => ⟨S1x1x1024, .f32⟩
  | .hbm, ⟨8, _⟩ => ⟨S1024, .f32⟩
  | .hbm, ⟨9, _⟩ => ⟨S1x1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x5632, .bf16⟩
  | .local _ .vmem, ⟨3, _⟩ => ⟨S1x2816x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S65536x1024 : Shape := ⟨2, ![65536, 1024]⟩
abbrev S4x1024x5632 : Shape := ⟨3, ![4, 1024, 5632]⟩
abbrev S4x2816x1024 : Shape := ⟨3, ![4, 2816, 1024]⟩
abbrev S4x3x1024 : Shape := ⟨3, ![4, 3, 1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S65536x5632 : Shape := ⟨2, ![65536, 5632]⟩
abbrev S65536x2816 : Shape := ⟨2, ![65536, 2816]⟩
abbrev S1x1x1024 : Shape := ⟨3, ![1, 1, 1024]⟩
abbrev S1024 : Shape := ⟨1, ![1024]⟩
abbrev S65536 : Shape := ⟨1, ![65536]⟩
abbrev S65536x1 : Shape := ⟨2, ![65536, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S4x1024x5632, .f32⟩
  | .hbm, ⟨2, _⟩ => ⟨S4x2816x1024, .f32⟩
  | .hbm, ⟨3, _⟩ => ⟨S4x3x1024, .f32⟩
  | .hbm, ⟨4, _⟩ => ⟨S4x3x1024, .f32⟩
  | .hbm, ⟨5, _⟩ => ⟨S_, .f32⟩
  | .hbm, ⟨6, _⟩ => ⟨S65536x1024, .f32⟩
  | .hbm, ⟨7, _⟩ => ⟨S65536x1024, .f32⟩
  | .hbm, ⟨8, _⟩ => ⟨S1x1024x5632, .f32⟩
  | .hbm, ⟨9, _⟩ => ⟨S1024x5632, .f32⟩
  | .hbm, ⟨10, _⟩ => ⟨S1x2816x1024, .f32⟩
  | .hbm, ⟨11, _⟩ => ⟨S2816x1024, .f32⟩
  | .hbm, ⟨12, _⟩ => ⟨S65536x5632, .f32⟩
  | .hbm, ⟨13, _⟩ => ⟨S65536x2816, .f32⟩
  | .hbm, ⟨14, _⟩ => ⟨S65536x2816, .f32⟩
  | .hbm, ⟨15, _⟩ => ⟨S65536x2816, .f32⟩
  | .hbm, ⟨16, _⟩ => ⟨S65536x2816, .f32⟩
  | .hbm, ⟨17, _⟩ => ⟨S_, .f32⟩
  | .hbm, ⟨18, _⟩ => ⟨S65536x2816, .f32⟩
  | .hbm, ⟨19, _⟩ => ⟨S65536x2816, .f32⟩
  | .hbm, ⟨20, _⟩ => ⟨S_, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x1024, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S1x1x1024, .f32⟩
  | .hbm, ⟨31, _⟩ => ⟨S1024, .f32⟩
  | .hbm, ⟨32, _⟩ => ⟨S1x1x1024, .f32⟩
  | .hbm, ⟨33, _⟩ => ⟨S1024, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S65536x1024, .f32⟩
  | .hbm, ⟨56, _⟩ => ⟨S65536x1024, .f32⟩
  | .hbm, ⟨57, _⟩ => ⟨S1x1024, .f32⟩
  | .hbm, ⟨58, _⟩ => ⟨S65536x1024, .f32⟩
  | .hbm, ⟨59, _⟩ => ⟨S65536x1024, .f32⟩
  | .hbm, ⟨60, _⟩ => ⟨S1x1024, .f32⟩
  | .hbm, ⟨61, _⟩ => ⟨S65536x1024, .f32⟩
  | .hbm, ⟨62, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Mix.lean ====
abbrev S65536x1024 : Shape := ⟨2, ![65536, 1024]⟩
abbrev S65536x512 : Shape := ⟨2, ![65536, 512]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x3x1024 : Shape := ⟨3, ![4, 3, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1024x512 : Shape := ⟨2, ![1024, 512]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S256x2816 : Shape := ⟨2, ![256, 2816]⟩
abbrev S2816x1024 : Shape := ⟨2, ![2816, 1024]⟩

abbrev nBuf : Space → Nat
  | .hbm => 24
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S4x1024x1024, .f32⟩
  | .hbm, ⟨4, _⟩ => ⟨S4x1024x5632, .f32⟩
  | .hbm, ⟨5, _⟩ => ⟨S4x2816x1024, .f32⟩
  | .hbm, ⟨6, _⟩ => ⟨S4x3x1024, .f32⟩
  | .hbm, ⟨7, _⟩ => ⟨S4x3x1024, .f32⟩
  | .hbm, ⟨8, _⟩ => ⟨S4x1024x1024, .bf16⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S4x1024x5632, .bf16⟩
  | .hbm, ⟨16, _⟩ => ⟨S4x2816x1024, .bf16⟩
  | .hbm, ⟨17, _⟩ => ⟨S1x1x1024, .f32⟩
  | .hbm, ⟨18, _⟩ => ⟨S1024, .f32⟩
  | .hbm, ⟨19, _⟩ => ⟨S1x1024, .f32⟩
  | .hbm, ⟨20, _⟩ => ⟨S1x1x1024, .f32⟩
  | .hbm, ⟨21, _⟩ => ⟨S1024, .f32⟩
  | .hbm, ⟨22, _⟩ => ⟨S1x1024, .f32⟩
  | .hbm, ⟨23, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x5632, .bf16⟩
  | .local _ .vmem, ⟨10, _⟩ => ⟨S1x2816x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S65536x1024 : Shape := ⟨2, ![65536, 1024]⟩
abbrev S65536x512 : Shape := ⟨2, ![65536, 512]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x3x1024 : Shape := ⟨3, ![4, 3, 1024]⟩
abbrev S_ : Shape := ⟨0, ![]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S65536 : Shape := ⟨1, ![65536]⟩
abbrev S65536x1 : Shape := ⟨2, ![65536, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S65536x5632 : Shape := ⟨2, ![65536, 5632]⟩
abbrev S65536x2816 : Shape := ⟨2, ![65536, 2816]⟩

abbrev nBuf : Space → Nat
  | .hbm => 109
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S4x1024x1024, .f32⟩
  | .hbm, ⟨4, _⟩ => ⟨S4x1024x5632, .f32⟩
  | .hbm, ⟨5, _⟩ => ⟨S4x2816x1024, .f32⟩
  | .hbm, ⟨6, _⟩ => ⟨S4x3x1024, .f32⟩
  | .hbm, ⟨7, _⟩ => ⟨S4x3x1024, .f32⟩
  | .hbm, ⟨8, _⟩ => ⟨S65536x512, .f32⟩
  | .hbm, ⟨9, _⟩ => ⟨S65536x512, .f32⟩
  | .hbm, ⟨10, _⟩ => ⟨S65536x1024, .f32⟩
  | .hbm, ⟨11, _⟩ => ⟨S_, .f32⟩
  | .hbm, ⟨12, _⟩ => ⟨S65536x1024, .f32⟩
  | .hbm, ⟨13, _⟩ => ⟨S65536x1024, .f32⟩
  | .hbm, ⟨14, _⟩ => ⟨S1x1024x1024, .f32⟩
  | .hbm, ⟨15, _⟩ => ⟨S1024x1024, .f32⟩
  | .hbm, ⟨16, _⟩ => ⟨S65536x1024, .f32⟩
  | .hbm, ⟨17, _⟩ => ⟨S65536x1024, .f32⟩
  | .hbm, ⟨18, _⟩ => ⟨S1x1x1024, .f32⟩
  | .hbm, ⟨19, _⟩ => ⟨S1024, .f32⟩
  | .hbm, ⟨20, _⟩ => ⟨S1x1x1024, .f32⟩
  | .hbm, ⟨21, _⟩ => ⟨S1024, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1, .f32⟩
  | .hbm, ⟨43, _⟩ => ⟨S65536x1024, .f32⟩
  | .hbm, ⟨44, _⟩ => ⟨S65536x1024, .f32⟩
  | .hbm, ⟨45, _⟩ => ⟨S1x1024, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S1x1024x5632, .f32⟩
  | .hbm, ⟨55, _⟩ => ⟨S1024x5632, .f32⟩
  | .hbm, ⟨56, _⟩ => ⟨S1x2816x1024, .f32⟩
  | .hbm, ⟨57, _⟩ => ⟨S2816x1024, .f32⟩
  | .hbm, ⟨58, _⟩ => ⟨S65536x5632, .f32⟩
  | .hbm, ⟨59, _⟩ => ⟨S65536x2816, .f32⟩
  | .hbm, ⟨60, _⟩ => ⟨S65536x2816, .f32⟩
  | .hbm, ⟨61, _⟩ => ⟨S65536x2816, .f32⟩
  | .hbm, ⟨62, _⟩ => ⟨S65536x2816, .f32⟩
  | .hbm, ⟨63, _⟩ => ⟨S_, .f32⟩
  | .hbm, ⟨64, _⟩ => ⟨S65536x2816, .f32⟩
  | .hbm, ⟨65, _⟩ => ⟨S65536x2816, .f32⟩
  | .hbm, ⟨66, _⟩ => ⟨S_, .f32⟩
  | .hbm, ⟨67, _⟩ => ⟨S65536x2816, .f32⟩
  | .hbm, ⟨68, _⟩ => ⟨S65536x2816, .f32⟩
  | .hbm, ⟨69, _⟩ => ⟨S65536x2816, .f32⟩
  | .hbm, ⟨70, _⟩ => ⟨S65536x2816, .f32⟩
  | .hbm, ⟨71, _⟩ => ⟨S65536x1024, .f32⟩
  | .hbm, ⟨72, _⟩ => ⟨S_, .f32⟩
  | .hbm, ⟨73, _⟩ => ⟨S65536x1024, .f32⟩
  | .hbm, ⟨74, _⟩ => ⟨S65536x1024, .f32⟩
  | .hbm, ⟨75, _⟩ => ⟨S65536x1024, .f32⟩
  | .hbm, ⟨76, _⟩ => ⟨S1x1x1024, .f32⟩
  | .hbm, ⟨77, _⟩ => ⟨S1024, .f32⟩
  | .hbm, ⟨78, _⟩ => ⟨S1x1x1024, .f32⟩
  | .hbm, ⟨79, _⟩ => ⟨S1024, .f32⟩
  | .hbm, ⟨80, _⟩ => ⟨S_, .f32⟩
  | .hbm, ⟨81, _⟩ => ⟨S65536, .f32⟩
  | .hbm, ⟨82, _⟩ => ⟨S65536x1, .f32⟩
  | .hbm, ⟨83, _⟩ => ⟨S_, .f32⟩
  | .hbm, ⟨84, _⟩ => ⟨S65536x1, .f32⟩
  | .hbm, ⟨85, _⟩ => ⟨S65536x1, .f32⟩
  | .hbm, ⟨86, _⟩ => ⟨S65536x1024, .f32⟩
  | .hbm, ⟨87, _⟩ => ⟨S65536x1024, .f32⟩
  | .hbm, ⟨88, _⟩ => ⟨S65536x1024, .f32⟩
  | .hbm, ⟨89, _⟩ => ⟨S_, .f32⟩
  | .hbm, ⟨90, _⟩ => ⟨S65536, .f32⟩
  | .hbm, ⟨91, _⟩ => ⟨S65536x1, .f32⟩
  | .hbm, ⟨92, _⟩ => ⟨S_, .f32⟩
  | .hbm, ⟨93, _⟩ => ⟨S65536x1, .f32⟩
  | .hbm, ⟨94, _⟩ => ⟨S65536x1, .f32⟩
  | .hbm, ⟨95, _⟩ => ⟨S65536x1024, .f32⟩
  | .hbm, ⟨96, _⟩ => ⟨S65536x1024, .f32⟩
  | .hbm, ⟨97, _⟩ => ⟨S_, .f32⟩
  | .hbm, ⟨98, _⟩ => ⟨S65536x1, .f32⟩
  | .hbm, ⟨99, _⟩ => ⟨S65536x1, .f32⟩
  | .hbm, ⟨100, _⟩ => ⟨S65536x1, .f32⟩
  | .hbm, ⟨101, _⟩ => ⟨S65536x1024, .f32⟩
  | .hbm, ⟨102, _⟩ => ⟨S65536x1024, .f32⟩
  | .hbm, ⟨103, _⟩ => ⟨S1x1024, .f32⟩
  | .hbm, ⟨104, _⟩ => ⟨S65536x1024, .f32⟩
  | .hbm, ⟨105, _⟩ => ⟨S65536x1024, .f32⟩
  | .hbm, ⟨106, _⟩ => ⟨S1x1024, .f32⟩
  | .hbm, ⟨107, _⟩ => ⟨S65536x1024, .f32⟩
  | .hbm, ⟨108, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_7 : Ref sig .tc := ⟨.hbm, 80, rfl⟩
abbrev main_v56 : Ref sig .tc := ⟨.hbm, 81, rfl⟩
abbrev main_v57 : Ref sig .tc := ⟨.hbm, 82, rfl⟩
abbrev main_cst_8 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_cst_10 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_11 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]
-- ==== Proj.lean ====
abbrev S65536x1024 : Shape := ⟨2, ![65536, 1024]⟩
abbrev S4x1024x2304 : Shape := ⟨3, ![4, 1024, 2304]⟩
abbrev S65536x32 : Shape := ⟨2, ![65536, 32]⟩
abbrev S5 : Shape := ⟨1, ![5]⟩
abbrev S1x65536x1x32 : Shape := ⟨4, ![1, 65536, 1, 32]⟩
abbrev S1x65536x4x32 : Shape := ⟨4, ![1, 65536, 4, 32]⟩
abbrev S65536x128 : Shape := ⟨2, ![65536, 128]⟩
abbrev S4x1024x512 : Shape := ⟨3, ![4, 1024, 512]⟩
abbrev S4x1024x128 : Shape := ⟨3, ![4, 1024, 128]⟩
abbrev S4x1024x2x4x2x32 : Shape := ⟨6, ![4, 1024, 2, 4, 2, 32]⟩
abbrev S4x1024x4x2x2x32 : Shape := ⟨6, ![4, 1024, 4, 2, 2, 32]⟩
abbrev S4x1024x2x2x32 : Shape := ⟨5, ![4, 1024, 2, 2, 32]⟩
abbrev S5x128 : Shape := ⟨2, ![5, 128]⟩
abbrev S640 : Shape := ⟨1, ![640]⟩
abbrev S640x1 : Shape := ⟨2, ![640, 1]⟩
abbrev S128 : Shape := ⟨1, ![128]⟩
abbrev S1x128 : Shape := ⟨2, ![1, 128]⟩
abbrev S640x128 : Shape := ⟨2, ![640, 128]⟩
abbrev S16x32x512x128 : Shape := ⟨4, ![16, 32, 512, 128]⟩
abbrev S65536x512 : Shape := ⟨2, ![65536, 512]⟩
abbrev S16x32x128x128 : Shape := ⟨4, ![16, 32, 128, 128]⟩
abbrev S64x8x128 : Shape := ⟨3, ![64, 8, 128]⟩
abbrev S1024x1024 : Shape := ⟨2, ![1024, 1024]⟩
abbrev S1x1024x2304 : Shape := ⟨3, ![1, 1024, 2304]⟩
abbrev S1024x128 : Shape := ⟨2, ![1024, 128]⟩
abbrev S1x8x512x128 : Shape := ⟨4, ![1, 8, 512, 128]⟩
abbrev S1024x512 : Shape := ⟨2, ![1024, 512]⟩
abbrev S1x8x128x128 : Shape := ⟨4, ![1, 8, 128, 128]⟩
abbrev S1x8x128 : Shape := ⟨3, ![1, 8, 128]⟩
abbrev S1x1024x256 : Shape := ⟨3, ![1, 1024, 256]⟩
abbrev S1024x256 : Shape := ⟨2, ![1024, 256]⟩
abbrev S128x128 : Shape := ⟨2, ![128, 128]⟩
abbrev S1x1x128x128 : Shape := ⟨4, ![1, 1, 128, 128]⟩
abbrev S1 : Shape := ⟨1, ![1]⟩
abbrev S1x1 : Shape := ⟨2, ![1, 1]⟩
abbrev S1024x640 : Shape := ⟨2, ![1024, 640]⟩
abbrev S8x128 : Shape := ⟨2, ![8, 128]⟩

abbrev nBuf : Space → Nat
  | .hbm => 47
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S4x1024x2304, .f32⟩
  | .hbm, ⟨2, _⟩ => ⟨S65536x32, .f32⟩
  | .hbm, ⟨3, _⟩ => ⟨S65536x32, .f32⟩
  | .hbm, ⟨4, _⟩ => ⟨S5, .i32⟩
  | .hbm, ⟨5, _⟩ => ⟨S1x65536x1x32, .f32⟩
  | .hbm, ⟨6, _⟩ => ⟨S1x65536x4x32, .f32⟩
  | .hbm, ⟨7, _⟩ => ⟨S65536x128, .f32⟩
  | .hbm, ⟨8, _⟩ => ⟨S65536x32, .f32⟩
  | .hbm, ⟨9, _⟩ => ⟨S65536x32, .f32⟩
  | .hbm, ⟨10, _⟩ => ⟨S65536x128, .f32⟩
  | .hbm, ⟨11, _⟩ => ⟨S4x1024x512, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S4x1024x128, .f32⟩
  | .hbm, ⟨16, _⟩ => ⟨S4x1024x128, .f32⟩
  | .hbm, ⟨17, _⟩ => ⟨S4x1024x2x4x2x32, .f32⟩
  | .hbm, ⟨18, _⟩ => ⟨S4x1024x4x2x2x32, .f32⟩
  | .hbm, ⟨19, _⟩ => ⟨S4x1024x2x2x32, .f32⟩
  | .hbm, ⟨20, _⟩ => ⟨S4x1024x2x2x32, .f32⟩
  | .hbm, ⟨21, _⟩ => ⟨S4x1024x4x2x2x32, .f32⟩
  | .hbm, ⟨22, _⟩ => ⟨S4x1024x4x2x2x32, .f32⟩
  | .hbm, ⟨23, _⟩ => ⟨S4x1024x512, .f32⟩
  | .hbm, ⟨24, _⟩ => ⟨S4x1024x4x2x2x32, .f32⟩
  | .hbm, ⟨25, _⟩ => ⟨S4x1024x4x2x2x32, .f32⟩
  | .hbm, ⟨26, _⟩ => ⟨S4x1024x512, .f32⟩
  | .hbm, ⟨27, _⟩ => ⟨S4x1024x512, .f32⟩
  | .hbm, ⟨28, _⟩ => ⟨S4x1024x128, .f32⟩
  | .hbm, ⟨29, _⟩ => ⟨S4x1024x2304, .f32⟩
  | .hbm, ⟨30, _⟩ => ⟨S4x1024x2304, .bf16⟩
  | .hbm, ⟨31, _⟩ => ⟨S5x128, .i32⟩
  | .hbm, ⟨32, _⟩ => ⟨S640, .i32⟩
  | .hbm, ⟨33, _⟩ => ⟨S640x1, .i32⟩
  | .hbm, ⟨34, _⟩ => ⟨S128, .i32⟩
  | .hbm, ⟨35, _⟩ => ⟨S1x128, .i32⟩
  | .hbm, ⟨36, _⟩ => ⟨S640x128, .i32⟩
  | .hbm, ⟨37, _⟩ => ⟨S640x128, .i32⟩
  | .hbm, ⟨38, _⟩ => ⟨S640x128, .i1⟩
  | .hbm, ⟨39, _⟩ => ⟨S640x128, .bf16⟩
  | .hbm, ⟨40, _⟩ => ⟨S16x32x512x128, .bf16⟩
  | .hbm, ⟨41, _⟩ => ⟨S65536x512, .bf16⟩
  | .hbm, ⟨42, _⟩ => ⟨S16x32x512x128, .bf16⟩
  | .hbm, ⟨43, _⟩ => ⟨S16x32x512x128, .bf16⟩
  | .hbm, ⟨44, _⟩ => ⟨S65536x128, .bf16⟩
  | .hbm, ⟨45, _⟩ => ⟨S16x32x128x128, .bf16⟩
  | .hbm, ⟨46, _⟩ => ⟨S64x8x128, .f32⟩
  | .local _ .vmem, ⟨0, _⟩ => ⟨S1024x1024, .f32⟩
  | .local _ .vmem, ⟨1, _⟩ => ⟨S1024x1024, .f32⟩
  | .local _ .vmem, ⟨2, _⟩ => ⟨S1x1024x2304, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S640x128, .bf16⟩
  | .local _ .vmem, ⟨8, _⟩ => ⟨S1x8x512x128, .bf16⟩
  | .local _ .vmem, ⟨9, _⟩ => ⟨S1x8x512x128, .bf16⟩
  | .local _ .vmem, ⟨10, _⟩ => ⟨S1024x512, .bf16⟩
  | .local _ .vmem, ⟨11, _⟩ => ⟨S1024x512, .bf16⟩
  | .local _ .vmem, ⟨12, _⟩ => ⟨S1x8x512x128, .bf16⟩
  | .local _ .vmem, ⟨13, _⟩ => ⟨S1x8x512x128, .bf16⟩
  | .local _ .vmem, ⟨14, _⟩ => ⟨S1x8x512x128, .bf16⟩
  | .local _ .vmem, ⟨15, _⟩ => ⟨S1x8x512x128, .bf16⟩
  | .local _ .vmem, ⟨16, _⟩ => ⟨S1024x128, .bf16⟩
  | .local _ .vmem, ⟨17, _⟩ => ⟨S1024x128, .bf16⟩
  | .local _ .vmem, ⟨18, _⟩ => ⟨S1x8x128x128, .bf16⟩
  | .local _ .vmem, ⟨19, _⟩ => ⟨S1x8x128x128, .bf16⟩
  | .local _ .vmem, ⟨20, _⟩ => ⟨S1x8x128, .f32⟩
  | .local _ .vmem, ⟨21, _⟩ => ⟨S1x8x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35_0 : Ref sig .tc := ⟨.hbm, 40, rfl⟩
abbrev main_v35_1 : Ref sig .tc := ⟨.hbm, 41, rfl⟩
abbrev main_v35_2 : Ref sig .tc := ⟨.hbm, 42, rfl⟩
abbrev main_v35_3 : Ref sig .tc := ⟨.hbm, 43, rfl⟩
abbrev main_v35_4 : Ref sig .tc := ⟨.hbm, 44, rfl⟩
abbrev main_v35_5 : Ref sig .tc := ⟨.hbm, 45, rfl⟩
abbrev main_v35_6 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S640x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S65536x1024 : Shape := ⟨2, ![65536, 1024]⟩
abbrev S4x1024x2304 : Shape := ⟨3, ![4, 1024, 2304]⟩
abbrev S65536x32 : Shape := ⟨2, ![65536, 32]⟩
abbrev S1x1024x2304 : Shape := ⟨3, ![1, 1024, 2304]⟩
abbrev S1024x2304 : Shape := ⟨2, ![1024, 2304]⟩
abbrev S65536x2304 : Shape := ⟨2, ![65536, 2304]⟩
abbrev S65536x512 : Shape := ⟨2, ![65536, 512]⟩
abbrev S65536x8x64 : Shape := ⟨3, ![65536, 8, 64]⟩
abbrev S65536x64 : Shape := ⟨2, ![65536, 64]⟩
abbrev S65536x1x64 : Shape := ⟨3, ![65536, 1, 64]⟩
abbrev S65536x8x32 : Shape := ⟨3, ![65536, 8, 32]⟩
abbrev S_ : Shape := ⟨0, ![]⟩
abbrev S65536x128 : Shape := ⟨2, ![65536, 128]⟩
abbrev S65536x2x64 : Shape := ⟨3, ![65536, 2, 64]⟩
abbrev S65536x2x32 : Shape := ⟨3, ![65536, 2, 32]⟩
abbrev S65536x2x4x2x32 : Shape := ⟨5, ![65536, 2, 4, 2, 32]⟩
abbrev S65536x4x2x2x32 : Shape := ⟨5, ![65536, 4, 2, 2, 32]⟩
abbrev S65536x2x2x32 : Shape := ⟨4, ![65536, 2, 2, 32]⟩
abbrev S16x32x128x512 : Shape := ⟨4, ![16, 32, 128, 512]⟩
abbrev S16x32x512x128 : Shape := ⟨4, ![16, 32, 512, 128]⟩
abbrev S16x32x128x128 : Shape := ⟨4, ![16, 32, 128, 128]⟩

abbrev nBuf : Space → Nat
  | .hbm => 101
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S4x1024x2304, .f32⟩
  | .hbm, ⟨2, _⟩ => ⟨S65536x32, .f32⟩
  | .hbm, ⟨3, _⟩ => ⟨S65536x32, .f32⟩
  | .hbm, ⟨4, _⟩ => ⟨S1x1024x2304, .f32⟩
  | .hbm, ⟨5, _⟩ => ⟨S1024x2304, .f32⟩
  | .hbm, ⟨6, _⟩ => ⟨S65536x2304, .f32⟩
  | .hbm, ⟨7, _⟩ => ⟨S65536x512, .f32⟩
  | .hbm, ⟨8, _⟩ => ⟨S65536x8x64, .f32⟩
  | .hbm, ⟨9, _⟩ => ⟨S65536x64, .f32⟩
  | .hbm, ⟨10, _⟩ => ⟨S65536x1x64, .f32⟩
  | .hbm, ⟨11, _⟩ => ⟨S65536x64, .f32⟩
  | .hbm, ⟨12, _⟩ => ⟨S65536x1x64, .f32⟩
  | .hbm, ⟨13, _⟩ => ⟨S65536x8x32, .f32⟩
  | .hbm, ⟨14, _⟩ => ⟨S65536x8x32, .f32⟩
  | .hbm, ⟨15, _⟩ => ⟨S65536x8x32, .f32⟩
  | .hbm, ⟨16, _⟩ => ⟨S65536x8x64, .f32⟩
  | .hbm, ⟨17, _⟩ => ⟨S65536x8x64, .f32⟩
  | .hbm, ⟨18, _⟩ => ⟨S65536x8x64, .f32⟩
  | .hbm, ⟨19, _⟩ => ⟨S65536x8x64, .f32⟩
  | .hbm, ⟨20, _⟩ => ⟨S65536x8x64, .f32⟩
  | .hbm, ⟨21, _⟩ => ⟨S65536x8x64, .f32⟩
  | .hbm, ⟨22, _⟩ => ⟨S_, .f32⟩
  | .hbm, ⟨23, _⟩ => ⟨S65536x8x64, .f32⟩
  | .hbm, ⟨24, _⟩ => ⟨S65536x8x64, .f32⟩
  | .hbm, ⟨25, _⟩ => ⟨S65536x512, .f32⟩
  | .hbm, ⟨26, _⟩ => ⟨S65536x8x64, .f32⟩
  | .hbm, ⟨27, _⟩ => ⟨S65536x64, .f32⟩
  | .hbm, ⟨28, _⟩ => ⟨S65536x1x64, .f32⟩
  | .hbm, ⟨29, _⟩ => ⟨S65536x64, .f32⟩
  | .hbm, ⟨30, _⟩ => ⟨S65536x1x64, .f32⟩
  | .hbm, ⟨31, _⟩ => ⟨S65536x8x32, .f32⟩
  | .hbm, ⟨32, _⟩ => ⟨S65536x8x32, .f32⟩
  | .hbm, ⟨33, _⟩ => ⟨S65536x8x32, .f32⟩
  | .hbm, ⟨34, _⟩ => ⟨S65536x8x64, .f32⟩
  | .hbm, ⟨35, _⟩ => ⟨S65536x8x64, .f32⟩
  | .hbm, ⟨36, _⟩ => ⟨S65536x8x64, .f32⟩
  | .hbm, ⟨37, _⟩ => ⟨S65536x8x64, .f32⟩
  | .hbm, ⟨38, _⟩ => ⟨S65536x8x64, .f32⟩
  | .hbm, ⟨39, _⟩ => ⟨S65536x8x64, .f32⟩
  | .hbm, ⟨40, _⟩ => ⟨S65536x512, .f32⟩
  | .hbm, ⟨41, _⟩ => ⟨S65536x8x64, .f32⟩
  | .hbm, ⟨42, _⟩ => ⟨S65536x64, .f32⟩
  | .hbm, ⟨43, _⟩ => ⟨S65536x1x64, .f32⟩
  | .hbm, ⟨44, _⟩ => ⟨S65536x64, .f32⟩
  | .hbm, ⟨45, _⟩ => ⟨S65536x1x64, .f32⟩
  | .hbm, ⟨46, _⟩ => ⟨S65536x8x32, .f32⟩
  | .hbm, ⟨47, _⟩ => ⟨S65536x8x32, .f32⟩
  | .hbm, ⟨48, _⟩ => ⟨S65536x8x32, .f32⟩
  | .hbm, ⟨49, _⟩ => ⟨S65536x8x64, .f32⟩
  | .hbm, ⟨50, _⟩ => ⟨S65536x8x64, .f32⟩
  | .hbm, ⟨51, _⟩ => ⟨S65536x8x64, .f32⟩
  | .hbm, ⟨52, _⟩ => ⟨S65536x8x64, .f32⟩
  | .hbm, ⟨53, _⟩ => ⟨S65536x8x64, .f32⟩
  | .hbm, ⟨54, _⟩ => ⟨S65536x8x64, .f32⟩
  | .hbm, ⟨55, _⟩ => ⟨S_, .f32⟩
  | .hbm, ⟨56, _⟩ => ⟨S65536x8x64, .f32⟩
  | .hbm, ⟨57, _⟩ => ⟨S65536x8x64, .f32⟩
  | .hbm, ⟨58, _⟩ => ⟨S65536x128, .f32⟩
  | .hbm, ⟨59, _⟩ => ⟨S65536x2x64, .f32⟩
  | .hbm, ⟨60, _⟩ => ⟨S65536x64, .f32⟩
  | .hbm, ⟨61, _⟩ => ⟨S65536x1x64, .f32⟩
  | .hbm, ⟨62, _⟩ => ⟨S65536x64, .f32⟩
  | .hbm, ⟨63, _⟩ => ⟨S65536x1x64, .f32⟩
  | .hbm, ⟨64, _⟩ => ⟨S65536x2x32, .f32⟩
  | .hbm, ⟨65, _⟩ => ⟨S65536x2x32, .f32⟩
  | .hbm, ⟨66, _⟩ => ⟨S65536x2x32, .f32⟩
  | .hbm, ⟨67, _⟩ => ⟨S65536x2x64, .f32⟩
  | .hbm, ⟨68, _⟩ => ⟨S65536x2x64, .f32⟩
  | .hbm, ⟨69, _⟩ => ⟨S65536x2x64, .f32⟩
  | .hbm, ⟨70, _⟩ => ⟨S65536x2x64, .f32⟩
  | .hbm, ⟨71, _⟩ => ⟨S65536x2x64, .f32⟩
  | .hbm, ⟨72, _⟩ => ⟨S65536x2x64, .f32⟩
  | .hbm, ⟨73, _⟩ => ⟨S65536x2x4x2x32, .f32⟩
  | .hbm, ⟨74, _⟩ => ⟨S65536x4x2x2x32, .f32⟩
  | .hbm, ⟨75, _⟩ => ⟨S65536x512, .f32⟩
  | .hbm, ⟨76, _⟩ => ⟨S65536x2x2x32, .f32⟩
  | .hbm, ⟨77, _⟩ => ⟨S65536x2x2x32, .f32⟩
  | .hbm, ⟨78, _⟩ => ⟨S65536x128, .f32⟩
  | .hbm, ⟨79, _⟩ => ⟨S65536x4x2x2x32, .f32⟩
  | .hbm, ⟨80, _⟩ => ⟨S65536x4x2x2x32, .f32⟩
  | .hbm, ⟨81, _⟩ => ⟨S65536x512, .f32⟩
  | .hbm, ⟨82, _⟩ => ⟨S16x32x128x512, .f32⟩
  | .hbm, ⟨83, _⟩ => ⟨S16x32x512x128, .f32⟩
  | .hbm, ⟨84, _⟩ => ⟨S16x32x512x128, .bf16⟩
  | .hbm, ⟨85, _⟩ => ⟨S65536x4x2x2x32, .f32⟩
  | .hbm, ⟨86, _⟩ => ⟨S65536x4x2x2x32, .f32⟩
  | .hbm, ⟨87, _⟩ => ⟨S65536x512, .f32⟩
  | .hbm, ⟨88, _⟩ => ⟨S65536x512, .bf16⟩
  | .hbm, ⟨89, _⟩ => ⟨S65536x512, .f32⟩
  | .hbm, ⟨90, _⟩ => ⟨S16x32x128x512, .f32⟩
  | .hbm, ⟨91, _⟩ => ⟨S16x32x512x128, .f32⟩
  | .hbm, ⟨92, _⟩ => ⟨S16x32x512x128, .bf16⟩
  | .hbm, ⟨93, _⟩ => ⟨S16x32x128x512, .f32⟩
  | .hbm, ⟨94, _⟩ => ⟨S16x32x512x128, .f32⟩
  | .hbm, ⟨95, _⟩ => ⟨S16x32x512x128, .bf16⟩
  | .hbm, ⟨96, _⟩ => ⟨S65536x128, .bf16⟩
  | .hbm, ⟨97, _⟩ => ⟨S65536x128, .f32⟩
  | .hbm, ⟨98, _⟩ => ⟨S16x32x128x128, .f32⟩
  | .hbm, ⟨99, _⟩ => ⟨S16x32x128x128, .f32⟩
  | .hbm, ⟨100, _⟩ => ⟨S16x32x128x128, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_cst_0 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩

abbrev nD : Nat := 1
abbrev τ : Topo := Topo.v7x

variable {F : FTy → Type} [FloatOps F]
-- ==== Proof.KernelIdealBody.lean ====
module

public import proofs.«01_k».proof.Proof.Gen.KernelIdeal.Loops
public import proofs.«01_k».proof.Proof.Gen.KernelIdeal.Frame
public import Idealize.ShloMosaic.Lib.Exec
public import Idealize.ShloMosaic.Lib.Tactic
public import Idealize.ShloMosaic.Lib.Pipeline.Kit

/-!
The attention's frame: the kernel's body runs to its end from any contents of its buffers and gives
its input blocks back as it found them. The body has two branches (scores exponentiated directly, or
after a shift by a bound); both are run. What the body leaves in the output block and in the
four score buffers is not named here.
-/

@[expose] public section

set_option maxRecDepth 16384
set_option maxHeartbeats 4000000

noncomputable section

namespace Cert.Proof.KernelIdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's body, from its input blocks at any contents and its other buffers at anything: it ends, the input
    blocks as they were. -/
theorem body_runs (c : Dev nD) (i : grid0.Coords) (arg2 : Memref sig .tc .smem S16x4 .f32) (harg2 : arg2.IsWhole) (arg3 : Memref sig .tc .vmem S1x32x128x128 .bf16) (harg3 : arg3.IsWhole) (arg4 : Memref sig .tc .vmem S4096x128 .bf16) (harg4 : arg4.IsWhole) (arg5 : Memref sig .tc .vmem S1x32x128x128 .bf16) (harg5 : arg5.IsWhole) (arg6 : Memref sig .tc .vmem S4x64 .f32) (harg6 : arg6.IsWhole) (arg7 : Memref sig .tc .vmem S8x128 .f32) (harg7 : arg7.IsWhole) (arg8 : Memref sig .tc .vmem S4096x128 .bf16) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x256 .f32) (harg12 : arg12.IsWhole)
    (x0 : Vec F S16x4 .f32) (x1 : Vec F S1x32x128x128 .bf16) (x2 : Vec F S4096x128 .bf16) (x3 : Vec F S1x32x128x128 .bf16) (x4 : Vec F S4x64 .f32) (x5 : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12) K := by
  simp only [cc0_diff_attn_eq_skeleton]; unfold cc0_diff_attn_skel
  simp only [k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  split
  · sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    iexists _; iexists _; isplitr; swap; · iexact H12
    ipureintro; rfl
  · sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    iexists _; iexists _; isplitr; swap; · iexact H12
    ipureintro; rfl

/-! ## The blocks the body is called on -/

abbrev ms0 (t : Fin cfg0.N) : Memref sig .tc .smem S16x4 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x128x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32x128x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4096x128 .bf16 := win0_6.stage (cfg0.slots t 6)
abbrev hs6 (t : Fin cfg0.N) : (ms6 t).IsWhole := hstage0_6 ((cfg0.slots t 6).cast nbuf0_6)
abbrev sc0 : Memref sig .tc .vmem S4096x256 .f32 := Memref.whole cc0_scratch0
abbrev sc1 : Memref sig .tc .vmem S4096x256 .f32 := Memref.whole cc0_scratch1
abbrev sc2 : Memref sig .tc .vmem S4096x256 .f32 := Memref.whole cc0_scratch2
abbrev sc3 : Memref sig .tc .vmem S4096x256 .f32 := Memref.whole cc0_scratch3

/-- The region's invariant: the four score buffers and the generator register, each at some contents. -/
theorem inv_eq (c : Dev nD) :
    (Pipeline.ΦA spec0 c : sProp 𝕄)
      = iprop(((∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

variable (m : (ℓ : Loc nD τ sig) → Buf (Elt F) ℓ) (ρ : Dev nD → PrngReg)

/-- What the pipeline moves on core `c`: the arrays as launched, each input block left as it was; the output block's
    contents are not named (a stand-in: it is forgotten, `forgot`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- The window whose contents are not named: the output's. -/
def forgot : Fin cfg0.W → Bool := fun w => decide (w = 6)

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The body at a point, from what the pipeline hands it to what it takes back. -/
theorem body_at (c : Dev nD) (t : Fin cfg0.N) :
    iprop((dats m 0 c).Φ t.castSucc ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d))
      ∗ (∃ d, owns (c : Thread nD τ) (ms3 t) fullShare ((dats m 0 c).before 3 t d))
      ∗ (∃ d, owns (c : Thread nD τ) (ms4 t) fullShare ((dats m 0 c).before 4 t d))
      ∗ (∃ d, owns (c : Thread nD τ) (ms5 t) fullShare ((dats m 0 c).before 5 t d))
      ∗ (∃ X, owns (c : Thread nD τ) (ms6 t) fullShare X))
    ⊢ wp frame (wpE (defs₀ (F := F)) Variants.none c none) Set.univ (bodyAt0 t) (fun _ =>
      iprop((dats m 0 c).Φ t.succ ∗ (dats m 0 c).owesAt () t.succ
      ∗ owns (c : Thread nD τ) (ms0 t) fullShare ((dats m 0 c).after 0 t)
      ∗ owns (c : Thread nD τ) (ms1 t) fullShare ((dats m 0 c).after 1 t)
      ∗ owns (c : Thread nD τ) (ms2 t) fullShare ((dats m 0 c).after 2 t)
      ∗ owns (c : Thread nD τ) (ms3 t) fullShare ((dats m 0 c).after 3 t)
      ∗ owns (c : Thread nD τ) (ms4 t) fullShare ((dats m 0 c).after 4 t)
      ∗ owns (c : Thread nD τ) (ms5 t) fullShare ((dats m 0 c).after 5 t)
      ∗ (∃ X, owns (c : Thread nD τ) (ms6 t) fullShare X))) := by
  unfold bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, inv_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, H6⟩
  iapply (body_runs c (grid0.coords t) _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row (t : Fin cfg0.N) :
    defs₀ (F := F) .tc cfg0.body (cfg0.bodyArgs t (cfg0.slots t)) = bodyAt0 t := by
  unfold defs₀; rw [Defs.onTc_tc]

/-- What the pipeline asks of the body, the output block forgotten. -/
theorem obligation (c : Dev nD) : BodyObligation (dats (F := F) m 0 c) (defs₀ (F := F)) Variants.none () Set.univ forgot := fun t => by
  rw [bigSep_W0, bigSep_W0, row]
  exact triple_restated (body_at m c t) rfl .rfl fun _ => .rfl

set_option backward.isDefEq.respectTransparency.types false in
/-- The launch: every input array ends as it was launched and every counter at zero. -/
theorem run : θ_run defs (onTc (τ := τ) (main (F := F))) (s₀ m ρ)
    (fun r => Pipeline.RDat.FramePost cfg0 (fun c => (dats m 0 c).toRForget forgot) (V m) r ∧ r.2.sem = fun _ => 0) :=
  Pipeline.θ_run_frame_forget (Q' := _) cfgs (dats m) (0 : Fin 1) launch0 defs₀ Variants.none forgot m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- An input's array after the run. -/
theorem input_kept (c : Dev nD) (w : Fin cfg0.W) (hf : forgot w = false) (hi : (cfg0.win w).isOut = false) (X)
    (h : ((dats m 0 c).toRForget forgot).ArrAt w cfg0.N X) : X = V m c (Pipeline.arrRef spec0 w) :=
  (((dats m 0 c).toRForget_arrAt_iff hf _ _).mp h).trans (((dats m 0 c).arrAt_in w hi _).trans (A_eq m c w))

/-- The frame: the run ends, every argument as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧       r.2.mem ((c.tc : Thread nD τ).loc main_arg1) = m ((c.tc : Thread nD τ).loc main_arg1) ∧       r.2.mem ((c.tc : Thread nD τ).loc main_arg2) = m ((c.tc : Thread nD τ).loc main_arg2) ∧       r.2.mem ((c.tc : Thread nD τ).loc main_arg3) = m ((c.tc : Thread nD τ).loc main_arg3) ∧       r.2.mem ((c.tc : Thread nD τ).loc main_arg4) = m ((c.tc : Thread nD τ).loc main_arg4) ∧       r.2.mem ((c.tc : Thread nD τ).loc main_arg5) = m ((c.tc : Thread nD τ).loc main_arg5))
      ∧ r.2.sem = fun _ => 0) :=
  (θ_run defs _ _).mono (fun _ h => ⟨fun c => ⟨input_kept m c 0 rfl rfl _ ((h.1 c).1 0), input_kept m c 1 rfl rfl _ ((h.1 c).1 1), input_kept m c 2 rfl rfl _ ((h.1 c).1 2), input_kept m c 3 rfl rfl _ ((h.1 c).1 3), input_kept m c 4 rfl rfl _ ((h.1 c).1 4), input_kept m c 5 rfl rfl _ ((h.1 c).1 5)⟩, h.2⟩) (run m ρ)

end Cert.Proof.KernelIdealBody

end
-- ==== Proof.Spec.lean ====
module

public import Idealize.ShloMosaic.Lib.Pointwise
public import Idealize.ShloMosaic.PureOps.Ideal.Laws

@[expose] public section

noncomputable section

/-! The two pieces of plain mathematics that the feed-forward half-step and the mixer share: one
    hidden unit of the gated feed-forward layer, and the layer norm of one row. -/

namespace Cert.Spec

open Idealize.ShloMosaic

/-- One hidden unit for one row `x`: the gate column `g` and the up column `u` of the input weights. -/
def hidden (x g u : Fin 1024 → Ideal .f32) : Ideal .f32 :=
  (∑ k, x k * g k) * Ideal.div 1 (1 + Ideal.exp (-∑ k, x k * g k)) * ∑ k, x k * u k

/-- The mean of a row of 1024 numbers, as both programs take it: the sum divided by 1024. -/
def mean (z : Fin 1024 → Ideal .f32) : Ideal .f32 := Ideal.div (∑ k, z k) (Ideal.ofBits .f32 0x44800000#32)

/-- The layer norm of a row, at column `j`, with gain `g` and offset `b` of that column. -/
def norm (z : Fin 1024 → Ideal .f32) (g b : Ideal .f32) (j : Fin 1024) : Ideal .f32 :=
  (z j - mean z) * Ideal.rsqrt (mean (fun k => (z k - mean z) * (z k - mean z)) + Ideal.ofBits .f32 0x3727C5AC#32) * g + b

/-- The residual sum of a feed-forward half-step at one column: the row's entry `x`, the row's hidden
    units `h` and the column `w` of the output weights. -/
def resid (x : Ideal .f32) (h w : Fin 2816 → Ideal .f32) : Ideal .f32 :=
  Ideal.ofBits .f32 0x3FD744FD#32 * x + Ideal.ofBits .f32 0x3F000000#32 * ∑ k, h k * w k

/-- The residual sum of the mixer at one column: the row's entry `x`, its two attention outputs `a` and `b` and the
    column `w` of the projection. -/
def mixed (x : Ideal .f32) (a b : Fin 512 → Ideal .f32) (w : Fin 1024 → Ideal .f32) : Ideal .f32 :=
  Ideal.ofBits .f32 0x3FD744FD#32 * x + (∑ k : Fin 512, a k * w ⟨k, by omega⟩ + ∑ k : Fin 512, b k * w ⟨512 + k, by omega⟩)

/-- An index of a rectangle that starts at `(a, b)`, as an index of the array. -/
theorem emb2 {n0 n1 m0 m1 : ℕ} (a b : ℕ) (h) (r : Fin m0) (j : Fin m1) (ha : a + r < n0) (hb : b + j < n1) :
    (Rect.unit (s := ⟨2, ![n0, n1]⟩) ![a, b] ![m0, m1] h).emb (ix2 r j) = ix2 ⟨a + r, ha⟩ ⟨b + j, hb⟩ := by
  funext i
  match i with
  | 0 => exact Fin.ext (by show _ + 1 * _ = _; rw [Nat.one_mul]; rfl)
  | 1 => exact Fin.ext (by show _ + 1 * _ = _; rw [Nat.one_mul]; rfl)

end Cert.Spec

end
-- ==== Proof.FfnBlock.lean ====
module

public import proofs.«01_k».proof.Proof.Spec
public import proofs.«01_k».proof.Proof.Gen.FfnIdeal.Value

@[expose] public section

set_option maxRecDepth 65536

noncomputable section

/-! The first feed-forward half-step's body: what one grid point stores, read at a row and a column. -/

namespace Cert.FfnIdeal.Block

open Cert.FfnIdeal Cert.FfnIdeal.Gen Idealize.ShloMosaic Idealize.ShloMosaic.TcCoe Idealize.SL.Sem
open Cert.Spec (emb2)

/-- One chunk of 256 hidden units: the uniform payload at a row and a column. -/
theorem chunk_at (x : Vec Ideal S1024x1024 .f32) (wg wu : Vec Ideal S1x1024x256 .bf16) (r : Fin 1024) (j : Fin 256) :
    k0_pay8 (F := Ideal) (k0_pay2 x) wg wu (ix2 r j)
      = Spec.hidden (fun k => x (ix2 r k)) (fun k => wg (ix3 0 k j)) (fun k => wu (ix3 0 k j)) := by
  pointwise [k0_pay8, k0_pay2, Spec.hidden]
  rw [zero_sub]

/-- Row `r`'s hidden unit `j`, from the block's rows `x` and the input weights `w` (gate columns first). -/
def unitAt (x : Vec Ideal S1024x1024 .f32) (w : Vec Ideal S1x1024x5632 .bf16) (r : Fin 1024) (j : Fin 2816) : Ideal .f32 :=
  Spec.hidden (fun k => x (ix2 r k)) (fun k => w (ix3 0 k ⟨j, by omega⟩)) (fun k => w (ix3 0 k ⟨2816 + j, by omega⟩))

/-- The hidden units of the whole block. -/
def units (x : Vec Ideal S1024x1024 .f32) (w : Vec Ideal S1x1024x5632 .bf16) : Vec Ideal S1024x2816 .bf16 :=
  fun i => unitAt x w (i 0) (i 1)

/-- The chunk stored at column `o` holds the block's hidden units there. -/
theorem chunk_units (x : Vec Ideal S1024x1024 .f32) (w : Vec Ideal S1x1024x5632 .bf16) (o o' : ℕ) (ho : o' = 2816 + o)
    (hx : ∀ a, (![0, 0] : Fin 2 → ℕ) a + S1024x1024.size a ≤ S1024x1024.size a)
    (hg : ∀ a, (![0, 0, o] : Fin 3 → ℕ) a + S1x1024x256.size a ≤ S1x1024x5632.size a)
    (hu : ∀ a, (![0, 0, o'] : Fin 3 → ℕ) a + S1x1024x256.size a ≤ S1x1024x5632.size a)
    (hs : ∀ a, (![0, o] : Fin 2 → ℕ) a + S1024x256.size a ≤ S1024x2816.size a) (y : S1024x256.Idx) :
    k0_pay8 (F := Ideal) (k0_pay2 (View.ld (Val := Elt Ideal) (S := S1024x1024) (e' := .f32) x (Rect.unit ![0, 0] ![1024, 1024] hx)))
        (View.ld (Val := Elt Ideal) (S := S1x1024x5632) (e' := .bf16) w (Rect.unit ![0, 0, o] ![1, 1024, 256] hg))
        (View.ld (Val := Elt Ideal) (S := S1x1024x5632) (e' := .bf16) w (Rect.unit ![0, 0, o'] ![1, 1024, 256] hu)) y
      = units x w ((Rect.unit (s := S1024x2816) ![0, o] ![1024, 256] hs).emb y) := by
  subst ho
  idx_vars y
  rw [chunk_at]
  rw [emb2 0 o _ _ _ (by omega) (by have := hs 1; simp at this; omega)]
  unfold units unitAt
  pointwise
  simp only [Nat.add_assoc, Nat.zero_add]

/-! The four groups of 256 rows: each is the layer norm of the residual sum. -/

theorem group0_at (x : Vec Ideal S1024x1024 .f32) (a : Vec Ideal S256x2816 .bf16) (wo : Vec Ideal S1x2816x1024 .bf16)
    (g b : Vec Ideal S1x1024 .f32) (r : Fin 256) (j : Fin 1024) :
    k0_pay24 (F := Ideal) x a wo g b (ix2 r j)
      = Spec.norm (fun k => Spec.resid (x (ix2 ⟨0 + r, by omega⟩ k)) (fun l => a (ix2 r l)) (fun l => wo (ix3 0 l k)))
          (g (ix2 0 j)) (b (ix2 0 j)) j := by
  pointwise [k0_pay24, Spec.norm, Spec.mean, Spec.resid]

theorem group1_at (x : Vec Ideal S1024x1024 .f32) (a : Vec Ideal S256x2816 .bf16) (wo : Vec Ideal S1x2816x1024 .bf16)
    (g b : Vec Ideal S1x1024 .f32) (r : Fin 256) (j : Fin 1024) :
    k0_pay25 (F := Ideal) x a wo g b (ix2 r j)
      = Spec.norm (fun k => Spec.resid (x (ix2 ⟨256 + r, by omega⟩ k)) (fun l => a (ix2 r l)) (fun l => wo (ix3 0 l k)))
          (g (ix2 0 j)) (b (ix2 0 j)) j := by
  pointwise [k0_pay25, Spec.norm, Spec.mean, Spec.resid]

theorem group2_at (x : Vec Ideal S1024x1024 .f32) (a : Vec Ideal S256x2816 .bf16) (wo : Vec Ideal S1x2816x1024 .bf16)
    (g b : Vec Ideal S1x1024 .f32) (r : Fin 256) (j : Fin 1024) :
    k0_pay26 (F := Ideal) x a wo g b (ix2 r j)
      = Spec.norm (fun k => Spec.resid (x (ix2 ⟨512 + r, by omega⟩ k)) (fun l => a (ix2 r l)) (fun l => wo (ix3 0 l k)))
          (g (ix2 0 j)) (b (ix2 0 j)) j := by
  pointwise [k0_pay26, Spec.norm, Spec.mean, Spec.resid]

theorem group3_at (x : Vec Ideal S1024x1024 .f32) (a : Vec Ideal S256x2816 .bf16) (wo : Vec Ideal S1x2816x1024 .bf16)
    (g b : Vec Ideal S1x1024 .f32) (r : Fin 256) (j : Fin 1024) :
    k0_pay1 (F := Ideal) x a wo g b (ix2 r j)
      = Spec.norm (fun k => Spec.resid (x (ix2 ⟨768 + r, by omega⟩ k)) (fun l => a (ix2 r l)) (fun l => wo (ix3 0 l k)))
          (g (ix2 0 j)) (b (ix2 0 j)) j := by
  pointwise [k0_pay1, Spec.norm, Spec.mean, Spec.resid]

/-- One row of the block, normalised, at a column. -/
def rowAt (x : Vec Ideal S1024x1024 .f32) (w : Vec Ideal S1x1024x5632 .bf16) (wo : Vec Ideal S1x2816x1024 .bf16)
    (g b : Vec Ideal S1x1024 .f32) (r j : Fin 1024) : Ideal .f32 :=
  Spec.norm (fun k => Spec.resid (x (ix2 r k)) (fun l => unitAt x w r l) (fun l => wo (ix3 0 l k))) (g (ix2 0 j)) (b (ix2 0 j)) j

/-- What the body leaves in the output block, at every index. -/
theorem out_at (c : Dev nD) (i : grid0.Coords) (arg1 : Memref sig .tc .vmem S1024x1024 .f32) (harg1 : arg1.IsWhole) (arg2 : Memref sig .tc .vmem S1x1024x5632 .bf16) (harg2 : arg2.IsWhole) (arg3 : Memref sig .tc .vmem S1x2816x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x2816 .bf16) (harg7 : arg7.IsWhole)
    (x0 : Vec Ideal S1024x1024 .f32) (x1 : Vec Ideal S1x1024x5632 .bf16) (x2 : Vec Ideal S1x2816x1024 .bf16) (x3 : Vec Ideal S1x1024 .f32) (x4 : Vec Ideal S1x1024 .f32) (y : S1024x1024.Idx) :
    out0_A_5 (F := Ideal) c i arg1 harg1 arg2 harg2 arg3 harg3 arg4 harg4 arg5 harg5 arg6 harg6 arg7 harg7 x0 x1 x2 x3 x4 y = rowAt x0 x1 x2 x3 x4 (y 0) (y 1) := by
  have hcov := cover0_A_5 (F := Ideal) c i arg1 harg1 arg2 harg2 arg3 harg3 arg4 harg4 arg5 harg5 arg6 harg6 arg7 harg7 x0 x1 x2 x3 x4
  unfold out0_A_5
  rw [View.read_writes_eq_canon _ _ _ hcov]
  refine View.canon_apply_of_pieces (fun y => rowAt x0 x1 x2 x3 x4 (y 0) (y 1)) _ ?_ y (hcov y)
  clear hcov
  unfold kernelRun0_A
  dsimp only
  sl_unfold_words
  simp only [View.readAt_eq_ld, harg1.read_unread, harg2.read_unread, harg3.read_unread, harg4.read_unread, harg5.read_unread]
  simp only [View.readCov_eq_canon']
  rw [show View.canon _ = units x0 x1 from funext fun i => View.canon_apply_of_pieces (units x0 x1) _ ?_ i
    (View.cover_of_tiledL _ ![1024, 256] (by sl_kernel_rfl) i)]
  · intro p hp
    simp only [List.mem_cons, List.not_mem_nil, or_false] at hp
    rcases hp with rfl | rfl | rfl | rfl <;> intro y <;> dsimp only
    · idx_vars y
      rw [group3_at, emb2 768 0 _ _ _ (by omega) (by omega)]
      unfold rowAt
      pointwise [units]
    · idx_vars y
      rw [group2_at, emb2 512 0 _ _ _ (by omega) (by omega)]
      unfold rowAt
      pointwise [units]
    · idx_vars y
      rw [group1_at, emb2 256 0 _ _ _ (by omega) (by omega)]
      unfold rowAt
      pointwise [units]
    · idx_vars y
      rw [group0_at, emb2 0 0 _ _ _ (by omega) (by omega)]
      unfold rowAt
      pointwise [units]
  · intro p hp
    simp only [List.mem_cons, List.not_mem_nil, or_false] at hp
    rcases hp with rfl | rfl | rfl | rfl | rfl | rfl | rfl | rfl | rfl | rfl | rfl <;> intro y
    · exact chunk_units x0 x1 2560 5376 rfl _ _ _ inb_S1024x2816_S1024x256_0_2560 y
    · exact chunk_units x0 x1 2304 5120 rfl _ _ _ inb_S1024x2816_S1024x256_0_2304 y
    · exact chunk_units x0 x1 2048 4864 rfl _ _ _ inb_S1024x2816_S1024x256_0_2048 y
    · exact chunk_units x0 x1 1792 4608 rfl _ _ _ inb_S1024x2816_S1024x256_0_1792 y
    · exact chunk_units x0 x1 1536 4352 rfl _ _ _ inb_S1024x2816_S1024x256_0_1536 y
    · exact chunk_units x0 x1 1280 4096 rfl _ _ _ inb_S1024x2816_S1024x256_0_1280 y
    · exact chunk_units x0 x1 1024 3840 rfl _ _ _ inb_S1024x2816_S1024x256_0_1024 y
    · exact chunk_units x0 x1 768 3584 rfl _ _ _ inb_S1024x2816_S1024x256_0_768 y
    · exact chunk_units x0 x1 512 3328 rfl _ _ _ inb_S1024x2816_S1024x256_0_512 y
    · exact chunk_units x0 x1 256 3072 rfl _ _ _ inb_S1024x2816_S1024x256_0_256 y
    · exact chunk_units x0 x1 0 2816 rfl _ _ _ inb_S1024x2816_S1024x256_0_0 y

end Cert.FfnIdeal.Block

end
-- ==== Proof.FfnRef.lean ====
module

public import proofs.«01_k».proof.Proof.Spec
public import proofs.«01_k».proof.Proof.Gen.FfnRefIdeal.Read

@[expose] public section

set_option maxRecDepth 16384

noncomputable section

/-! The first feed-forward half-step's reference, read at an index. -/

namespace Cert.FfnRefIdeal.Read

open Cert.FfnRefIdeal Cert.FfnRefIdeal.Gen Idealize.ShloMosaic

variable (x0 : Vec Ideal S65536x1024 .f32) (x1 : Vec Ideal S4x1024x5632 .f32) (x2 : Vec Ideal S4x2816x1024 .f32)
  (x3 x4 : Vec Ideal S4x3x1024 .f32)

theorem hidden_at (r : Fin 65536) (j : Fin 2816) :
    val_main_v10 (F := Ideal) x0 x1 (ix2 r j) = Spec.hidden (fun k => x0 (ix2 r k)) (fun k => x1 (ix3 0 k ⟨j, by omega⟩))
      (fun k => x1 (ix3 0 k ⟨2816 + j, by omega⟩)) := by
  pointwise [val_main_v10, val_main_v9, val_main_v8, val_main_v7, val_main_v6, val_main_v3, val_main_v2,
    val_main_call0_v0, val_main_call0_v1, val_main_call0_v2, val_main_call0_v3, val_main_call0_v4, val_main_call0_v5,
    val_main_call0_cst, val_main_call0_cst_0, Spec.hidden]

theorem resid_at (r : Fin 65536) (j : Fin 1024) :
    val_main_v14 (F := Ideal) x0 x1 x2 (ix2 r j) = Spec.resid (x0 (ix2 r j)) (fun k => val_main_v10 (F := Ideal) x0 x1 (ix2 r k))
      (fun k => x2 (ix3 0 k j)) := by
  pointwise [val_main_v14, val_main_v13, val_main_v12, val_main_v11, val_main_v1, val_main_v0, val_main_cst,
    val_main_cst_0, val_main_v5, val_main_v4, Spec.resid]

theorem norm_at (r : Fin 65536) (j : Fin 1024) :
    val_main_v42 (F := Ideal) x0 x1 x2 x3 x4 (ix2 r j) = Spec.norm (fun k => val_main_v14 (F := Ideal) x0 x1 x2 (ix2 r k))
      (x3 (ix3 0 0 j)) (x4 (ix3 0 0 j)) j := by
  unfold val_main_v42 val_main_v39 val_main_v36 val_main_v31 val_main_v30 val_main_v35 val_main_v34 val_main_v33
    val_main_v29 val_main_v28 val_main_v27 val_main_v26 val_main_v25 val_main_v24 val_main_v23 val_main_v22
    val_main_v21 val_main_v20 val_main_v19
  generalize val_main_v14 (F := Ideal) x0 x1 x2 = z
  pointwise [val_main_v15, val_main_v16, val_main_v17, val_main_v18, val_main_v37, val_main_v38, val_main_v40, val_main_v41,
    val_main_v32, val_main_v31, val_main_v30, val_main_v24, val_main_v23, val_main_v22, val_main_v21, val_main_v20, val_main_v19, val_main_cst_1,
    val_main_cst_2, val_main_cst_3, val_main_cst_4, val_main_cst_5, Spec.norm, Spec.mean]

end Cert.FfnRefIdeal.Read

end
-- ==== Proof.FfnValue.lean ====
module

public import proofs.«01_k».proof.Proof.FfnBlock
public import proofs.«01_k».proof.Proof.FfnRef

@[expose] public section

set_option maxRecDepth 16384

noncomputable section

/-! The first feed-forward half-step: the array after the run is the reference's function of the arguments. -/

namespace Cert.FfnIdeal.Value

open Cert.FfnIdeal Cert.FfnIdeal.Gen Cert.FfnIdeal.Block Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's result as a function of the kernel's arguments. -/
def result (c : Dev nD) : Vec Ideal S65536x1024 .f32 :=
  FfnRefIdeal.Read.val_main_v42 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-! What the region finds in the arrays it reads. -/

theorem V_w_in (c : Dev nD) : V m c main_v0 = (m ((c : Thread nD τ).loc main_arg1) : Vec Ideal S4x1024x5632 .f32) := by
  unfold V; after_results_simp <;> rfl

theorem V_w_out (c : Dev nD) : V m c main_v1 = (m ((c : Thread nD τ).loc main_arg2) : Vec Ideal S4x2816x1024 .f32) := by
  unfold V; after_results_simp <;> rfl

theorem V_g (c : Dev nD) (j : Fin 1024) : (V m c main_v4 : Vec Ideal S1x1024 .f32) (ix2 0 j)
    = (m ((c : Thread nD τ).loc main_arg3) : Vec Ideal S4x3x1024 .f32) (ix3 0 0 j) := by
  unfold V; after_results_simp <;> pointwise

theorem V_b (c : Dev nD) (j : Fin 1024) : (V m c main_v7 : Vec Ideal S1x1024 .f32) (ix2 0 j)
    = (m ((c : Thread nD τ).loc main_arg4) : Vec Ideal S4x3x1024 .f32) (ix3 0 0 j) := by
  unfold V; after_results_simp <;> pointwise

/-! The input blocks at a grid point, read at an index. -/

theorem blk_x (c : Dev nD) (t : Fin cfg0.N) (r k : Fin 1024) (h : 1024 * t.val + r.val < 65536) :
    (iblk m c 0 t : Vec Ideal S1024x1024 .f32) (ix2 r k) = (V m c main_arg0 : Vec Ideal S65536x1024 .f32) (ix2 ⟨1024 * t.val + r.val, h⟩ k) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_arg0 _ = V m c main_arg0 _
  congr 1
  funext a
  apply Fin.ext
  match a with
  | ⟨0, _⟩ => show win0_0.index t 0 * 1024 + 1 * r.val = 1024 * t.val + r.val; rw [hi.1]; omega
  | ⟨1, _⟩ => show win0_0.index t 1 * 1024 + 1 * k.val = k.val; rw [hi.2]; omega

theorem blk_w_in (c : Dev nD) (t : Fin cfg0.N) (k : Fin 1024) (l : Fin 5632) :
    (iblk m c 1 t : Vec Ideal S1x1024x5632 .bf16) (ix3 0 k l) = (V m c main_v0 : Vec Ideal S4x1024x5632 .bf16) (ix3 0 k l) := by
  have hi : win0_1.index t 0 = 0 ∧ win0_1.index t 1 = 0 ∧ win0_1.index t 2 = 0 :=
    (by decide +kernel : ∀ t : Fin grid0.N, win0_1.index t 0 = 0 ∧ win0_1.index t 1 = 0 ∧ win0_1.index t 2 = 0) t
  unfold iblk
  rw [View.read_apply]
  show V m c main_v0 _ = V m c main_v0 _
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2.1]; omega
  | ⟨2, _⟩ => show win0_1.index t 2 * 5632 + 1 * l.val = l.val; rw [hi.2.2]; omega

theorem blk_w_out (c : Dev nD) (t : Fin cfg0.N) (k : Fin 2816) (l : Fin 1024) :
    (iblk m c 2 t : Vec Ideal S1x2816x1024 .bf16) (ix3 0 k l) = (V m c main_v1 : Vec Ideal S4x2816x1024 .bf16) (ix3 0 k l) := by
  have hi : win0_2.index t 0 = 0 ∧ win0_2.index t 1 = 0 ∧ win0_2.index t 2 = 0 :=
    (by decide +kernel : ∀ t : Fin grid0.N, win0_2.index t 0 = 0 ∧ win0_2.index t 1 = 0 ∧ win0_2.index t 2 = 0) t
  unfold iblk
  rw [View.read_apply]
  show V m c main_v1 _ = V m c main_v1 _
  congr 1
  funext a
  apply Fin.ext
  match a with
  | ⟨0, _⟩ => show win0_2.index t 0 * 1 + 1 * 0 = 0; rw [hi.1]
  | ⟨1, _⟩ => show win0_2.index t 1 * 2816 + 1 * k.val = k.val; rw [hi.2.1]; omega
  | ⟨2, _⟩ => show win0_2.index t 2 * 1024 + 1 * l.val = l.val; rw [hi.2.2]; omega

theorem blk_g (c : Dev nD) (t : Fin cfg0.N) (k : Fin 1024) :
    (iblk m c 3 t : Vec Ideal S1x1024 .f32) (ix2 0 k) = (V m c main_v4 : Vec Ideal S1x1024 .f32) (ix2 0 k) := by
  have hi : win0_3.index t 0 = 0 ∧ win0_3.index t 1 = 0 :=
    (by decide +kernel : ∀ t : Fin grid0.N, win0_3.index t 0 = 0 ∧ win0_3.index t 1 = 0) t
  unfold iblk
  rw [View.read_apply]
  show V m c main_v4 _ = V m c main_v4 _
  congr 1
  funext a
  apply Fin.ext
  match a with
  | ⟨0, _⟩ => show win0_3.index t 0 * 1 + 1 * 0 = 0; rw [hi.1]
  | ⟨1, _⟩ => show win0_3.index t 1 * 1024 + 1 * k.val = k.val; rw [hi.2]; omega

theorem blk_b (c : Dev nD) (t : Fin cfg0.N) (k : Fin 1024) :
    (iblk m c 4 t : Vec Ideal S1x1024 .f32) (ix2 0 k) = (V m c main_v7 : Vec Ideal S1x1024 .f32) (ix2 0 k) := by
  have hi : win0_4.index t 0 = 0 ∧ win0_4.index t 1 = 0 :=
    (by decide +kernel : ∀ t : Fin grid0.N, win0_4.index t 0 = 0 ∧ win0_4.index t 1 = 0) t
  unfold iblk
  rw [View.read_apply]
  show V m c main_v7 _ = V m c main_v7 _
  congr 1
  funext a
  apply Fin.ext
  match a with
  | ⟨0, _⟩ => show win0_4.index t 0 * 1 + 1 * 0 = 0; rw [hi.1]
  | ⟨1, _⟩ => show win0_4.index t 1 * 1024 + 1 * k.val = k.val; rw [hi.2]; omega

/-- One row of the block at grid point `t` is the reference's row `1024 t + r`. -/
theorem row_eq (c : Dev nD) (t : Fin cfg0.N) (r j : Fin 1024) (h : 1024 * t.val + r.val < 65536) :
    rowAt (iblk m c 0 t) (iblk m c 1 t) (iblk m c 2 t) (iblk m c 3 t) (iblk m c 4 t) r j = result m c (ix2 ⟨1024 * t.val + r.val, h⟩ j) := by
  have e0 := fun k => (blk_x m c t r k h).trans (congrFun (V_main_arg0 m c) _)
  have e1 := fun k l => (blk_w_in m c t k l).trans (congrFun (V_w_in m c) _)
  have e2 := fun k l => (blk_w_out m c t k l).trans (congrFun (V_w_out m c) _)
  have e3 := fun k => (blk_g m c t k).trans (V_g m c k)
  have e4 := fun k => (blk_b m c t k).trans (V_b m c k)
  unfold result rowAt unitAt
  rw [FfnRefIdeal.Read.norm_at]
  simp only [FfnRefIdeal.Read.resid_at, FfnRefIdeal.Read.hidden_at, e0, e1, e2, e3, e4]

theorem flushed_eq (c : Dev nD) (t : Fin cfg0.N) (hf : (cfg0.win 5).flush t = true) :
    (dats m 0 c).flushed 5 t = ((cfg0.win 5).blk t).view.read (Elt Ideal) (result m c) := by
  have hi : win0_5.index t 0 = t.val ∧ win0_5.index t 1 = 0 :=
    (by decide +kernel : ∀ t : Fin grid0.N, win0_5.index t 0 = t.val ∧ win0_5.index t 1 = 0) t
  have ht : t.val < 64 := t.isLt
  rw [flushed5_A]
  funext j
  rw [View.read_apply]
  unfold Pipeline.Window.cut
  rw [out_at]
  have hr : ((cfg0.win 5).xinj (grid0.coords t) j 0 : Fin 1024).val < 1024 := Fin.isLt _
  refine (row_eq m c t _ _ (by omega)).trans ?_
  show result m c _ = result m c _
  congr 1
  funext a
  apply Fin.ext
  match a with
  | ⟨0, _⟩ => show 1024 * t.val + (j 0).val = win0_5.index t 0 * 1024 + 1 * (j 0).val; rw [hi.1]; omega
  | ⟨1, _⟩ => show (j 1).val = win0_5.index t 1 * 1024 + 1 * (j 1).val; rw [hi.2]; omega

/-- The result array after the run. -/
theorem final (c : Dev nD) : (dats m 0 c).arrAt 5 cfg0.N = result m c :=
  (dats m 0 c).arrAt_eq_of_cover 5 (result m c) (flushed_eq m c) fun i => by
    have h0 : (i 0 : Nat) < 65536 := (i 0).isLt
    have h1 : (i 1 : Nat) < 1024 := (i 1).isLt
    have hN : (i 0 : Nat) / 1024 < grid0.N := by rw [show grid0.N = 64 from by decide +kernel]; omega
    refine ⟨⟨(i 0 : Nat) / 1024, hN⟩, flush0_5 _, ?_⟩
    generalize ht : (⟨(i 0 : Nat) / 1024, hN⟩ : Fin cfg0.N) = t
    have htv : t.val = (i 0 : Nat) / 1024 := by rw [← ht]
    have hi : win0_5.index t 0 = t.val ∧ win0_5.index t 1 = 0 :=
      (by decide +kernel : ∀ t : Fin grid0.N, win0_5.index t 0 = t.val ∧ win0_5.index t 1 = 0) t
    have hx : win0_5.xsize (grid0.coords t) 0 = 1024 ∧ win0_5.xsize (grid0.coords t) 1 = 1024 :=
      (by decide +kernel : ∀ t : Fin grid0.N, win0_5.xsize (grid0.coords t) 0 = 1024 ∧ win0_5.xsize (grid0.coords t) 1 = 1024) t
    show i ∈ ((View.whole main_v8).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + win0_5.xsize (grid0.coords t) 0
                rw [hi.1, hx.1]; omega
    | ⟨1, _⟩ => show win0_5.index t 1 * 1024 ≤ (i 1 : Nat) ∧ (i 1 : Nat) < win0_5.index t 1 * 1024 + win0_5.xsize (grid0.coords t) 1
                rw [hi.2, hx.2]; omega

/-- The run: the result is the reference's function of the arguments, which are unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.FfnIdeal.Value

end
-- ==== Proof.FfnClaim.lean ====
/- The claims about the first feed-forward call: its reference keeps its arguments, and the kernel's result is the
   reference's. -/
module

public import proofs.«01_k».proof.Defs
public import proofs.«01_k».proof.Proof.FfnValue

@[expose] public section

noncomputable section

namespace Cert.Proof

open Idealize.ShloMosaic Idealize.SL.Sem

/-- The reference runs and keeps its arguments; it declares no semaphore. -/
theorem ffn_reference_frame : Cert.quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

/-- The kernel's result is the reference's. -/
theorem ffn_algebraic : Cert.algebraic_FfnIdeal_FfnRefIdeal := fun m ρ m' ρ' _ hagree => by
  refine ⟨Cert.FfnIdeal.Value.result m, Cert.FfnIdeal.Value.run m ρ, ?_⟩
  refine (θ_run Cert.FfnRefIdeal.defs _ _).mono (fun r h c => ⟨(h c).1.trans ?_, (h c).2⟩)
    (Cert.FfnRefIdeal.Value.run (F := Ideal) m' ρ')
  obtain ⟨h0, h1, h2, h3, h4⟩ := hagree c
  rw [Cert.FfnRefIdeal.Read.val_main_v42_eq, h0, h1, h2, h3, h4]
  rfl

end Cert.Proof

end
-- ==== Proof.MixBlock.lean ====
module

public import proofs.«01_k».proof.Proof.Spec
public import proofs.«01_k».proof.Proof.Gen.MixIdeal.Value

@[expose] public section

set_option maxRecDepth 65536

noncomputable section

/-! The mix and second feed-forward half-step's body: what one grid point stores, read at a row and a column. The body
    works on four groups of 256 rows; of each it stores eleven chunks of 256 hidden units and reads the group's rows
    back whole. -/

namespace Cert.MixIdeal.Block

open Cert.MixIdeal Cert.MixIdeal.Gen Idealize.ShloMosaic Idealize.ShloMosaic.TcCoe Idealize.SL.Sem
open Cert.Spec (emb2)

/-! The four groups' payloads are cut at different places; each is the first group's. -/

theorem first1 (a b : Vec Ideal S256x512 .bf16) (w : Vec Ideal S1x1024x1024 .bf16) (x : Vec Ideal S256x1024 .f32) (g o : Vec Ideal S1x1024 .f32) :
    k0_pay2 (F := Ideal) a b w x g o = k0_pay1 a b w x g o := rfl
theorem first2 (a b : Vec Ideal S256x512 .bf16) (w : Vec Ideal S1x1024x1024 .bf16) (x : Vec Ideal S256x1024 .f32) (g o : Vec Ideal S1x1024 .f32) :
    k0_pay4 (F := Ideal) (k0_pay3 a b) w x g o = k0_pay1 a b w x g o := rfl
theorem first3 (a b : Vec Ideal S256x512 .bf16) (w : Vec Ideal S1x1024x1024 .bf16) (x : Vec Ideal S256x1024 .f32) (g o : Vec Ideal S1x1024 .f32) :
    k0_pay6 (F := Ideal) (k0_pay5 a b w) x g o = k0_pay1 a b w x g o := rfl
theorem last1 (x : Vec Ideal S256x1024 .f32) (a : Vec Ideal S256x2816 .bf16) (w : Vec Ideal S1x2816x1024 .bf16) (g o : Vec Ideal S1x1024 .f32) :
    k0_pay55 (F := Ideal) (k0_pay53 x a w) (k0_pay54 g) o = k0_pay30 (k0_pay29 x a w) g o := rfl
theorem last2 (x : Vec Ideal S256x1024 .f32) (a : Vec Ideal S256x2816 .bf16) (w : Vec Ideal S1x2816x1024 .bf16) (g o : Vec Ideal S1x1024 .f32) :
    k0_pay79 (F := Ideal) (k0_pay77 x a w) (k0_pay78 g) o = k0_pay30 (k0_pay29 x a w) g o := rfl
theorem last3 (x : Vec Ideal S256x1024 .f32) (a : Vec Ideal S256x2816 .bf16) (w : Vec Ideal S1x2816x1024 .bf16) (g o : Vec Ideal S1x1024 .f32) :
    k0_pay104 (F := Ideal) (k0_pay101 x a w) (k0_pay102 g) (k0_pay103 o) = k0_pay30 (k0_pay29 x a w) g o := rfl

/-- The first layer norm of a group of rows. -/
theorem first_at (a b : Vec Ideal S256x512 .bf16) (w : Vec Ideal S1x1024x1024 .bf16) (x : Vec Ideal S256x1024 .f32) (g o : Vec Ideal S1x1024 .f32)
    (r : Fin 256) (j : Fin 1024) :
    k0_pay1 (F := Ideal) a b w x g o (ix2 r j)
      = Spec.norm (fun k => Spec.mixed (x (ix2 r k)) (fun l => a (ix2 r l)) (fun l => b (ix2 r l)) (fun l => w (ix3 0 l k)))
          (g (ix2 0 j)) (o (ix2 0 j)) j := by
  pointwise [k0_pay1, Spec.norm, Spec.mean, Spec.mixed]

/-- One chunk of 256 hidden units of a group of rows. -/
theorem chunk_at (x : Vec Ideal S256x1024 .f32) (wg wu : Vec Ideal S1x1024x256 .bf16) (r : Fin 256) (j : Fin 256) :
    k0_pay12 (F := Ideal) (k0_pay7 x) wg wu (ix2 r j)
      = Spec.hidden (fun k => x (ix2 r k)) (fun k => wg (ix3 0 k j)) (fun k => wu (ix3 0 k j)) := by
  pointwise [k0_pay12, k0_pay7, Spec.hidden]
  rw [zero_sub]

/-- The second layer norm of a group of rows. -/
theorem last_at (x : Vec Ideal S256x1024 .f32) (a : Vec Ideal S256x2816 .bf16) (w : Vec Ideal S1x2816x1024 .bf16) (g o : Vec Ideal S1x1024 .f32)
    (r : Fin 256) (j : Fin 1024) :
    k0_pay30 (F := Ideal) (k0_pay29 x a w) g o (ix2 r j)
      = Spec.norm (fun k => Spec.resid (x (ix2 r k)) (fun l => a (ix2 r l)) (fun l => w (ix3 0 l k)))
          (g (ix2 0 j)) (o (ix2 0 j)) j := by
  pointwise [k0_pay30, k0_pay29, Spec.norm, Spec.mean, Spec.resid]

section
variable (x : Vec Ideal S1024x1024 .f32) (yd ys : Vec Ideal S1024x512 .bf16) (wm : Vec Ideal S1x1024x1024 .bf16)
  (gm bm : Vec Ideal S1x1024 .f32) (w : Vec Ideal S1x1024x5632 .bf16)

/-- Row `r` after the mix and the first layer norm, at column `j`. -/
def firstAt (r j : Fin 1024) : Ideal .f32 :=
  Spec.norm (fun k => Spec.mixed (x (ix2 r k)) (fun l => yd (ix2 r l)) (fun l => ys (ix2 r l)) (fun l => wm (ix3 0 l k)))
    (gm (ix2 0 j)) (bm (ix2 0 j)) j

/-- Row `r`'s hidden unit `j`. -/
def unitAt (r : Fin 1024) (j : Fin 2816) : Ideal .f32 :=
  Spec.hidden (fun k => firstAt x yd ys wm gm bm r k) (fun k => w (ix3 0 k ⟨j, by omega⟩)) (fun k => w (ix3 0 k ⟨2816 + j, by omega⟩))

/-- The hidden units of the whole block. -/
def units : Vec Ideal S1024x2816 .bf16 := fun i => unitAt x yd ys wm gm bm w (i 0) (i 1)

variable (a : ℕ)
  (h1 : ∀ k, (![a, 0] : Fin 2 → ℕ) k + S256x512.size k ≤ S1024x512.size k)
  (h0 : ∀ k, (![a, 0] : Fin 2 → ℕ) k + S256x1024.size k ≤ S1024x1024.size k)
  (hm : ∀ k, (![0, 0, 0] : Fin 3 → ℕ) k + S1x1024x1024.size k ≤ S1x1024x1024.size k)
  (hg : ∀ k, (![0, 0] : Fin 2 → ℕ) k + S1x1024.size k ≤ S1x1024.size k)

/-- The group of rows from row `a`, after the first layer norm. -/
abbrev rows : Vec Ideal S256x1024 .f32 :=
  k0_pay1 (F := Ideal) (View.ld (Val := Elt Ideal) (S := S1024x512) (e' := .bf16) yd (Rect.unit ![a, 0] ![256, 512] h1))
    (View.ld (Val := Elt Ideal) (S := S1024x512) (e' := .bf16) ys (Rect.unit ![a, 0] ![256, 512] h1))
    (View.ld (Val := Elt Ideal) (S := S1x1024x1024) (e' := .bf16) wm (Rect.unit ![0, 0, 0] ![1, 1024, 1024] hm))
    (View.ld (Val := Elt Ideal) (S := S1024x1024) (e' := .f32) x (Rect.unit ![a, 0] ![256, 1024] h0))
    (View.ld (Val := Elt Ideal) (S := S1x1024) (e' := .f32) gm (Rect.unit ![0, 0] ![1, 1024] hg))
    (View.ld (Val := Elt Ideal) (S := S1x1024) (e' := .f32) bm (Rect.unit ![0, 0] ![1, 1024] hg))

theorem rows_at (r : Fin 256) (j : Fin 1024) :
    rows x yd ys wm gm bm a h1 h0 hm hg (ix2 r j)
      = firstAt x yd ys wm gm bm ⟨a + r, by have := h0 0; simp at this; omega⟩ j := by
  unfold rows
  rw [first_at]
  unfold firstAt
  pointwise

/-- The chunk stored at row `a` and column `o` holds the block's hidden units there. -/
theorem chunk_units (o o' : ℕ) (ho : o' = 2816 + o)
    (hG : ∀ k, (![0, 0, o] : Fin 3 → ℕ) k + S1x1024x256.size k ≤ S1x1024x5632.size k)
    (hU : ∀ k, (![0, 0, o'] : Fin 3 → ℕ) k + S1x1024x256.size k ≤ S1x1024x5632.size k)
    (hs : ∀ k, (![a, o] : Fin 2 → ℕ) k + S256x256.size k ≤ S1024x2816.size k) (y : S256x256.Idx) :
    k0_pay12 (F := Ideal) (k0_pay7 (rows x yd ys wm gm bm a h1 h0 hm hg))
        (View.ld (Val := Elt Ideal) (S := S1x1024x5632) (e' := .bf16) w (Rect.unit ![0, 0, o] ![1, 1024, 256] hG))
        (View.ld (Val := Elt Ideal) (S := S1x1024x5632) (e' := .bf16) w (Rect.unit ![0, 0, o'] ![1, 1024, 256] hU)) y
      = units x yd ys wm gm bm w ((Rect.unit (s := S1024x2816) ![a, o] ![256, 256] hs).emb y) := by
  subst ho
  idx_vars y
  rw [chunk_at]
  rw [emb2 a o _ _ _ (by have := hs 0; simp at this; omega) (by have := hs 1; simp at this; omega)]
  unfold units unitAt
  simp only [rows_at]
  pointwise
  simp only [Nat.add_assoc, Nat.zero_add]

end

/-- A load of a box that stored pieces cover, each of which agrees with `G`, reads `G`. -/
theorem readCov_of {S : Shape} {e : EltTy} {κ : Kind} {sp : Space} (v : View sig κ sp S e) (L : List (View.Piece (Elt Ideal) S e))
    (B : LoadRect S) (G : Vec Ideal S e) (t : LoadRect.Cov) (hc : LoadRect.covChk (L.map Sigma.fst) B t = true)
    (hL : ∀ p ∈ L, ∀ y, p.2 y = G (p.1.emb y)) : v.readCov L B = fun j => G (B.idx j) := by
  rw [View.readCov_eq_canon']
  funext j
  exact View.canon_apply_of_pieces G L hL _ (LoadRect.cover_of_covChk L B t hc j)

/-- One row of the block after the second layer norm, at a column. -/
def rowAt (x0 : Vec Ideal S1024x1024 .f32) (x1 x2 : Vec Ideal S1024x512 .bf16) (x3 : Vec Ideal S1x1024x1024 .bf16) (x4 x5 : Vec Ideal S1x1024 .f32)
    (x6 : Vec Ideal S1x1024x5632 .bf16) (x7 : Vec Ideal S1x2816x1024 .bf16) (x8 x9 : Vec Ideal S1x1024 .f32) (r j : Fin 1024) : Ideal .f32 :=
  Spec.norm (fun k => Spec.resid (firstAt x0 x1 x2 x3 x4 x5 r k) (fun l => unitAt x0 x1 x2 x3 x4 x5 x6 r l) (fun l => x7 (ix3 0 l k)))
    (x8 (ix2 0 j)) (x9 (ix2 0 j)) j

/-- The cover of a group's rows: its eleven chunks, the last stored first. -/
def cover : LoadRect.Cov := .split 1 256 (.leaf 10) (.split 1 256 (.leaf 9) (.split 1 256 (.leaf 8) (.split 1 256 (.leaf 7) (.split 1 256 (.leaf 6) (.split 1 256 (.leaf 5) (.split 1 256 (.leaf 4) (.split 1 256 (.leaf 3) (.split 1 256 (.leaf 2) (.split 1 256 (.leaf 1) (.leaf 0))))))))))

/-- What the body leaves in the output block, at every index. -/
theorem out_at (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1x1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S1x2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x2816 .bf16) (harg12 : arg12.IsWhole)
    (x0 : Vec Ideal S1024x1024 .f32) (x1 : Vec Ideal S1024x512 .bf16) (x2 : Vec Ideal S1024x512 .bf16) (x3 : Vec Ideal S1x1024x1024 .bf16) (x4 : Vec Ideal S1x1024 .f32) (x5 : Vec Ideal S1x1024 .f32) (x6 : Vec Ideal S1x1024x5632 .bf16) (x7 : Vec Ideal S1x2816x1024 .bf16) (x8 : Vec Ideal S1x1024 .f32) (x9 : Vec Ideal S1x1024 .f32) (y : S1024x1024.Idx) :
    out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y = rowAt x0 x1 x2 x3 x4 x5 x6 x7 x8 x9 (y 0) (y 1) := by
  have hcov := cover0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
  unfold out0_A_10
  rw [View.read_writes_eq_canon _ _ _ hcov]
  refine View.canon_apply_of_pieces (fun y => rowAt x0 x1 x2 x3 x4 x5 x6 x7 x8 x9 (y 0) (y 1)) _ ?_ y (hcov y)
  clear hcov
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  simp only [first1, first2, first3, last1, last2, last3]
  intro p hp
  simp only [List.mem_cons, List.not_mem_nil, or_false] at hp
  rcases hp with rfl | rfl | rfl | rfl <;> intro y <;> dsimp only
  · rw [readCov_of _ _ _ (units x0 x1 x2 x3 x4 x5 x6) cover ?_ ?_]
    · idx_vars y
      rw [last_at, emb2 768 0 _ _ _ (by omega) (by omega)]
      unfold rowAt
      simp only [rows_at]
      pointwise [units]
    · sl_kernel_rfl
    · intro p hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> intro y
      · exact chunk_units x0 x1 x2 x3 x4 x5 x6 768 _ _ _ _ 2560 5376 rfl _ _ inb_S1024x2816_S256x256_768_2560 y
      · exact chunk_units x0 x1 x2 x3 x4 x5 x6 768 _ _ _ _ 2304 5120 rfl _ _ inb_S1024x2816_S256x256_768_2304 y
      · exact chunk_units x0 x1 x2 x3 x4 x5 x6 768 _ _ _ _ 2048 4864 rfl _ _ inb_S1024x2816_S256x256_768_2048 y
      · exact chunk_units x0 x1 x2 x3 x4 x5 x6 768 _ _ _ _ 1792 4608 rfl _ _ inb_S1024x2816_S256x256_768_1792 y
      · exact chunk_units x0 x1 x2 x3 x4 x5 x6 768 _ _ _ _ 1536 4352 rfl _ _ inb_S1024x2816_S256x256_768_1536 y
      · exact chunk_units x0 x1 x2 x3 x4 x5 x6 768 _ _ _ _ 1280 4096 rfl _ _ inb_S1024x2816_S256x256_768_1280 y
      · exact chunk_units x0 x1 x2 x3 x4 x5 x6 768 _ _ _ _ 1024 3840 rfl _ _ inb_S1024x2816_S256x256_768_1024 y
      · exact chunk_units x0 x1 x2 x3 x4 x5 x6 768 _ _ _ _ 768 3584 rfl _ _ inb_S1024x2816_S256x256_768_768 y
      · exact chunk_units x0 x1 x2 x3 x4 x5 x6 768 _ _ _ _ 512 3328 rfl _ _ inb_S1024x2816_S256x256_768_512 y
      · exact chunk_units x0 x1 x2 x3 x4 x5 x6 768 _ _ _ _ 256 3072 rfl _ _ inb_S1024x2816_S256x256_768_256 y
      · exact chunk_units x0 x1 x2 x3 x4 x5 x6 768 _ _ _ _ 0 2816 rfl _ _ inb_S1024x2816_S256x256_768_0 y
      · exact chunk_units x0 x1 x2 x3 x4 x5 x6 512 _ _ _ _ 2560 5376 rfl _ _ inb_S1024x2816_S256x256_512_2560 y
      · exact chunk_units x0 x1 x2 x3 x4 x5 x6 512 _ _ _ _ 2304 5120 rfl _ _ inb_S1024x2816_S256x256_512_2304 y
      · exact chunk_units x0 x1 x2 x3 x4 x5 x6 512 _ _ _ _ 2048 4864 rfl _ _ inb_S1024x2816_S256x256_512_2048 y
      · exact chunk_units x0 x1 x2 x3 x4 x5 x6 512 _ _ _ _ 1792 4608 rfl _ _ inb_S1024x2816_S256x256_512_1792 y
      · exact chunk_units x0 x1 x2 x3 x4 x5 x6 512 _ _ _ _ 1536 4352 rfl _ _ inb_S1024x2816_S256x256_512_1536 y
      · exact chunk_units x0 x1 x2 x3 x4 x5 x6 512 _ _ _ _ 1280 4096 rfl _ _ inb_S1024x2816_S256x256_512_1280 y
      · exact chunk_units x0 x1 x2 x3 x4 x5 x6 512 _ _ _ _ 1024 3840 rfl _ _ inb_S1024x2816_S256x256_512_1024 y
      · exact chunk_units x0 x1 x2 x3 x4 x5 x6 512 _ _ _ _ 768 3584 rfl _ _ inb_S1024x2816_S256x256_512_768 y
      · exact chunk_units x0 x1 x2 x3 x4 x5 x6 512 _ _ _ _ 512 3328 rfl _ _ inb_S1024x2816_S256x256_512_512 y
      · exact chunk_units x0 x1 x2 x3 x4 x5 x6 512 _ _ _ _ 256 3072 rfl _ _ inb_S1024x2816_S256x256_512_256 y
      · exact chunk_units x0 x1 x2 x3 x4 x5 x6 512 _ _ _ _ 0 2816 rfl _ _ inb_S1024x2816_S256x256_512_0 y
      · exact chunk_units x0 x1 x2 x3 x4 x5 x6 256 _ _ _ _ 2560 5376 rfl _ _ inb_S1024x2816_S256x256_256_2560 y
      · exact chunk_units x0 x1 x2 x3 x4 x5 x6 256 _ _ _ _ 2304 5120 rfl _ _ inb_S1024x2816_S256x256_256_2304 y
      · exact chunk_units x0 x1 x2 x3 x4 x5 x6 256 _ _ _ _ 2048 4864 rfl _ _ inb_S1024x2816_S256x256_256_2048 y
      · exact chunk_units x0 x1 x2 x3 x4 x5 x6 256 _ _ _ _ 1792 4608 rfl _ _ inb_S1024x2816_S256x256_256_1792 y
      · exact chunk_units x0 x1 x2 x3 x4 x5 x6 256 _ _ _ _ 1536 4352 rfl _ _ inb_S1024x2816_S256x256_256_1536 y
      · exact chunk_units x0 x1 x2 x3 x4 x5 x6 256 _ _ _ _ 1280 4096 rfl _ _ inb_S1024x2816_S256x256_256_1280 y
      · exact chunk_units x0 x1 x2 x3 x4 x5 x6 256 _ _ _ _ 1024 3840 rfl _ _ inb_S1024x2816_S256x256_256_1024 y
      · exact chunk_units x0 x1 x2 x3 x4 x5 x6 256 _ _ _ _ 768 3584 rfl _ _ inb_S1024x2816_S256x256_256_768 y
      · exact chunk_units x0 x1 x2 x3 x4 x5 x6 256 _ _ _ _ 512 3328 rfl _ _ inb_S1024x2816_S256x256_256_512 y
      · exact chunk_units x0 x1 x2 x3 x4 x5 x6 256 _ _ _ _ 256 3072 rfl _ _ inb_S1024x2816_S256x256_256_256 y
      · exact chunk_units x0 x1 x2 x3 x4 x5 x6 256 _ _ _ _ 0 2816 rfl _ _ inb_S1024x2816_S256x256_256_0 y
      · exact chunk_units x0 x1 x2 x3 x4 x5 x6 0 _ _ _ _ 2560 5376 rfl _ _ inb_S1024x2816_S256x256_0_2560 y
      · exact chunk_units x0 x1 x2 x3 x4 x5 x6 0 _ _ _ _ 2304 5120 rfl _ _ inb_S1024x2816_S256x256_0_2304 y
      · exact chunk_units x0 x1 x2 x3 x4 x5 x6 0 _ _ _ _ 2048 4864 rfl _ _ inb_S1024x2816_S256x256_0_2048 y
      · exact chunk_units x0 x1 x2 x3 x4 x5 x6 0 _ _ _ _ 1792 4608 rfl _ _ inb_S1024x2816_S256x256_0_1792 y
      · exact chunk_units x0 x1 x2 x3 x4 x5 x6 0 _ _ _ _ 1536 4352 rfl _ _ inb_S1024x2816_S256x256_0_1536 y
      · exact chunk_units x0 x1 x2 x3 x4 x5 x6 0 _ _ _ _ 1280 4096 rfl _ _ inb_S1024x2816_S256x256_0_1280 y
      · exact chunk_units x0 x1 x2 x3 x4 x5 x6 0 _ _ _ _ 1024 3840 rfl _ _ inb_S1024x2816_S256x256_0_1024 y
      · exact chunk_units x0 x1 x2 x3 x4 x5 x6 0 _ _ _ _ 768 3584 rfl _ _ inb_S1024x2816_S256x256_0_768 y
      · exact chunk_units x0 x1 x2 x3 x4 x5 x6 0 _ _ _ _ 512 3328 rfl _ _ inb_S1024x2816_S256x256_0_512 y
      · exact chunk_units x0 x1 x2 x3 x4 x5 x6 0 _ _ _ _ 256 3072 rfl _ _ inb_S1024x2816_S256x256_0_256 y
      · exact chunk_units x0 x1 x2 x3 x4 x5 x6 0 _ _ _ _ 0 2816 rfl _ _ inb_S1024x2816_S256x256_0_0 y
  · rw [readCov_of _ _ _ (units x0 x1 x2 x3 x4 x5 x6) cover ?_ ?_]
    · idx_vars y
      rw [last_at, emb2 512 0 _ _ _ (by omega) (by omega)]
      unfold rowAt
      simp only [rows_at]
      pointwise [units]
    · sl_kernel_rfl
    · intro p hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> intro y
      · exact chunk_units x0 x1 x2 x3 x4 x5 x6 512 _ _ _ _ 2560 5376 rfl _ _ inb_S1024x2816_S256x256_512_2560 y
      · exact chunk_units x0 x1 x2 x3 x4 x5 x6 512 _ _ _ _ 2304 5120 rfl _ _ inb_S1024x2816_S256x256_512_2304 y
      · exact chunk_units x0 x1 x2 x3 x4 x5 x6 512 _ _ _ _ 2048 4864 rfl _ _ inb_S1024x2816_S256x256_512_2048 y
      · exact chunk_units x0 x1 x2 x3 x4 x5 x6 512 _ _ _ _ 1792 4608 rfl _ _ inb_S1024x2816_S256x256_512_1792 y
      · exact chunk_units x0 x1 x2 x3 x4 x5 x6 512 _ _ _ _ 1536 4352 rfl _ _ inb_S1024x2816_S256x256_512_1536 y
      · exact chunk_units x0 x1 x2 x3 x4 x5 x6 512 _ _ _ _ 1280 4096 rfl _ _ inb_S1024x2816_S256x256_512_1280 y
      · exact chunk_units x0 x1 x2 x3 x4 x5 x6 512 _ _ _ _ 1024 3840 rfl _ _ inb_S1024x2816_S256x256_512_1024 y
      · exact chunk_units x0 x1 x2 x3 x4 x5 x6 512 _ _ _ _ 768 3584 rfl _ _ inb_S1024x2816_S256x256_512_768 y
      · exact chunk_units x0 x1 x2 x3 x4 x5 x6 512 _ _ _ _ 512 3328 rfl _ _ inb_S1024x2816_S256x256_512_512 y
      · exact chunk_units x0 x1 x2 x3 x4 x5 x6 512 _ _ _ _ 256 3072 rfl _ _ inb_S1024x2816_S256x256_512_256 y
      · exact chunk_units x0 x1 x2 x3 x4 x5 x6 512 _ _ _ _ 0 2816 rfl _ _ inb_S1024x2816_S256x256_512_0 y
      · exact chunk_units x0 x1 x2 x3 x4 x5 x6 256 _ _ _ _ 2560 5376 rfl _ _ inb_S1024x2816_S256x256_256_2560 y
      · exact chunk_units x0 x1 x2 x3 x4 x5 x6 256 _ _ _ _ 2304 5120 rfl _ _ inb_S1024x2816_S256x256_256_2304 y
      · exact chunk_units x0 x1 x2 x3 x4 x5 x6 256 _ _ _ _ 2048 4864 rfl _ _ inb_S1024x2816_S256x256_256_2048 y
      · exact chunk_units x0 x1 x2 x3 x4 x5 x6 256 _ _ _ _ 1792 4608 rfl _ _ inb_S1024x2816_S256x256_256_1792 y
      · exact chunk_units x0 x1 x2 x3 x4 x5 x6 256 _ _ _ _ 1536 4352 rfl _ _ inb_S1024x2816_S256x256_256_1536 y
      · exact chunk_units x0 x1 x2 x3 x4 x5 x6 256 _ _ _ _ 1280 4096 rfl _ _ inb_S1024x2816_S256x256_256_1280 y
      · exact chunk_units x0 x1 x2 x3 x4 x5 x6 256 _ _ _ _ 1024 3840 rfl _ _ inb_S1024x2816_S256x256_256_1024 y
      · exact chunk_units x0 x1 x2 x3 x4 x5 x6 256 _ _ _ _ 768 3584 rfl _ _ inb_S1024x2816_S256x256_256_768 y
      · exact chunk_units x0 x1 x2 x3 x4 x5 x6 256 _ _ _ _ 512 3328 rfl _ _ inb_S1024x2816_S256x256_256_512 y
      · exact chunk_units x0 x1 x2 x3 x4 x5 x6 256 _ _ _ _ 256 3072 rfl _ _ inb_S1024x2816_S256x256_256_256 y
      · exact chunk_units x0 x1 x2 x3 x4 x5 x6 256 _ _ _ _ 0 2816 rfl _ _ inb_S1024x2816_S256x256_256_0 y
      · exact chunk_units x0 x1 x2 x3 x4 x5 x6 0 _ _ _ _ 2560 5376 rfl _ _ inb_S1024x2816_S256x256_0_2560 y
      · exact chunk_units x0 x1 x2 x3 x4 x5 x6 0 _ _ _ _ 2304 5120 rfl _ _ inb_S1024x2816_S256x256_0_2304 y
      · exact chunk_units x0 x1 x2 x3 x4 x5 x6 0 _ _ _ _ 2048 4864 rfl _ _ inb_S1024x2816_S256x256_0_2048 y
      · exact chunk_units x0 x1 x2 x3 x4 x5 x6 0 _ _ _ _ 1792 4608 rfl _ _ inb_S1024x2816_S256x256_0_1792 y
      · exact chunk_units x0 x1 x2 x3 x4 x5 x6 0 _ _ _ _ 1536 4352 rfl _ _ inb_S1024x2816_S256x256_0_1536 y
      · exact chunk_units x0 x1 x2 x3 x4 x5 x6 0 _ _ _ _ 1280 4096 rfl _ _ inb_S1024x2816_S256x256_0_1280 y
      · exact chunk_units x0 x1 x2 x3 x4 x5 x6 0 _ _ _ _ 1024 3840 rfl _ _ inb_S1024x2816_S256x256_0_1024 y
      · exact chunk_units x0 x1 x2 x3 x4 x5 x6 0 _ _ _ _ 768 3584 rfl _ _ inb_S1024x2816_S256x256_0_768 y
      · exact chunk_units x0 x1 x2 x3 x4 x5 x6 0 _ _ _ _ 512 3328 rfl _ _ inb_S1024x2816_S256x256_0_512 y
      · exact chunk_units x0 x1 x2 x3 x4 x5 x6 0 _ _ _ _ 256 3072 rfl _ _ inb_S1024x2816_S256x256_0_256 y
      · exact chunk_units x0 x1 x2 x3 x4 x5 x6 0 _ _ _ _ 0 2816 rfl _ _ inb_S1024x2816_S256x256_0_0 y
  · rw [readCov_of _ _ _ (units x0 x1 x2 x3 x4 x5 x6) cover ?_ ?_]
    · idx_vars y
      rw [last_at, emb2 256 0 _ _ _ (by omega) (by omega)]
      unfold rowAt
      simp only [rows_at]
      pointwise [units]
    · sl_kernel_rfl
    · intro p hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl <;> intro y
      · exact chunk_units x0 x1 x2 x3 x4 x5 x6 256 _ _ _ _ 2560 5376 rfl _ _ inb_S1024x2816_S256x256_256_2560 y
      · exact chunk_units x0 x1 x2 x3 x4 x5 x6 256 _ _ _ _ 2304 5120 rfl _ _ inb_S1024x2816_S256x256_256_2304 y
      · exact chunk_units x0 x1 x2 x3 x4 x5 x6 256 _ _ _ _ 2048 4864 rfl _ _ inb_S1024x2816_S256x256_256_2048 y
      · exact chunk_units x0 x1 x2 x3 x4 x5 x6 256 _ _ _ _ 1792 4608 rfl _ _ inb_S1024x2816_S256x256_256_1792 y
      · exact chunk_units x0 x1 x2 x3 x4 x5 x6 256 _ _ _ _ 1536 4352 rfl _ _ inb_S1024x2816_S256x256_256_1536 y
      · exact chunk_units x0 x1 x2 x3 x4 x5 x6 256 _ _ _ _ 1280 4096 rfl _ _ inb_S1024x2816_S256x256_256_1280 y
      · exact chunk_units x0 x1 x2 x3 x4 x5 x6 256 _ _ _ _ 1024 3840 rfl _ _ inb_S1024x2816_S256x256_256_1024 y
      · exact chunk_units x0 x1 x2 x3 x4 x5 x6 256 _ _ _ _ 768 3584 rfl _ _ inb_S1024x2816_S256x256_256_768 y
      · exact chunk_units x0 x1 x2 x3 x4 x5 x6 256 _ _ _ _ 512 3328 rfl _ _ inb_S1024x2816_S256x256_256_512 y
      · exact chunk_units x0 x1 x2 x3 x4 x5 x6 256 _ _ _ _ 256 3072 rfl _ _ inb_S1024x2816_S256x256_256_256 y
      · exact chunk_units x0 x1 x2 x3 x4 x5 x6 256 _ _ _ _ 0 2816 rfl _ _ inb_S1024x2816_S256x256_256_0 y
      · exact chunk_units x0 x1 x2 x3 x4 x5 x6 0 _ _ _ _ 2560 5376 rfl _ _ inb_S1024x2816_S256x256_0_2560 y
      · exact chunk_units x0 x1 x2 x3 x4 x5 x6 0 _ _ _ _ 2304 5120 rfl _ _ inb_S1024x2816_S256x256_0_2304 y
      · exact chunk_units x0 x1 x2 x3 x4 x5 x6 0 _ _ _ _ 2048 4864 rfl _ _ inb_S1024x2816_S256x256_0_2048 y
      · exact chunk_units x0 x1 x2 x3 x4 x5 x6 0 _ _ _ _ 1792 4608 rfl _ _ inb_S1024x2816_S256x256_0_1792 y
      · exact chunk_units x0 x1 x2 x3 x4 x5 x6 0 _ _ _ _ 1536 4352 rfl _ _ inb_S1024x2816_S256x256_0_1536 y
      · exact chunk_units x0 x1 x2 x3 x4 x5 x6 0 _ _ _ _ 1280 4096 rfl _ _ inb_S1024x2816_S256x256_0_1280 y
      · exact chunk_units x0 x1 x2 x3 x4 x5 x6 0 _ _ _ _ 1024 3840 rfl _ _ inb_S1024x2816_S256x256_0_1024 y
      · exact chunk_units x0 x1 x2 x3 x4 x5 x6 0 _ _ _ _ 768 3584 rfl _ _ inb_S1024x2816_S256x256_0_768 y
      · exact chunk_units x0 x1 x2 x3 x4 x5 x6 0 _ _ _ _ 512 3328 rfl _ _ inb_S1024x2816_S256x256_0_512 y
      · exact chunk_units x0 x1 x2 x3 x4 x5 x6 0 _ _ _ _ 256 3072 rfl _ _ inb_S1024x2816_S256x256_0_256 y
      · exact chunk_units x0 x1 x2 x3 x4 x5 x6 0 _ _ _ _ 0 2816 rfl _ _ inb_S1024x2816_S256x256_0_0 y
  · rw [readCov_of _ _ _ (units x0 x1 x2 x3 x4 x5 x6) cover ?_ ?_]
    · idx_vars y
      rw [last_at, emb2 0 0 _ _ _ (by omega) (by omega)]
      unfold rowAt
      simp only [rows_at]
      pointwise [units]
    · sl_kernel_rfl
    · intro p hp
      simp only [List.mem_cons, List.not_mem_nil, or_false] at hp
      rcases hp with rfl | rfl | rfl | rfl | rfl | rfl | rfl | rfl | rfl | rfl | rfl <;> intro y
      · exact chunk_units x0 x1 x2 x3 x4 x5 x6 0 _ _ _ _ 2560 5376 rfl _ _ inb_S1024x2816_S256x256_0_2560 y
      · exact chunk_units x0 x1 x2 x3 x4 x5 x6 0 _ _ _ _ 2304 5120 rfl _ _ inb_S1024x2816_S256x256_0_2304 y
      · exact chunk_units x0 x1 x2 x3 x4 x5 x6 0 _ _ _ _ 2048 4864 rfl _ _ inb_S1024x2816_S256x256_0_2048 y
      · exact chunk_units x0 x1 x2 x3 x4 x5 x6 0 _ _ _ _ 1792 4608 rfl _ _ inb_S1024x2816_S256x256_0_1792 y
      · exact chunk_units x0 x1 x2 x3 x4 x5 x6 0 _ _ _ _ 1536 4352 rfl _ _ inb_S1024x2816_S256x256_0_1536 y
      · exact chunk_units x0 x1 x2 x3 x4 x5 x6 0 _ _ _ _ 1280 4096 rfl _ _ inb_S1024x2816_S256x256_0_1280 y
      · exact chunk_units x0 x1 x2 x3 x4 x5 x6 0 _ _ _ _ 1024 3840 rfl _ _ inb_S1024x2816_S256x256_0_1024 y
      · exact chunk_units x0 x1 x2 x3 x4 x5 x6 0 _ _ _ _ 768 3584 rfl _ _ inb_S1024x2816_S256x256_0_768 y
      · exact chunk_units x0 x1 x2 x3 x4 x5 x6 0 _ _ _ _ 512 3328 rfl _ _ inb_S1024x2816_S256x256_0_512 y
      · exact chunk_units x0 x1 x2 x3 x4 x5 x6 0 _ _ _ _ 256 3072 rfl _ _ inb_S1024x2816_S256x256_0_256 y
      · exact chunk_units x0 x1 x2 x3 x4 x5 x6 0 _ _ _ _ 0 2816 rfl _ _ inb_S1024x2816_S256x256_0_0 y

end Cert.MixIdeal.Block

end
-- ==== Proof.MixRef.lean ====
module

public import proofs.«01_k».proof.Proof.Spec
public import proofs.«01_k».proof.Proof.Gen.MixRefIdeal.Read

@[expose] public section

set_option maxRecDepth 16384

noncomputable section

/-! The reference of the mix and the second feed-forward half-step, read at an index. -/

namespace Cert.MixRefIdeal.Read

open Cert.MixRefIdeal Cert.MixRefIdeal.Gen Idealize.ShloMosaic

variable (x0 : Vec Ideal S65536x1024 .f32) (x1 x2 : Vec Ideal S65536x512 .bf16) (x3 : Vec Ideal S4x1024x1024 .f32)
  (x4 : Vec Ideal S4x1024x5632 .f32) (x5 : Vec Ideal S4x2816x1024 .f32) (x6 x7 : Vec Ideal S4x3x1024 .f32)

theorem mixed_at (r : Fin 65536) (j : Fin 1024) :
    val_main_v8 (F := Ideal) x0 x1 x2 x3 (ix2 r j) = Spec.mixed (x0 (ix2 r j)) (fun k => x1 (ix2 r k)) (fun k => x2 (ix2 r k))
      (fun k => x3 (ix3 0 k j)) := by
  pointwise [val_main_v8, val_main_v7, val_main_v6, val_main_v5, val_main_v4, val_main_v3, val_main_v2, val_main_v1,
    val_main_v0, val_main_cst, Spec.mixed]

theorem first_at (r : Fin 65536) (j : Fin 1024) :
    val_main_v36 (F := Ideal) x0 x1 x2 x3 x6 x7 (ix2 r j) = Spec.norm (fun k => val_main_v8 (F := Ideal) x0 x1 x2 x3 (ix2 r k))
      (x6 (ix3 0 1 j)) (x7 (ix3 0 1 j)) j := by
  unfold val_main_v36 val_main_v33 val_main_v30 val_main_v25 val_main_v24 val_main_v29 val_main_v28 val_main_v27
    val_main_v23 val_main_v21 val_main_v20 val_main_v19 val_main_v18 val_main_v17 val_main_v16 val_main_v14 val_main_v13
  generalize val_main_v8 (F := Ideal) x0 x1 x2 x3 = z
  pointwise [val_main_v9, val_main_v10, val_main_v11, val_main_v12, val_main_v31, val_main_v32, val_main_v34, val_main_v35,
    val_main_v26, val_main_v22, val_main_v15, val_main_cst_0, val_main_cst_1,
    val_main_cst_2, val_main_cst_3, val_main_cst_4, Spec.norm, Spec.mean]

theorem hidden_at (r : Fin 65536) (j : Fin 2816) :
    val_main_v47 (F := Ideal) x0 x1 x2 x3 x4 x6 x7 (ix2 r j)
      = Spec.hidden (fun k => val_main_v36 (F := Ideal) x0 x1 x2 x3 x6 x7 (ix2 r k)) (fun k => x4 (ix3 0 k ⟨j, by omega⟩))
      (fun k => x4 (ix3 0 k ⟨2816 + j, by omega⟩)) := by
  unfold val_main_v47 val_main_v46 val_main_v45 val_main_call0_v5 val_main_call0_v3 val_main_call0_v1 val_main_call0_v0
    val_main_v44 val_main_v43
  generalize val_main_v36 (F := Ideal) x0 x1 x2 x3 x6 x7 = z
  pointwise [val_main_v40, val_main_v39, val_main_call0_v2, val_main_call0_v4,
    val_main_call0_cst, val_main_call0_cst_0, Spec.hidden]

theorem resid_at (r : Fin 65536) (j : Fin 1024) :
    val_main_v51 (F := Ideal) x0 x1 x2 x3 x4 x5 x6 x7 (ix2 r j)
      = Spec.resid (val_main_v36 (F := Ideal) x0 x1 x2 x3 x6 x7 (ix2 r j))
        (fun k => val_main_v47 (F := Ideal) x0 x1 x2 x3 x4 x6 x7 (ix2 r k)) (fun k => x5 (ix3 0 k j)) := by
  unfold val_main_v51 val_main_v50 val_main_v48 val_main_v38
  generalize val_main_v36 (F := Ideal) x0 x1 x2 x3 x6 x7 = z
  generalize val_main_v47 (F := Ideal) x0 x1 x2 x3 x4 x6 x7 = h
  pointwise [val_main_v49, val_main_v42, val_main_v41, val_main_v37, val_main_cst_5, val_main_cst_6, Spec.resid]

theorem norm_at (r : Fin 65536) (j : Fin 1024) :
    val_main_v79 (F := Ideal) x0 x1 x2 x3 x4 x5 x6 x7 (ix2 r j)
      = Spec.norm (fun k => val_main_v51 (F := Ideal) x0 x1 x2 x3 x4 x5 x6 x7 (ix2 r k))
      (x6 (ix3 0 2 j)) (x7 (ix3 0 2 j)) j := by
  unfold val_main_v79 val_main_v76 val_main_v73 val_main_v68 val_main_v67 val_main_v72 val_main_v71 val_main_v70
    val_main_v66 val_main_v64 val_main_v63 val_main_v62 val_main_v61 val_main_v60 val_main_v59 val_main_v57 val_main_v56
  generalize val_main_v51 (F := Ideal) x0 x1 x2 x3 x4 x5 x6 x7 = z
  pointwise [val_main_v52, val_main_v53, val_main_v54, val_main_v55, val_main_v74, val_main_v75, val_main_v77, val_main_v78,
    val_main_v69, val_main_v65, val_main_v58, val_main_cst_7, val_main_cst_8,
    val_main_cst_9, val_main_cst_10, val_main_cst_11, Spec.norm, Spec.mean]

end Cert.MixRefIdeal.Read

end
-- ==== Proof.MixValue.lean ====
module

public import proofs.«01_k».proof.Proof.MixBlock
public import proofs.«01_k».proof.Proof.MixRef

@[expose] public section

set_option maxRecDepth 16384

noncomputable section

/-! The mix and second feed-forward half-step: the array after the run is the reference's function of the arguments. -/

namespace Cert.MixIdeal.Value

open Cert.MixIdeal Cert.MixIdeal.Gen Cert.MixIdeal.Block Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's result as a function of the kernel's arguments. -/
def result (c : Dev nD) : Vec Ideal S65536x1024 .f32 :=
  MixRefIdeal.Read.val_main_v79 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-! What the region finds in the arrays it reads. -/

theorem V_w_mix (c : Dev nD) : V m c main_v0 = (m ((c : Thread nD τ).loc main_arg3) : Vec Ideal S4x1024x1024 .f32) := by
  unfold V; after_results_simp <;> rfl

theorem V_w_in (c : Dev nD) : V m c main_v7 = (m ((c : Thread nD τ).loc main_arg4) : Vec Ideal S4x1024x5632 .f32) := by
  unfold V; after_results_simp <;> rfl

theorem V_w_out (c : Dev nD) : V m c main_v8 = (m ((c : Thread nD τ).loc main_arg5) : Vec Ideal S4x2816x1024 .f32) := by
  unfold V; after_results_simp <;> rfl

theorem V_gm (c : Dev nD) (j : Fin 1024) : (V m c main_v3 : Vec Ideal S1x1024 .f32) (ix2 0 j)
    = (m ((c : Thread nD τ).loc main_arg6) : Vec Ideal S4x3x1024 .f32) (ix3 0 1 j) := by
  unfold V; after_results_simp <;> pointwise

theorem V_bm (c : Dev nD) (j : Fin 1024) : (V m c main_v6 : Vec Ideal S1x1024 .f32) (ix2 0 j)
    = (m ((c : Thread nD τ).loc main_arg7) : Vec Ideal S4x3x1024 .f32) (ix3 0 1 j) := by
  unfold V; after_results_simp <;> pointwise

theorem V_g (c : Dev nD) (j : Fin 1024) : (V m c main_v11 : Vec Ideal S1x1024 .f32) (ix2 0 j)
    = (m ((c : Thread nD τ).loc main_arg6) : Vec Ideal S4x3x1024 .f32) (ix3 0 2 j) := by
  unfold V; after_results_simp <;> pointwise

theorem V_b (c : Dev nD) (j : Fin 1024) : (V m c main_v14 : Vec Ideal S1x1024 .f32) (ix2 0 j)
    = (m ((c : Thread nD τ).loc main_arg7) : Vec Ideal S4x3x1024 .f32) (ix3 0 2 j) := by
  unfold V; after_results_simp <;> pointwise

/-! The input blocks at a grid point, read at an index. -/

theorem blk_x (c : Dev nD) (t : Fin cfg0.N) (r : Fin 1024) (k : Fin 1024) (h : 1024 * t.val + r.val < 65536) :
    (iblk m c 0 t : Vec Ideal S1024x1024 .f32) (ix2 r k) = (V m c main_arg0 : Vec Ideal S65536x1024 .f32) (ix2 ⟨1024 * t.val + r.val, h⟩ k) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_arg0 _ = V m c main_arg0 _
  congr 1
  funext a
  apply Fin.ext
  match a with
  | ⟨0, _⟩ => show win0_0.index t 0 * 1024 + 1 * r.val = 1024 * t.val + r.val; rw [hi.1]; omega
  | ⟨1, _⟩ => show win0_0.index t 1 * 1024 + 1 * k.val = k.val; rw [hi.2]; omega

theorem blk_yd (c : Dev nD) (t : Fin cfg0.N) (r : Fin 1024) (k : Fin 512) (h : 1024 * t.val + r.val < 65536) :
    (iblk m c 1 t : Vec Ideal S1024x512 .bf16) (ix2 r k) = (V m c main_arg1 : Vec Ideal S65536x512 .bf16) (ix2 ⟨1024 * t.val + r.val, h⟩ k) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_arg1 _ = V m c main_arg1 _
  congr 1
  funext a
  apply Fin.ext
  match a with
  | ⟨0, _⟩ => show win0_1.index t 0 * 1024 + 1 * r.val = 1024 * t.val + r.val; rw [hi.1]; omega
  | ⟨1, _⟩ => show win0_1.index t 1 * 512 + 1 * k.val = k.val; rw [hi.2]; omega

theorem blk_ys (c : Dev nD) (t : Fin cfg0.N) (r : Fin 1024) (k : Fin 512) (h : 1024 * t.val + r.val < 65536) :
    (iblk m c 2 t : Vec Ideal S1024x512 .bf16) (ix2 r k) = (V m c main_arg2 : Vec Ideal S65536x512 .bf16) (ix2 ⟨1024 * t.val + r.val, h⟩ k) := by
  have hi : win0_2.index t 0 = t.val ∧ win0_2.index t 1 = 0 :=
    (by decide +kernel : ∀ t : Fin grid0.N, win0_2.index t 0 = t.val ∧ win0_2.index t 1 = 0) t
  unfold iblk
  rw [View.read_apply]
  show V m c main_arg2 _ = V m c main_arg2 _
  congr 1
  funext a
  apply Fin.ext
  match a with
  | ⟨0, _⟩ => show win0_2.index t 0 * 1024 + 1 * r.val = 1024 * t.val + r.val; rw [hi.1]; omega
  | ⟨1, _⟩ => show win0_2.index t 1 * 512 + 1 * k.val = k.val; rw [hi.2]; omega

theorem blk_w_mix (c : Dev nD) (t : Fin cfg0.N) (k : Fin 1024) (l : Fin 1024) :
    (iblk m c 3 t : Vec Ideal S1x1024x1024 .bf16) (ix3 0 k l) = (V m c main_v0 : Vec Ideal S4x1024x1024 .bf16) (ix3 0 k l) := by
  have hi : win0_3.index t 0 = 0 ∧ win0_3.index t 1 = 0 ∧ win0_3.index t 2 = 0 :=
    (by decide +kernel : ∀ t : Fin grid0.N, win0_3.index t 0 = 0 ∧ win0_3.index t 1 = 0 ∧ win0_3.index t 2 = 0) t
  unfold iblk
  rw [View.read_apply]
  show V m c main_v0 _ = V m c main_v0 _
  congr 1
  funext a
  apply Fin.ext
  match a with
  | ⟨0, _⟩ => show win0_3.index t 0 * 1 + 1 * 0 = 0; rw [hi.1]
  | ⟨1, _⟩ => show win0_3.index t 1 * 1024 + 1 * k.val = k.val; rw [hi.2.1]; omega
  | ⟨2, _⟩ => show win0_3.index t 2 * 1024 + 1 * l.val = l.val; rw [hi.2.2]; omega

theorem blk_w_in (c : Dev nD) (t : Fin cfg0.N) (k : Fin 1024) (l : Fin 5632) :
    (iblk m c 6 t : Vec Ideal S1x1024x5632 .bf16) (ix3 0 k l) = (V m c main_v7 : Vec Ideal S4x1024x5632 .bf16) (ix3 0 k l) := by
  have hi : win0_6.index t 0 = 0 ∧ win0_6.index t 1 = 0 ∧ win0_6.index t 2 = 0 :=
    (by decide +kernel : ∀ t : Fin grid0.N, win0_6.index t 0 = 0 ∧ win0_6.index t 1 = 0 ∧ win0_6.index t 2 = 0) t
  unfold iblk
  rw [View.read_apply]
  show V m c main_v7 _ = V m c main_v7 _
  congr 1
  funext a
  apply Fin.ext
  match a with
  | ⟨0, _⟩ => show win0_6.index t 0 * 1 + 1 * 0 = 0; rw [hi.1]
  | ⟨1, _⟩ => show win0_6.index t 1 * 1024 + 1 * k.val = k.val; rw [hi.2.1]; omega
  | ⟨2, _⟩ => show win0_6.index t 2 * 5632 + 1 * l.val = l.val; rw [hi.2.2]; omega

theorem blk_w_out (c : Dev nD) (t : Fin cfg0.N) (k : Fin 2816) (l : Fin 1024) :
    (iblk m c 7 t : Vec Ideal S1x2816x1024 .bf16) (ix3 0 k l) = (V m c main_v8 : Vec Ideal S4x2816x1024 .bf16) (ix3 0 k l) := by
  have hi : win0_7.index t 0 = 0 ∧ win0_7.index t 1 = 0 ∧ win0_7.index t 2 = 0 :=
    (by decide +kernel : ∀ t : Fin grid0.N, win0_7.index t 0 = 0 ∧ win0_7.index t 1 = 0 ∧ win0_7.index t 2 = 0) t
  unfold iblk
  rw [View.read_apply]
  show V m c main_v8 _ = V m c main_v8 _
  congr 1
  funext a
  apply Fin.ext
  match a with
  | ⟨0, _⟩ => show win0_7.index t 0 * 1 + 1 * 0 = 0; rw [hi.1]
  | ⟨1, _⟩ => show win0_7.index t 1 * 2816 + 1 * k.val = k.val; rw [hi.2.1]; omega
  | ⟨2, _⟩ => show win0_7.index t 2 * 1024 + 1 * l.val = l.val; rw [hi.2.2]; omega

theorem blk_gm (c : Dev nD) (t : Fin cfg0.N) (k : Fin 1024) :
    (iblk m c 4 t : Vec Ideal S1x1024 .f32) (ix2 0 k) = (V m c main_v3 : Vec Ideal S1x1024 .f32) (ix2 0 k) := by
  have hi : win0_4.index t 0 = 0 ∧ win0_4.index t 1 = 0 :=
    (by decide +kernel : ∀ t : Fin grid0.N, win0_4.index t 0 = 0 ∧ win0_4.index t 1 = 0) t
  unfold iblk
  rw [View.read_apply]
  show V m c main_v3 _ = V m c main_v3 _
  congr 1
  funext a
  apply Fin.ext
  match a with
  | ⟨0, _⟩ => show win0_4.index t 0 * 1 + 1 * 0 = 0; rw [hi.1]
  | ⟨1, _⟩ => show win0_4.index t 1 * 1024 + 1 * k.val = k.val; rw [hi.2]; omega

theorem blk_bm (c : Dev nD) (t : Fin cfg0.N) (k : Fin 1024) :
    (iblk m c 5 t : Vec Ideal S1x1024 .f32) (ix2 0 k) = (V m c main_v6 : Vec Ideal S1x1024 .f32) (ix2 0 k) := by
  have hi : win0_5.index t 0 = 0 ∧ win0_5.index t 1 = 0 :=
    (by decide +kernel : ∀ t : Fin grid0.N, win0_5.index t 0 = 0 ∧ win0_5.index t 1 = 0) t
  unfold iblk
  rw [View.read_apply]
  show V m c main_v6 _ = V m c main_v6 _
  congr 1
  funext a
  apply Fin.ext
  match a with
  | ⟨0, _⟩ => show win0_5.index t 0 * 1 + 1 * 0 = 0; rw [hi.1]
  | ⟨1, _⟩ => show win0_5.index t 1 * 1024 + 1 * k.val = k.val; rw [hi.2]; omega

theorem blk_g (c : Dev nD) (t : Fin cfg0.N) (k : Fin 1024) :
    (iblk m c 8 t : Vec Ideal S1x1024 .f32) (ix2 0 k) = (V m c main_v11 : Vec Ideal S1x1024 .f32) (ix2 0 k) := by
  have hi : win0_8.index t 0 = 0 ∧ win0_8.index t 1 = 0 :=
    (by decide +kernel : ∀ t : Fin grid0.N, win0_8.index t 0 = 0 ∧ win0_8.index t 1 = 0) t
  unfold iblk
  rw [View.read_apply]
  show V m c main_v11 _ = V m c main_v11 _
  congr 1
  funext a
  apply Fin.ext
  match a with
  | ⟨0, _⟩ => show win0_8.index t 0 * 1 + 1 * 0 = 0; rw [hi.1]
  | ⟨1, _⟩ => show win0_8.index t 1 * 1024 + 1 * k.val = k.val; rw [hi.2]; omega

theorem blk_b (c : Dev nD) (t : Fin cfg0.N) (k : Fin 1024) :
    (iblk m c 9 t : Vec Ideal S1x1024 .f32) (ix2 0 k) = (V m c main_v14 : Vec Ideal S1x1024 .f32) (ix2 0 k) := by
  have hi : win0_9.index t 0 = 0 ∧ win0_9.index t 1 = 0 :=
    (by decide +kernel : ∀ t : Fin grid0.N, win0_9.index t 0 = 0 ∧ win0_9.index t 1 = 0) t
  unfold iblk
  rw [View.read_apply]
  show V m c main_v14 _ = V m c main_v14 _
  congr 1
  funext a
  apply Fin.ext
  match a with
  | ⟨0, _⟩ => show win0_9.index t 0 * 1 + 1 * 0 = 0; rw [hi.1]
  | ⟨1, _⟩ => show win0_9.index t 1 * 1024 + 1 * k.val = k.val; rw [hi.2]; omega

/-- One row of the block at grid point `t` is the reference's row `1024 t + r`. -/
theorem row_eq (c : Dev nD) (t : Fin cfg0.N) (r j : Fin 1024) (h : 1024 * t.val + r.val < 65536) :
    rowAt (iblk m c 0 t) (iblk m c 1 t) (iblk m c 2 t) (iblk m c 3 t) (iblk m c 4 t) (iblk m c 5 t) (iblk m c 6 t) (iblk m c 7 t) (iblk m c 8 t) (iblk m c 9 t) r j
      = result m c (ix2 ⟨1024 * t.val + r.val, h⟩ j) := by
  have e0 := fun k => (blk_x m c t r k h).trans (congrFun (V_main_arg0 m c) _)
  have e1 := fun k => (blk_yd m c t r k h).trans (congrFun (V_main_arg1 m c) _)
  have e2 := fun k => (blk_ys m c t r k h).trans (congrFun (V_main_arg2 m c) _)
  have e3 := fun k l => (blk_w_mix m c t k l).trans (congrFun (V_w_mix m c) _)
  have e4 := fun k => (blk_gm m c t k).trans (V_gm m c k)
  have e5 := fun k => (blk_bm m c t k).trans (V_bm m c k)
  have e6 := fun k l => (blk_w_in m c t k l).trans (congrFun (V_w_in m c) _)
  have e7 := fun k l => (blk_w_out m c t k l).trans (congrFun (V_w_out m c) _)
  have e8 := fun k => (blk_g m c t k).trans (V_g m c k)
  have e9 := fun k => (blk_b m c t k).trans (V_b m c k)
  unfold result rowAt unitAt firstAt
  rw [MixRefIdeal.Read.norm_at]
  simp only [MixRefIdeal.Read.resid_at, MixRefIdeal.Read.hidden_at, MixRefIdeal.Read.first_at, MixRefIdeal.Read.mixed_at,
    e0, e1, e2, e3, e4, e5, e6, e7, e8, e9]

theorem flushed_eq (c : Dev nD) (t : Fin cfg0.N) (hf : (cfg0.win 10).flush t = true) :
    (dats m 0 c).flushed 10 t = ((cfg0.win 10).blk t).view.read (Elt Ideal) (result m c) := by
  have hi : win0_10.index t 0 = t.val ∧ win0_10.index t 1 = 0 :=
    (by decide +kernel : ∀ t : Fin grid0.N, win0_10.index t 0 = t.val ∧ win0_10.index t 1 = 0) t
  have ht : t.val < 64 := t.isLt
  rw [flushed10_A]
  funext j
  rw [View.read_apply]
  unfold Pipeline.Window.cut
  rw [out_at]
  have hr : ((cfg0.win 10).xinj (grid0.coords t) j 0 : Fin 1024).val < 1024 := Fin.isLt _
  refine (row_eq m c t _ _ (by omega)).trans ?_
  show result m c _ = result m c _
  congr 1
  funext a
  apply Fin.ext
  match a with
  | ⟨0, _⟩ => show 1024 * t.val + (j 0).val = win0_10.index t 0 * 1024 + 1 * (j 0).val; rw [hi.1]; omega
  | ⟨1, _⟩ => show (j 1).val = win0_10.index t 1 * 1024 + 1 * (j 1).val; rw [hi.2]; omega

/-- The result array after the run. -/
theorem final (c : Dev nD) : (dats m 0 c).arrAt 10 cfg0.N = result m c :=
  (dats m 0 c).arrAt_eq_of_cover 10 (result m c) (flushed_eq m c) fun i => by
    have h0 : (i 0 : Nat) < 65536 := (i 0).isLt
    have h1 : (i 1 : Nat) < 1024 := (i 1).isLt
    have hN : (i 0 : Nat) / 1024 < grid0.N := by rw [show grid0.N = 64 from by decide +kernel]; omega
    refine ⟨⟨(i 0 : Nat) / 1024, hN⟩, flush0_10 _, ?_⟩
    generalize ht : (⟨(i 0 : Nat) / 1024, hN⟩ : Fin cfg0.N) = t
    have htv : t.val = (i 0 : Nat) / 1024 := by rw [← ht]
    have hi : win0_10.index t 0 = t.val ∧ win0_10.index t 1 = 0 :=
      (by decide +kernel : ∀ t : Fin grid0.N, win0_10.index t 0 = t.val ∧ win0_10.index t 1 = 0) t
    have hx : win0_10.xsize (grid0.coords t) 0 = 1024 ∧ win0_10.xsize (grid0.coords t) 1 = 1024 :=
      (by decide +kernel : ∀ t : Fin grid0.N, win0_10.xsize (grid0.coords t) 0 = 1024 ∧ win0_10.xsize (grid0.coords t) 1 = 1024) t
    show i ∈ ((View.whole main_v15).slice (win0_10.rect t)).set
    rw [View.set_slice_whole, Rect.mem_set_unit]
    intro a
    match a with
    | ⟨0, _⟩ => show win0_10.index t 0 * 1024 ≤ (i 0 : Nat) ∧ (i 0 : Nat) < win0_10.index t 0 * 1024 + win0_10.xsize (grid0.coords t) 0
                rw [hi.1, hx.1]; omega
    | ⟨1, _⟩ => show win0_10.index t 1 * 1024 ≤ (i 1 : Nat) ∧ (i 1 : Nat) < win0_10.index t 1 * 1024 + win0_10.xsize (grid0.coords t) 1
                rw [hi.2, hx.2]; omega

/-- The run: the result is the reference's function of the arguments, which are unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (run_blocks m ρ)

end Cert.MixIdeal.Value

end
-- ==== Proof.MixClaim.lean ====
/- The claims about the mix and second feed-forward call: its reference keeps its arguments, and the kernel's result is the
   reference's. -/
module

public import proofs.«01_k».proof.Defs
public import proofs.«01_k».proof.Proof.MixValue

@[expose] public section

noncomputable section

namespace Cert.Proof

open Idealize.ShloMosaic Idealize.SL.Sem

/-- The reference runs and keeps its arguments; it declares no semaphore. -/
theorem mix_reference_frame : Cert.quiescent_MixRefIdeal := fun m ρ _ =>
  (θ_run Cert.MixRefIdeal.defs _ _).mono
    (fun r h => ⟨fun c => (h c).2, Idealize.ShloMosaic.sem_eq_zero_of_no_sems (by decide) r.2⟩)
    (Cert.MixRefIdeal.Value.run (F := Ideal) m ρ)

/-- The kernel's result is the reference's. -/
theorem mix_algebraic : Cert.algebraic_MixIdeal_MixRefIdeal := fun m ρ m' ρ' _ hagree => by
  refine ⟨Cert.MixIdeal.Value.result m, Cert.MixIdeal.Value.run m ρ, ?_⟩
  refine (θ_run Cert.MixRefIdeal.defs _ _).mono (fun r h c => ⟨(h c).1.trans ?_, (h c).2⟩)
    (Cert.MixRefIdeal.Value.run (F := Ideal) m' ρ')
  obtain ⟨h0, h1, h2, h3, h4, h5, h6, h7⟩ := hagree c
  refine (Cert.MixRefIdeal.Read.val_main_v79_eq _).trans ?_
  have e0 := (show StableHlo.launchContents m' c (Proc.devRef .tc Cert.MixRefIdeal.main_arg0) = _ from h0)
  have e1 := (show StableHlo.launchContents m' c (Proc.devRef .tc Cert.MixRefIdeal.main_arg1) = _ from h1)
  have e2 := (show StableHlo.launchContents m' c (Proc.devRef .tc Cert.MixRefIdeal.main_arg2) = _ from h2)
  have e3 := (show StableHlo.launchContents m' c (Proc.devRef .tc Cert.MixRefIdeal.main_arg3) = _ from h3)
  have e4 := (show StableHlo.launchContents m' c (Proc.devRef .tc Cert.MixRefIdeal.main_arg4) = _ from h4)
  have e5 := (show StableHlo.launchContents m' c (Proc.devRef .tc Cert.MixRefIdeal.main_arg5) = _ from h5)
  have e6 := (show StableHlo.launchContents m' c (Proc.devRef .tc Cert.MixRefIdeal.main_arg6) = _ from h6)
  have e7 := (show StableHlo.launchContents m' c (Proc.devRef .tc Cert.MixRefIdeal.main_arg7) = _ from h7)
  rw [e0, e1, e2, e3, e4, e5, e6, e7]
  rfl

end Cert.Proof

end
-- ==== Proof.ProjBlock.lean ====
module

public import proofs.«01_k».proof.Proof.Spec
public import proofs.«01_k».proof.Proof.Gen.ProjIdeal.Value

@[expose] public section

set_option maxRecDepth 65536

noncomputable section

/-! The input projection's body: what one grid point stores in each of its six results, read at an index. -/

namespace Cert.ProjIdeal.Block

open Cert.ProjIdeal Cert.ProjIdeal.Gen Idealize.ShloMosaic Idealize.ShloMosaic.TcCoe Idealize.SL.Sem
open Cert.Spec (emb2)

/-- A row of the block times a column of the weights. -/
def dotAt (x : Vec Ideal S1024x1024 .f32) (w : Vec Ideal S1x1024x2304 .bf16) (r : Fin 1024) (j : Fin 2304) : Ideal .f32 :=
  ∑ k : Fin 1024, x (ix2 r k) * w (ix3 0 k j)

/-- The 256 columns from `o`. -/
def wide (x : Vec Ideal S1024x1024 .f32) (w : Vec Ideal S1x1024x2304 .bf16) (o : ℕ)
    (h : ∀ a, (![0, 0, o] : Fin 3 → ℕ) a + S1x1024x256.size a ≤ S1x1024x2304.size a) : FVec Ideal S1024x256 .f32 :=
  matmul (φ₂ := .bf16) dot_S1024x1024_S1024x256_S1024x256_1_0_0_1_n_n none (truncf .bf16 (View.ld (Val := Elt Ideal) (S := S1024x1024) (e' := .f32) x r0_0) bitsLt_bf16_f32)
    (shapeCast S1024x256 (View.ld (Val := Elt Ideal) (S := S1x1024x2304) (e' := .bf16) w (Rect.unit (s := S1x1024x2304) ![0, 0, o] S1x1024x256.size h)) shapeCasts_S1x1024x256_S1024x256)
    (constant S1024x256 .f32 0x00000000#32)

theorem mm_at (a : FVec Ideal S1024x1024 .bf16) (b : Vec Ideal S1x1024x256 .bf16) (r : Fin 1024) (j : Fin 256) :
    matmul (φ₂ := .bf16) dot_S1024x1024_S1024x256_S1024x256_1_0_0_1_n_n none a (shapeCast S1024x256 b shapeCasts_S1x1024x256_S1024x256) (constant S1024x256 .f32 0x00000000#32) (ix2 r j)
      = ∑ k : Fin 1024, a (ix2 r k) * b (ix3 0 k j) := by
  pointwise

theorem wide_at (x : Vec Ideal S1024x1024 .f32) (w : Vec Ideal S1x1024x2304 .bf16) (o : ℕ)
    (h : ∀ a, (![0, 0, o] : Fin 3 → ℕ) a + S1x1024x256.size a ≤ S1x1024x2304.size a) (r : Fin 1024) (j : Fin 256) (hj : o + j.val < 2304) :
    wide x w o h (ix2 r j) = dotAt x w r ⟨o + j.val, hj⟩ := by
  unfold wide dotAt
  refine (mm_at _ _ r j).trans (Finset.sum_congr rfl fun k _ => ?_)
  have e1 : View.ld (Val := Elt Ideal) (S := S1024x1024) (e' := .f32) x r0_0 (ix2 r k) = x (ix2 r k) := by pointwise
  have e2 : View.ld (Val := Elt Ideal) (S := S1x1024x2304) (e' := .bf16) w (Rect.unit (s := S1x1024x2304) ![0, 0, o] S1x1024x256.size h) (ix3 0 k j)
      = w (ix3 0 k ⟨o + j.val, hj⟩) := by pointwise
  exact congrArg₂ (· * ·) e1 e2

theorem first_at (v : FVec Ideal S1024x256 .f32) (h) (r : Fin 1024) (l : Fin 128) :
    extractStridedSlice S1024x128 ![0, 0] v h (ix2 r l) = v (ix2 r ⟨l.val, by omega⟩) := by
  pointwise

theorem second_at (v : FVec Ideal S1024x256 .f32) (h) (r : Fin 1024) (l : Fin 128) :
    extractStridedSlice S1024x128 ![0, 128] v h (ix2 r l) = v (ix2 r ⟨128 + l.val, by omega⟩) := by
  pointwise

/-- The rotary positions of 128 columns. -/
def spun (t : FVec Ideal S1024x128 .f32) (c s : Vec Ideal S1024x128 .f32) : FVec Ideal S1024x128 .f32 :=
  addf (mulf t (View.ld (Val := Elt Ideal) (S := S1024x128) (e' := .f32) c r0_1)) (mulf (dynamicRotate 1 64#32 none t rotates_S1024x128_d1)
    (shapeCast S1024x128 (View.ld (Val := Elt Ideal) (S := S1024x128) (e' := .f32) s r0_1) shapeCasts_S1024x128_S1024x128))

theorem spun_at (t : FVec Ideal S1024x128 .f32) (c s : Vec Ideal S1024x128 .f32) (r : Fin 1024) (l : Fin 128) :
    spun t c s (ix2 r l) = t (ix2 r l) * c (ix2 r l) + t (ix2 r ⟨(l.val + 64) % 128, by omega⟩) * s (ix2 r l) := by
  unfold spun
  pointwise
  simp only [show l.val + 128 - 64 = l.val + 64 from by omega]

/-- The queries' factor. -/
def factor : Ideal .f32 := Ideal.ofBits .f32 0x3E38AA3B#32

def scaled (t : FVec Ideal S1024x128 .f32) : FVec Ideal S1024x128 .f32 :=
  mulf t (broadcast S1024x128 (Scalar.ofBits (F := Ideal) .f32 0x3E38AA3B#32))

theorem scaled_at (t : FVec Ideal S1024x128 .f32) (i : S1024x128.Idx) : scaled t i = t i * factor := rfl

/-- One block of 128 tokens, its columns first. -/
theorem turn_at (v : FVec Ideal S1024x128 .f32) (b off : ℕ) (hb : off = 128 * b) (hb8 : b < 8) (hs) (y : S1x1x128x128.Idx) :
    shapeCast S1x1x128x128 (truncf .bf16 (transpose S128x128 [1, 0] (extractStridedSlice S128x128 ![off, 0] v hs) transposes_S128x128_p1_0_S128x128) bitsLt_bf16_f32)
        shapeCasts_S128x128_S1x1x128x128 y
      = v (ix2 ⟨128 * b + (y 3).val, by have := (y 3).isLt; show _ < 1024; simp at this; omega⟩ (y 2)) := by
  subst hb
  idx_vars y
  pointwise

/-- Columns `o` to `o + 128` with the rotary positions, at a row and a column. -/
def spunAt (x : Vec Ideal S1024x1024 .f32) (w : Vec Ideal S1x1024x2304 .bf16) (c s : Vec Ideal S1024x128 .f32) (o : ℕ) (ho : o + 128 ≤ 2304)
    (r : Fin 1024) (l : Fin 128) : Ideal .f32 :=
  dotAt x w r ⟨o + l.val, by omega⟩ * c (ix2 r l) + dotAt x w r ⟨o + (l.val + 64) % 128, by omega⟩ * s (ix2 r l)

section
variable (x : Vec Ideal S1024x1024 .f32) (w : Vec Ideal S1x1024x2304 .bf16) (c s : Vec Ideal S1024x128 .f32)

/-- The first 128 of the 256 columns from `o`. -/
def colsA (o : ℕ) (h : ∀ a, (![0, 0, o] : Fin 3 → ℕ) a + S1x1024x256.size a ≤ S1x1024x2304.size a) : FVec Ideal S1024x128 .f32 :=
  extractStridedSlice S1024x128 ![0, 0] (wide x w o h) slices_S1024x256_o0_0_S1024x128

/-- The second 128 of the 256 columns from `o`. -/
def colsB (o : ℕ) (h : ∀ a, (![0, 0, o] : Fin 3 → ℕ) a + S1x1024x256.size a ≤ S1x1024x2304.size a) : FVec Ideal S1024x128 .f32 :=
  extractStridedSlice S1024x128 ![0, 128] (wide x w o h) slices_S1024x256_o0_128_S1024x128

theorem spun_first (o : ℕ) (h : ∀ a, (![0, 0, o] : Fin 3 → ℕ) a + S1x1024x256.size a ≤ S1x1024x2304.size a)  (ho : o + 128 ≤ 2304) (r : Fin 1024) (l : Fin 128) :
    spun (colsA x w o h) c s (ix2 r l) = spunAt x w c s o ho r l := by
  unfold colsA
  rw [spun_at, first_at, first_at, wide_at _ _ _ _ _ _ (by simp; omega), wide_at _ _ _ _ _ _ (by simp; omega)]
  rfl

theorem spun_second (o o' : ℕ) (e : o' = o + 128) (h : ∀ a, (![0, 0, o] : Fin 3 → ℕ) a + S1x1024x256.size a ≤ S1x1024x2304.size a)  (ho : o' + 128 ≤ 2304) (r : Fin 1024) (l : Fin 128) :
    spun (colsB x w o h) c s (ix2 r l) = spunAt x w c s o' ho r l := by
  subst e
  unfold colsB
  rw [spun_at, second_at, second_at, wide_at _ _ _ _ _ _ (by simp; omega), wide_at _ _ _ _ _ _ (by simp; omega)]
  simp only [← Nat.add_assoc]
  rfl

theorem plain_first (o : ℕ) (h : ∀ a, (![0, 0, o] : Fin 3 → ℕ) a + S1x1024x256.size a ≤ S1x1024x2304.size a)  (r : Fin 1024) (l : Fin 128) (ho : o + l.val < 2304) :
    colsA x w o h (ix2 r l) = dotAt x w r ⟨o + l.val, ho⟩ := by
  unfold colsA
  rw [first_at, wide_at _ _ _ _ _ _ (by simp; omega)]

theorem plain_second (o o' : ℕ) (e : o' = o + 128) (h : ∀ a, (![0, 0, o] : Fin 3 → ℕ) a + S1x1024x256.size a ≤ S1x1024x2304.size a)  (r : Fin 1024) (l : Fin 128) (ho : o' + l.val < 2304) :
    colsB x w o h (ix2 r l) = dotAt x w r ⟨o' + l.val, ho⟩ := by
  subst e
  unfold colsB
  rw [second_at, wide_at _ _ _ _ _ _ (by simp; omega)]
  simp only [← Nat.add_assoc]

/-- The queries from column `o`, by row and feature. -/
def queryAt (o : ℕ) (ho : o + 512 ≤ 2304) (r : Fin 1024) (f : Fin 512) : Ideal .f32 :=
  spunAt x w c s (o + 128 * (f.val / 128)) (by omega) r ⟨f.val % 128, by omega⟩ * factor

/-- The keys of four heads. -/
def keyAt (r : Fin 1024) (f : Fin 512) : Ideal .f32 :=
  spunAt x w c s (512 + 128 * (f.val / 128)) (by omega) r ⟨f.val % 128, by omega⟩

/-- The values. -/
def valueAt (r : Fin 1024) (f : Fin 512) : Ideal .f32 := dotAt x w r ⟨1664 + f.val, by omega⟩

theorem spunAt_congr {o o' : ℕ} (e : o = o') (ho) (ho') (r : Fin 1024) (l : Fin 128) : spunAt x w c s o ho r l = spunAt x w c s o' ho' r l := by
  subst e; rfl

/-- 128 features of the queries. -/
theorem query_group (o o' f : ℕ) (e : o' = o + f) (d : 128 ∣ f) (ho : o + 512 ≤ 2304) (hf : f + 128 ≤ 512) (ho' : o' + 128 ≤ 2304) (t : FVec Ideal S1024x128 .f32)
    (ht : ∀ (r : Fin 1024) (l : Fin 128), t (ix2 r l) = spunAt x w c s o' ho' r l) (r : Fin 1024) (l : Fin 128) :
    scaled t (ix2 r l) = queryAt x w c s o ho r ⟨f + l.val, by omega⟩ := by
  subst e
  obtain ⟨k, rfl⟩ := d
  rw [scaled_at, ht]
  unfold queryAt
  have e1 : (128 * k + l.val) % 128 = l.val := by omega
  have e2 : o + 128 * k = o + 128 * ((128 * k + l.val) / 128) := by omega
  simp only [e1]
  rw [spunAt_congr x w c s e2]

theorem key_group (o' f : ℕ) (e : o' = 512 + f) (d : 128 ∣ f) (hf : f + 128 ≤ 512) (ho' : o' + 128 ≤ 2304) (r : Fin 1024) (l : Fin 128) :
    spunAt x w c s o' ho' r l = keyAt x w c s r ⟨f + l.val, by omega⟩ := by
  subst e
  obtain ⟨k, rfl⟩ := d
  unfold keyAt
  have e1 : (128 * k + l.val) % 128 = l.val := by omega
  have e2 : 512 + 128 * k = 512 + 128 * ((128 * k + l.val) / 128) := by omega
  simp only [e1]
  rw [spunAt_congr x w c s e2]

end

/-- A block of 1024 tokens laid out by block of 128 tokens, feature, token. -/
def laid (n : ℕ) (g : Fin 1024 → Fin n → Ideal .f32) : Vec Ideal ⟨4, ![1, 8, n, 128]⟩ .bf16 :=
  fun y => g ⟨128 * (y 1).val + (y 3).val, by have h1 : (y 1).val < 8 := (y 1).isLt; have h3 : (y 3).val < 128 := (y 3).isLt; omega⟩ (y 2)

/-- One stored piece: 128 tokens of 128 features. -/
theorem piece (n : ℕ) (g : Fin 1024 → Fin n → Ideal .f32) (v : FVec Ideal S1024x128 .f32) (b off f : ℕ) (hb : off = 128 * b) (hb8 : b < 8) (hf : f + 128 ≤ n)
    (hv : ∀ (r : Fin 1024) (l : Fin 128), v (ix2 r l) = g r ⟨f + l.val, by omega⟩) (hs)
    (hi : ∀ a, (![0, b, f, 0] : Fin 4 → ℕ) a + S1x1x128x128.size a ≤ (⟨4, ![1, 8, n, 128]⟩ : Shape).size a) (y : S1x1x128x128.Idx) :
    shapeCast S1x1x128x128 (truncf .bf16 (transpose S128x128 [1, 0] (extractStridedSlice S128x128 ![off, 0] v hs) transposes_S128x128_p1_0_S128x128) bitsLt_bf16_f32)
        shapeCasts_S128x128_S1x1x128x128 y
      = laid n g ((Rect.unit (s := ⟨4, ![1, 8, n, 128]⟩) ![0, b, f, 0] S1x1x128x128.size hi).emb y) := by
  refine (turn_at v b off hb hb8 hs y).trans ((hv _ _).trans ?_)
  unfold laid
  congr 1
  · apply Fin.ext
    show 128 * b + (y 3).val = 128 * (b + 1 * (y 1).val) + (0 + 1 * (y 3).val)
    have h1 : (y 1).val < 1 := (y 1).isLt
    omega
  · apply Fin.ext
    show f + (y 2).val = f + 1 * (y 2).val
    omega

section
variable (x0 : Vec Ideal S1024x1024 .f32) (x1 : Vec Ideal S1x1024x2304 .bf16) (x2 x3 : Vec Ideal S1024x128 .f32) (x4 : Vec Ideal S640x128 .bf16)

/-- What the body leaves of the attention's queries. -/
theorem out5 : out0_5 (F := Ideal) x0 x1 x2 x3 x4 = laid 512 (queryAt x0 x1 x2 x3 0 (by decide)) := by
  have s0 : ∀ (r : Fin 1024) (l : Fin 128), (spun (colsA x0 x1 0 inb_S1x1024x2304_S1x1024x256_0_0_0) x2 x3) (ix2 r l) = spunAt x0 x1 x2 x3 0 (by decide) r l := fun r l =>
    spun_first x0 x1 x2 x3 0 inb_S1x1024x2304_S1x1024x256_0_0_0 (by decide) r l
  have h0 := query_group x0 x1 x2 x3 0 0 0 rfl (by decide) (by decide) (by decide) _ (spun (colsA x0 x1 0 inb_S1x1024x2304_S1x1024x256_0_0_0) x2 x3) s0
  have s128 : ∀ (r : Fin 1024) (l : Fin 128), (spun (colsB x0 x1 0 inb_S1x1024x2304_S1x1024x256_0_0_0) x2 x3) (ix2 r l) = spunAt x0 x1 x2 x3 128 (by decide) r l := fun r l =>
    spun_second x0 x1 x2 x3 0 128 rfl inb_S1x1024x2304_S1x1024x256_0_0_0 (by decide) r l
  have h128 := query_group x0 x1 x2 x3 0 128 128 rfl (by decide) (by decide) (by decide) _ (spun (colsB x0 x1 0 inb_S1x1024x2304_S1x1024x256_0_0_0) x2 x3) s128
  have s256 : ∀ (r : Fin 1024) (l : Fin 128), (spun (colsA x0 x1 256 inb_S1x1024x2304_S1x1024x256_0_0_256) x2 x3) (ix2 r l) = spunAt x0 x1 x2 x3 256 (by decide) r l := fun r l =>
    spun_first x0 x1 x2 x3 256 inb_S1x1024x2304_S1x1024x256_0_0_256 (by decide) r l
  have h256 := query_group x0 x1 x2 x3 0 256 256 rfl (by decide) (by decide) (by decide) _ (spun (colsA x0 x1 256 inb_S1x1024x2304_S1x1024x256_0_0_256) x2 x3) s256
  have s384 : ∀ (r : Fin 1024) (l : Fin 128), (spun (colsB x0 x1 256 inb_S1x1024x2304_S1x1024x256_0_0_256) x2 x3) (ix2 r l) = spunAt x0 x1 x2 x3 384 (by decide) r l := fun r l =>
    spun_second x0 x1 x2 x3 256 384 rfl inb_S1x1024x2304_S1x1024x256_0_0_256 (by decide) r l
  have h384 := query_group x0 x1 x2 x3 0 384 384 rfl (by decide) (by decide) (by decide) _ (spun (colsB x0 x1 256 inb_S1x1024x2304_S1x1024x256_0_0_256) x2 x3) s384
  funext i
  refine View.canon_apply_of_pieces (laid 512 (queryAt x0 x1 x2 x3 0 (by decide))) _ ?_ i (cover0_5 (F := Ideal) _ _ _ _ _ _ _ _ _ _ _ _ _ _ _ _ _ _ _ _ _ _ _ _ _ _ _ _ _ _ _ _ i)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> intro y
  · exact piece 512 (queryAt x0 x1 x2 x3 0 (by decide)) _ 7 896 384 rfl (by decide) (by decide) h384 slices_S1024x128_o896_0_S128x128 inb_S1x8x512x128_S1x1x128x128_0_7_384_0 y
  · exact piece 512 (queryAt x0 x1 x2 x3 0 (by decide)) _ 6 768 384 rfl (by decide) (by decide) h384 slices_S1024x128_o768_0_S128x128 inb_S1x8x512x128_S1x1x128x128_0_6_384_0 y
  · exact piece 512 (queryAt x0 x1 x2 x3 0 (by decide)) _ 5 640 384 rfl (by decide) (by decide) h384 slices_S1024x128_o640_0_S128x128 inb_S1x8x512x128_S1x1x128x128_0_5_384_0 y
  · exact piece 512 (queryAt x0 x1 x2 x3 0 (by decide)) _ 4 512 384 rfl (by decide) (by decide) h384 slices_S1024x128_o512_0_S128x128 inb_S1x8x512x128_S1x1x128x128_0_4_384_0 y
  · exact piece 512 (queryAt x0 x1 x2 x3 0 (by decide)) _ 3 384 384 rfl (by decide) (by decide) h384 slices_S1024x128_o384_0_S128x128 inb_S1x8x512x128_S1x1x128x128_0_3_384_0 y
  · exact piece 512 (queryAt x0 x1 x2 x3 0 (by decide)) _ 2 256 384 rfl (by decide) (by decide) h384 slices_S1024x128_o256_0_S128x128 inb_S1x8x512x128_S1x1x128x128_0_2_384_0 y
  · exact piece 512 (queryAt x0 x1 x2 x3 0 (by decide)) _ 1 128 384 rfl (by decide) (by decide) h384 slices_S1024x128_o128_0_S128x128 inb_S1x8x512x128_S1x1x128x128_0_1_384_0 y
  · exact piece 512 (queryAt x0 x1 x2 x3 0 (by decide)) _ 0 0 384 rfl (by decide) (by decide) h384 slices_S1024x128_o0_0_S128x128 inb_S1x8x512x128_S1x1x128x128_0_0_384_0 y
  · exact piece 512 (queryAt x0 x1 x2 x3 0 (by decide)) _ 7 896 256 rfl (by decide) (by decide) h256 slices_S1024x128_o896_0_S128x128 inb_S1x8x512x128_S1x1x128x128_0_7_256_0 y
  · exact piece 512 (queryAt x0 x1 x2 x3 0 (by decide)) _ 6 768 256 rfl (by decide) (by decide) h256 slices_S1024x128_o768_0_S128x128 inb_S1x8x512x128_S1x1x128x128_0_6_256_0 y
  · exact piece 512 (queryAt x0 x1 x2 x3 0 (by decide)) _ 5 640 256 rfl (by decide) (by decide) h256 slices_S1024x128_o640_0_S128x128 inb_S1x8x512x128_S1x1x128x128_0_5_256_0 y
  · exact piece 512 (queryAt x0 x1 x2 x3 0 (by decide)) _ 4 512 256 rfl (by decide) (by decide) h256 slices_S1024x128_o512_0_S128x128 inb_S1x8x512x128_S1x1x128x128_0_4_256_0 y
  · exact piece 512 (queryAt x0 x1 x2 x3 0 (by decide)) _ 3 384 256 rfl (by decide) (by decide) h256 slices_S1024x128_o384_0_S128x128 inb_S1x8x512x128_S1x1x128x128_0_3_256_0 y
  · exact piece 512 (queryAt x0 x1 x2 x3 0 (by decide)) _ 2 256 256 rfl (by decide) (by decide) h256 slices_S1024x128_o256_0_S128x128 inb_S1x8x512x128_S1x1x128x128_0_2_256_0 y
  · exact piece 512 (queryAt x0 x1 x2 x3 0 (by decide)) _ 1 128 256 rfl (by decide) (by decide) h256 slices_S1024x128_o128_0_S128x128 inb_S1x8x512x128_S1x1x128x128_0_1_256_0 y
  · exact piece 512 (queryAt x0 x1 x2 x3 0 (by decide)) _ 0 0 256 rfl (by decide) (by decide) h256 slices_S1024x128_o0_0_S128x128 inb_S1x8x512x128_S1x1x128x128_0_0_256_0 y
  · exact piece 512 (queryAt x0 x1 x2 x3 0 (by decide)) _ 7 896 128 rfl (by decide) (by decide) h128 slices_S1024x128_o896_0_S128x128 inb_S1x8x512x128_S1x1x128x128_0_7_128_0 y
  · exact piece 512 (queryAt x0 x1 x2 x3 0 (by decide)) _ 6 768 128 rfl (by decide) (by decide) h128 slices_S1024x128_o768_0_S128x128 inb_S1x8x512x128_S1x1x128x128_0_6_128_0 y
  · exact piece 512 (queryAt x0 x1 x2 x3 0 (by decide)) _ 5 640 128 rfl (by decide) (by decide) h128 slices_S1024x128_o640_0_S128x128 inb_S1x8x512x128_S1x1x128x128_0_5_128_0 y
  · exact piece 512 (queryAt x0 x1 x2 x3 0 (by decide)) _ 4 512 128 rfl (by decide) (by decide) h128 slices_S1024x128_o512_0_S128x128 inb_S1x8x512x128_S1x1x128x128_0_4_128_0 y
  · exact piece 512 (queryAt x0 x1 x2 x3 0 (by decide)) _ 3 384 128 rfl (by decide) (by decide) h128 slices_S1024x128_o384_0_S128x128 inb_S1x8x512x128_S1x1x128x128_0_3_128_0 y
  · exact piece 512 (queryAt x0 x1 x2 x3 0 (by decide)) _ 2 256 128 rfl (by decide) (by decide) h128 slices_S1024x128_o256_0_S128x128 inb_S1x8x512x128_S1x1x128x128_0_2_128_0 y
  · exact piece 512 (queryAt x0 x1 x2 x3 0 (by decide)) _ 1 128 128 rfl (by decide) (by decide) h128 slices_S1024x128_o128_0_S128x128 inb_S1x8x512x128_S1x1x128x128_0_1_128_0 y
  · exact piece 512 (queryAt x0 x1 x2 x3 0 (by decide)) _ 0 0 128 rfl (by decide) (by decide) h128 slices_S1024x128_o0_0_S128x128 inb_S1x8x512x128_S1x1x128x128_0_0_128_0 y
  · exact piece 512 (queryAt x0 x1 x2 x3 0 (by decide)) _ 7 896 0 rfl (by decide) (by decide) h0 slices_S1024x128_o896_0_S128x128 inb_S1x8x512x128_S1x1x128x128_0_7_0_0 y
  · exact piece 512 (queryAt x0 x1 x2 x3 0 (by decide)) _ 6 768 0 rfl (by decide) (by decide) h0 slices_S1024x128_o768_0_S128x128 inb_S1x8x512x128_S1x1x128x128_0_6_0_0 y
  · exact piece 512 (queryAt x0 x1 x2 x3 0 (by decide)) _ 5 640 0 rfl (by decide) (by decide) h0 slices_S1024x128_o640_0_S128x128 inb_S1x8x512x128_S1x1x128x128_0_5_0_0 y
  · exact piece 512 (queryAt x0 x1 x2 x3 0 (by decide)) _ 4 512 0 rfl (by decide) (by decide) h0 slices_S1024x128_o512_0_S128x128 inb_S1x8x512x128_S1x1x128x128_0_4_0_0 y
  · exact piece 512 (queryAt x0 x1 x2 x3 0 (by decide)) _ 3 384 0 rfl (by decide) (by decide) h0 slices_S1024x128_o384_0_S128x128 inb_S1x8x512x128_S1x1x128x128_0_3_0_0 y
  · exact piece 512 (queryAt x0 x1 x2 x3 0 (by decide)) _ 2 256 0 rfl (by decide) (by decide) h0 slices_S1024x128_o256_0_S128x128 inb_S1x8x512x128_S1x1x128x128_0_2_0_0 y
  · exact piece 512 (queryAt x0 x1 x2 x3 0 (by decide)) _ 1 128 0 rfl (by decide) (by decide) h0 slices_S1024x128_o128_0_S128x128 inb_S1x8x512x128_S1x1x128x128_0_1_0_0 y
  · exact piece 512 (queryAt x0 x1 x2 x3 0 (by decide)) _ 0 0 0 rfl (by decide) (by decide) h0 slices_S1024x128_o0_0_S128x128 inb_S1x8x512x128_S1x1x128x128_0_0_0_0 y

/-- What the body leaves of the windowed attention's queries. -/
theorem out8 : out0_8 (F := Ideal) x0 x1 x2 x3 x4 = laid 512 (queryAt x0 x1 x2 x3 1024 (by decide)) := by
  have s0 : ∀ (r : Fin 1024) (l : Fin 128), (spun (colsA x0 x1 1024 inb_S1x1024x2304_S1x1024x256_0_0_1024) x2 x3) (ix2 r l) = spunAt x0 x1 x2 x3 1024 (by decide) r l := fun r l =>
    spun_first x0 x1 x2 x3 1024 inb_S1x1024x2304_S1x1024x256_0_0_1024 (by decide) r l
  have h0 := query_group x0 x1 x2 x3 1024 1024 0 rfl (by decide) (by decide) (by decide) _ (spun (colsA x0 x1 1024 inb_S1x1024x2304_S1x1024x256_0_0_1024) x2 x3) s0
  have s128 : ∀ (r : Fin 1024) (l : Fin 128), (spun (colsB x0 x1 1024 inb_S1x1024x2304_S1x1024x256_0_0_1024) x2 x3) (ix2 r l) = spunAt x0 x1 x2 x3 1152 (by decide) r l := fun r l =>
    spun_second x0 x1 x2 x3 1024 1152 rfl inb_S1x1024x2304_S1x1024x256_0_0_1024 (by decide) r l
  have h128 := query_group x0 x1 x2 x3 1024 1152 128 rfl (by decide) (by decide) (by decide) _ (spun (colsB x0 x1 1024 inb_S1x1024x2304_S1x1024x256_0_0_1024) x2 x3) s128
  have s256 : ∀ (r : Fin 1024) (l : Fin 128), (spun (colsA x0 x1 1280 inb_S1x1024x2304_S1x1024x256_0_0_1280) x2 x3) (ix2 r l) = spunAt x0 x1 x2 x3 1280 (by decide) r l := fun r l =>
    spun_first x0 x1 x2 x3 1280 inb_S1x1024x2304_S1x1024x256_0_0_1280 (by decide) r l
  have h256 := query_group x0 x1 x2 x3 1024 1280 256 rfl (by decide) (by decide) (by decide) _ (spun (colsA x0 x1 1280 inb_S1x1024x2304_S1x1024x256_0_0_1280) x2 x3) s256
  have s384 : ∀ (r : Fin 1024) (l : Fin 128), (spun (colsB x0 x1 1280 inb_S1x1024x2304_S1x1024x256_0_0_1280) x2 x3) (ix2 r l) = spunAt x0 x1 x2 x3 1408 (by decide) r l := fun r l =>
    spun_second x0 x1 x2 x3 1280 1408 rfl inb_S1x1024x2304_S1x1024x256_0_0_1280 (by decide) r l
  have h384 := query_group x0 x1 x2 x3 1024 1408 384 rfl (by decide) (by decide) (by decide) _ (spun (colsB x0 x1 1280 inb_S1x1024x2304_S1x1024x256_0_0_1280) x2 x3) s384
  funext i
  refine View.canon_apply_of_pieces (laid 512 (queryAt x0 x1 x2 x3 1024 (by decide))) _ ?_ i (cover0_8 (F := Ideal) _ _ _ _ _ _ _ _ _ _ _ _ _ _ _ _ _ _ _ _ _ _ _ _ _ _ _ _ _ _ _ _ i)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> intro y
  · exact piece 512 (queryAt x0 x1 x2 x3 1024 (by decide)) _ 7 896 384 rfl (by decide) (by decide) h384 slices_S1024x128_o896_0_S128x128 inb_S1x8x512x128_S1x1x128x128_0_7_384_0 y
  · exact piece 512 (queryAt x0 x1 x2 x3 1024 (by decide)) _ 6 768 384 rfl (by decide) (by decide) h384 slices_S1024x128_o768_0_S128x128 inb_S1x8x512x128_S1x1x128x128_0_6_384_0 y
  · exact piece 512 (queryAt x0 x1 x2 x3 1024 (by decide)) _ 5 640 384 rfl (by decide) (by decide) h384 slices_S1024x128_o640_0_S128x128 inb_S1x8x512x128_S1x1x128x128_0_5_384_0 y
  · exact piece 512 (queryAt x0 x1 x2 x3 1024 (by decide)) _ 4 512 384 rfl (by decide) (by decide) h384 slices_S1024x128_o512_0_S128x128 inb_S1x8x512x128_S1x1x128x128_0_4_384_0 y
  · exact piece 512 (queryAt x0 x1 x2 x3 1024 (by decide)) _ 3 384 384 rfl (by decide) (by decide) h384 slices_S1024x128_o384_0_S128x128 inb_S1x8x512x128_S1x1x128x128_0_3_384_0 y
  · exact piece 512 (queryAt x0 x1 x2 x3 1024 (by decide)) _ 2 256 384 rfl (by decide) (by decide) h384 slices_S1024x128_o256_0_S128x128 inb_S1x8x512x128_S1x1x128x128_0_2_384_0 y
  · exact piece 512 (queryAt x0 x1 x2 x3 1024 (by decide)) _ 1 128 384 rfl (by decide) (by decide) h384 slices_S1024x128_o128_0_S128x128 inb_S1x8x512x128_S1x1x128x128_0_1_384_0 y
  · exact piece 512 (queryAt x0 x1 x2 x3 1024 (by decide)) _ 0 0 384 rfl (by decide) (by decide) h384 slices_S1024x128_o0_0_S128x128 inb_S1x8x512x128_S1x1x128x128_0_0_384_0 y
  · exact piece 512 (queryAt x0 x1 x2 x3 1024 (by decide)) _ 7 896 256 rfl (by decide) (by decide) h256 slices_S1024x128_o896_0_S128x128 inb_S1x8x512x128_S1x1x128x128_0_7_256_0 y
  · exact piece 512 (queryAt x0 x1 x2 x3 1024 (by decide)) _ 6 768 256 rfl (by decide) (by decide) h256 slices_S1024x128_o768_0_S128x128 inb_S1x8x512x128_S1x1x128x128_0_6_256_0 y
  · exact piece 512 (queryAt x0 x1 x2 x3 1024 (by decide)) _ 5 640 256 rfl (by decide) (by decide) h256 slices_S1024x128_o640_0_S128x128 inb_S1x8x512x128_S1x1x128x128_0_5_256_0 y
  · exact piece 512 (queryAt x0 x1 x2 x3 1024 (by decide)) _ 4 512 256 rfl (by decide) (by decide) h256 slices_S1024x128_o512_0_S128x128 inb_S1x8x512x128_S1x1x128x128_0_4_256_0 y
  · exact piece 512 (queryAt x0 x1 x2 x3 1024 (by decide)) _ 3 384 256 rfl (by decide) (by decide) h256 slices_S1024x128_o384_0_S128x128 inb_S1x8x512x128_S1x1x128x128_0_3_256_0 y
  · exact piece 512 (queryAt x0 x1 x2 x3 1024 (by decide)) _ 2 256 256 rfl (by decide) (by decide) h256 slices_S1024x128_o256_0_S128x128 inb_S1x8x512x128_S1x1x128x128_0_2_256_0 y
  · exact piece 512 (queryAt x0 x1 x2 x3 1024 (by decide)) _ 1 128 256 rfl (by decide) (by decide) h256 slices_S1024x128_o128_0_S128x128 inb_S1x8x512x128_S1x1x128x128_0_1_256_0 y
  · exact piece 512 (queryAt x0 x1 x2 x3 1024 (by decide)) _ 0 0 256 rfl (by decide) (by decide) h256 slices_S1024x128_o0_0_S128x128 inb_S1x8x512x128_S1x1x128x128_0_0_256_0 y
  · exact piece 512 (queryAt x0 x1 x2 x3 1024 (by decide)) _ 7 896 128 rfl (by decide) (by decide) h128 slices_S1024x128_o896_0_S128x128 inb_S1x8x512x128_S1x1x128x128_0_7_128_0 y
  · exact piece 512 (queryAt x0 x1 x2 x3 1024 (by decide)) _ 6 768 128 rfl (by decide) (by decide) h128 slices_S1024x128_o768_0_S128x128 inb_S1x8x512x128_S1x1x128x128_0_6_128_0 y
  · exact piece 512 (queryAt x0 x1 x2 x3 1024 (by decide)) _ 5 640 128 rfl (by decide) (by decide) h128 slices_S1024x128_o640_0_S128x128 inb_S1x8x512x128_S1x1x128x128_0_5_128_0 y
  · exact piece 512 (queryAt x0 x1 x2 x3 1024 (by decide)) _ 4 512 128 rfl (by decide) (by decide) h128 slices_S1024x128_o512_0_S128x128 inb_S1x8x512x128_S1x1x128x128_0_4_128_0 y
  · exact piece 512 (queryAt x0 x1 x2 x3 1024 (by decide)) _ 3 384 128 rfl (by decide) (by decide) h128 slices_S1024x128_o384_0_S128x128 inb_S1x8x512x128_S1x1x128x128_0_3_128_0 y
  · exact piece 512 (queryAt x0 x1 x2 x3 1024 (by decide)) _ 2 256 128 rfl (by decide) (by decide) h128 slices_S1024x128_o256_0_S128x128 inb_S1x8x512x128_S1x1x128x128_0_2_128_0 y
  · exact piece 512 (queryAt x0 x1 x2 x3 1024 (by decide)) _ 1 128 128 rfl (by decide) (by decide) h128 slices_S1024x128_o128_0_S128x128 inb_S1x8x512x128_S1x1x128x128_0_1_128_0 y
  · exact piece 512 (queryAt x0 x1 x2 x3 1024 (by decide)) _ 0 0 128 rfl (by decide) (by decide) h128 slices_S1024x128_o0_0_S128x128 inb_S1x8x512x128_S1x1x128x128_0_0_128_0 y
  · exact piece 512 (queryAt x0 x1 x2 x3 1024 (by decide)) _ 7 896 0 rfl (by decide) (by decide) h0 slices_S1024x128_o896_0_S128x128 inb_S1x8x512x128_S1x1x128x128_0_7_0_0 y
  · exact piece 512 (queryAt x0 x1 x2 x3 1024 (by decide)) _ 6 768 0 rfl (by decide) (by decide) h0 slices_S1024x128_o768_0_S128x128 inb_S1x8x512x128_S1x1x128x128_0_6_0_0 y
  · exact piece 512 (queryAt x0 x1 x2 x3 1024 (by decide)) _ 5 640 0 rfl (by decide) (by decide) h0 slices_S1024x128_o640_0_S128x128 inb_S1x8x512x128_S1x1x128x128_0_5_0_0 y
  · exact piece 512 (queryAt x0 x1 x2 x3 1024 (by decide)) _ 4 512 0 rfl (by decide) (by decide) h0 slices_S1024x128_o512_0_S128x128 inb_S1x8x512x128_S1x1x128x128_0_4_0_0 y
  · exact piece 512 (queryAt x0 x1 x2 x3 1024 (by decide)) _ 3 384 0 rfl (by decide) (by decide) h0 slices_S1024x128_o384_0_S128x128 inb_S1x8x512x128_S1x1x128x128_0_3_0_0 y
  · exact piece 512 (queryAt x0 x1 x2 x3 1024 (by decide)) _ 2 256 0 rfl (by decide) (by decide) h0 slices_S1024x128_o256_0_S128x128 inb_S1x8x512x128_S1x1x128x128_0_2_0_0 y
  · exact piece 512 (queryAt x0 x1 x2 x3 1024 (by decide)) _ 1 128 0 rfl (by decide) (by decide) h0 slices_S1024x128_o128_0_S128x128 inb_S1x8x512x128_S1x1x128x128_0_1_0_0 y
  · exact piece 512 (queryAt x0 x1 x2 x3 1024 (by decide)) _ 0 0 0 rfl (by decide) (by decide) h0 slices_S1024x128_o0_0_S128x128 inb_S1x8x512x128_S1x1x128x128_0_0_0_0 y

/-- What the body leaves of the attention's values. -/
theorem out7 : out0_7 (F := Ideal) x0 x1 x2 x3 x4 = laid 512 (valueAt x0 x1) := by
  have h0 : ∀ (r : Fin 1024) (l : Fin 128), (colsB x0 x1 1536 inb_S1x1024x2304_S1x1024x256_0_0_1536) (ix2 r l) = valueAt x0 x1 r ⟨0 + l.val, by omega⟩ := fun r l => by
    rw [plain_second x0 x1 1536 1664 rfl _ r l (by omega)]
    unfold valueAt
    simp only [← Nat.add_assoc]
  have h128 : ∀ (r : Fin 1024) (l : Fin 128), (colsA x0 x1 1792 inb_S1x1024x2304_S1x1024x256_0_0_1792) (ix2 r l) = valueAt x0 x1 r ⟨128 + l.val, by omega⟩ := fun r l => by
    rw [plain_first x0 x1 1792 _ r l (by omega)]
    unfold valueAt
    simp only [← Nat.add_assoc]
  have h256 : ∀ (r : Fin 1024) (l : Fin 128), (colsB x0 x1 1792 inb_S1x1024x2304_S1x1024x256_0_0_1792) (ix2 r l) = valueAt x0 x1 r ⟨256 + l.val, by omega⟩ := fun r l => by
    rw [plain_second x0 x1 1792 1920 rfl _ r l (by omega)]
    unfold valueAt
    simp only [← Nat.add_assoc]
  have h384 : ∀ (r : Fin 1024) (l : Fin 128), (colsA x0 x1 2048 inb_S1x1024x2304_S1x1024x256_0_0_2048) (ix2 r l) = valueAt x0 x1 r ⟨384 + l.val, by omega⟩ := fun r l => by
    rw [plain_first x0 x1 2048 _ r l (by omega)]
    unfold valueAt
    simp only [← Nat.add_assoc]
  funext i
  refine View.canon_apply_of_pieces (laid 512 (valueAt x0 x1)) _ ?_ i (cover0_7 (F := Ideal) _ _ _ _ _ _ _ _ _ _ _ _ _ _ _ _ _ _ _ _ _ _ _ _ _ _ _ _ _ _ _ _ i)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> intro y
  · exact piece 512 (valueAt x0 x1) _ 7 896 384 rfl (by decide) (by decide) h384 slices_S1024x128_o896_0_S128x128 inb_S1x8x512x128_S1x1x128x128_0_7_384_0 y
  · exact piece 512 (valueAt x0 x1) _ 6 768 384 rfl (by decide) (by decide) h384 slices_S1024x128_o768_0_S128x128 inb_S1x8x512x128_S1x1x128x128_0_6_384_0 y
  · exact piece 512 (valueAt x0 x1) _ 5 640 384 rfl (by decide) (by decide) h384 slices_S1024x128_o640_0_S128x128 inb_S1x8x512x128_S1x1x128x128_0_5_384_0 y
  · exact piece 512 (valueAt x0 x1) _ 4 512 384 rfl (by decide) (by decide) h384 slices_S1024x128_o512_0_S128x128 inb_S1x8x512x128_S1x1x128x128_0_4_384_0 y
  · exact piece 512 (valueAt x0 x1) _ 3 384 384 rfl (by decide) (by decide) h384 slices_S1024x128_o384_0_S128x128 inb_S1x8x512x128_S1x1x128x128_0_3_384_0 y
  · exact piece 512 (valueAt x0 x1) _ 2 256 384 rfl (by decide) (by decide) h384 slices_S1024x128_o256_0_S128x128 inb_S1x8x512x128_S1x1x128x128_0_2_384_0 y
  · exact piece 512 (valueAt x0 x1) _ 1 128 384 rfl (by decide) (by decide) h384 slices_S1024x128_o128_0_S128x128 inb_S1x8x512x128_S1x1x128x128_0_1_384_0 y
  · exact piece 512 (valueAt x0 x1) _ 0 0 384 rfl (by decide) (by decide) h384 slices_S1024x128_o0_0_S128x128 inb_S1x8x512x128_S1x1x128x128_0_0_384_0 y
  · exact piece 512 (valueAt x0 x1) _ 7 896 256 rfl (by decide) (by decide) h256 slices_S1024x128_o896_0_S128x128 inb_S1x8x512x128_S1x1x128x128_0_7_256_0 y
  · exact piece 512 (valueAt x0 x1) _ 6 768 256 rfl (by decide) (by decide) h256 slices_S1024x128_o768_0_S128x128 inb_S1x8x512x128_S1x1x128x128_0_6_256_0 y
  · exact piece 512 (valueAt x0 x1) _ 5 640 256 rfl (by decide) (by decide) h256 slices_S1024x128_o640_0_S128x128 inb_S1x8x512x128_S1x1x128x128_0_5_256_0 y
  · exact piece 512 (valueAt x0 x1) _ 4 512 256 rfl (by decide) (by decide) h256 slices_S1024x128_o512_0_S128x128 inb_S1x8x512x128_S1x1x128x128_0_4_256_0 y
  · exact piece 512 (valueAt x0 x1) _ 3 384 256 rfl (by decide) (by decide) h256 slices_S1024x128_o384_0_S128x128 inb_S1x8x512x128_S1x1x128x128_0_3_256_0 y
  · exact piece 512 (valueAt x0 x1) _ 2 256 256 rfl (by decide) (by decide) h256 slices_S1024x128_o256_0_S128x128 inb_S1x8x512x128_S1x1x128x128_0_2_256_0 y
  · exact piece 512 (valueAt x0 x1) _ 1 128 256 rfl (by decide) (by decide) h256 slices_S1024x128_o128_0_S128x128 inb_S1x8x512x128_S1x1x128x128_0_1_256_0 y
  · exact piece 512 (valueAt x0 x1) _ 0 0 256 rfl (by decide) (by decide) h256 slices_S1024x128_o0_0_S128x128 inb_S1x8x512x128_S1x1x128x128_0_0_256_0 y
  · exact piece 512 (valueAt x0 x1) _ 7 896 128 rfl (by decide) (by decide) h128 slices_S1024x128_o896_0_S128x128 inb_S1x8x512x128_S1x1x128x128_0_7_128_0 y
  · exact piece 512 (valueAt x0 x1) _ 6 768 128 rfl (by decide) (by decide) h128 slices_S1024x128_o768_0_S128x128 inb_S1x8x512x128_S1x1x128x128_0_6_128_0 y
  · exact piece 512 (valueAt x0 x1) _ 5 640 128 rfl (by decide) (by decide) h128 slices_S1024x128_o640_0_S128x128 inb_S1x8x512x128_S1x1x128x128_0_5_128_0 y
  · exact piece 512 (valueAt x0 x1) _ 4 512 128 rfl (by decide) (by decide) h128 slices_S1024x128_o512_0_S128x128 inb_S1x8x512x128_S1x1x128x128_0_4_128_0 y
  · exact piece 512 (valueAt x0 x1) _ 3 384 128 rfl (by decide) (by decide) h128 slices_S1024x128_o384_0_S128x128 inb_S1x8x512x128_S1x1x128x128_0_3_128_0 y
  · exact piece 512 (valueAt x0 x1) _ 2 256 128 rfl (by decide) (by decide) h128 slices_S1024x128_o256_0_S128x128 inb_S1x8x512x128_S1x1x128x128_0_2_128_0 y
  · exact piece 512 (valueAt x0 x1) _ 1 128 128 rfl (by decide) (by decide) h128 slices_S1024x128_o128_0_S128x128 inb_S1x8x512x128_S1x1x128x128_0_1_128_0 y
  · exact piece 512 (valueAt x0 x1) _ 0 0 128 rfl (by decide) (by decide) h128 slices_S1024x128_o0_0_S128x128 inb_S1x8x512x128_S1x1x128x128_0_0_128_0 y
  · exact piece 512 (valueAt x0 x1) _ 7 896 0 rfl (by decide) (by decide) h0 slices_S1024x128_o896_0_S128x128 inb_S1x8x512x128_S1x1x128x128_0_7_0_0 y
  · exact piece 512 (valueAt x0 x1) _ 6 768 0 rfl (by decide) (by decide) h0 slices_S1024x128_o768_0_S128x128 inb_S1x8x512x128_S1x1x128x128_0_6_0_0 y
  · exact piece 512 (valueAt x0 x1) _ 5 640 0 rfl (by decide) (by decide) h0 slices_S1024x128_o640_0_S128x128 inb_S1x8x512x128_S1x1x128x128_0_5_0_0 y
  · exact piece 512 (valueAt x0 x1) _ 4 512 0 rfl (by decide) (by decide) h0 slices_S1024x128_o512_0_S128x128 inb_S1x8x512x128_S1x1x128x128_0_4_0_0 y
  · exact piece 512 (valueAt x0 x1) _ 3 384 0 rfl (by decide) (by decide) h0 slices_S1024x128_o384_0_S128x128 inb_S1x8x512x128_S1x1x128x128_0_3_0_0 y
  · exact piece 512 (valueAt x0 x1) _ 2 256 0 rfl (by decide) (by decide) h0 slices_S1024x128_o256_0_S128x128 inb_S1x8x512x128_S1x1x128x128_0_2_0_0 y
  · exact piece 512 (valueAt x0 x1) _ 1 128 0 rfl (by decide) (by decide) h0 slices_S1024x128_o128_0_S128x128 inb_S1x8x512x128_S1x1x128x128_0_1_0_0 y
  · exact piece 512 (valueAt x0 x1) _ 0 0 0 rfl (by decide) (by decide) h0 slices_S1024x128_o0_0_S128x128 inb_S1x8x512x128_S1x1x128x128_0_0_0_0 y

/-- What the body leaves of the windowed attention's values. -/
theorem out10 : out0_10 (F := Ideal) x0 x1 x2 x3 x4 = laid 128 (fun r l => dotAt x0 x1 r ⟨2176 + l.val, by omega⟩) := by
  have h0 : ∀ (r : Fin 1024) (l : Fin 128), (colsB x0 x1 2048 inb_S1x1024x2304_S1x1024x256_0_0_2048) (ix2 r l) = dotAt x0 x1 r ⟨2176 + (0 + l.val), by omega⟩ := fun r l => by
    rw [plain_second x0 x1 2048 2176 rfl _ r l (by omega)]
    simp only [Nat.zero_add]
  funext i
  refine View.canon_apply_of_pieces (laid 128 (fun r l => dotAt x0 x1 r ⟨2176 + l.val, by omega⟩)) _ ?_ i (cover0_10 (F := Ideal) _ _ _ _ _ _ _ _ i)
  intro p hp
  simp only [List.mem_cons, List.not_mem_nil, or_false] at hp
  rcases hp with rfl | rfl | rfl | rfl | rfl | rfl | rfl | rfl <;> intro y
  · exact piece 128 (fun r l => dotAt x0 x1 r ⟨2176 + l.val, by omega⟩) _ 7 896 0 rfl (by decide) (by decide) h0 slices_S1024x128_o896_0_S128x128 inb_S1x8x128x128_S1x1x128x128_0_7_0_0 y
  · exact piece 128 (fun r l => dotAt x0 x1 r ⟨2176 + l.val, by omega⟩) _ 6 768 0 rfl (by decide) (by decide) h0 slices_S1024x128_o768_0_S128x128 inb_S1x8x128x128_S1x1x128x128_0_6_0_0 y
  · exact piece 128 (fun r l => dotAt x0 x1 r ⟨2176 + l.val, by omega⟩) _ 5 640 0 rfl (by decide) (by decide) h0 slices_S1024x128_o640_0_S128x128 inb_S1x8x128x128_S1x1x128x128_0_5_0_0 y
  · exact piece 128 (fun r l => dotAt x0 x1 r ⟨2176 + l.val, by omega⟩) _ 4 512 0 rfl (by decide) (by decide) h0 slices_S1024x128_o512_0_S128x128 inb_S1x8x128x128_S1x1x128x128_0_4_0_0 y
  · exact piece 128 (fun r l => dotAt x0 x1 r ⟨2176 + l.val, by omega⟩) _ 3 384 0 rfl (by decide) (by decide) h0 slices_S1024x128_o384_0_S128x128 inb_S1x8x128x128_S1x1x128x128_0_3_0_0 y
  · exact piece 128 (fun r l => dotAt x0 x1 r ⟨2176 + l.val, by omega⟩) _ 2 256 0 rfl (by decide) (by decide) h0 slices_S1024x128_o256_0_S128x128 inb_S1x8x128x128_S1x1x128x128_0_2_0_0 y
  · exact piece 128 (fun r l => dotAt x0 x1 r ⟨2176 + l.val, by omega⟩) _ 1 128 0 rfl (by decide) (by decide) h0 slices_S1024x128_o128_0_S128x128 inb_S1x8x128x128_S1x1x128x128_0_1_0_0 y
  · exact piece 128 (fun r l => dotAt x0 x1 r ⟨2176 + l.val, by omega⟩) _ 0 0 0 rfl (by decide) (by decide) h0 slices_S1024x128_o0_0_S128x128 inb_S1x8x128x128_S1x1x128x128_0_0_0_0 y

/-- What the body leaves of the attention's keys. -/
theorem out6 : out0_6 (F := Ideal) x0 x1 x2 x3 x4 = fun i => keyAt x0 x1 x2 x3 (i 0) (i 1) := by
  funext i
  refine View.canon_apply_of_pieces (fun i => keyAt x0 x1 x2 x3 (i 0) (i 1)) _ ?_ i (cover0_6 (F := Ideal) _ _ _ _ i)
  intro p hp
  simp only [List.mem_cons, List.not_mem_nil, or_false] at hp
  rcases hp with rfl | rfl | rfl | rfl <;> intro y <;> idx_vars y
  · refine (spun_second x0 x1 x2 x3 768 896 rfl _ (by decide) _ _).trans ?_
    rw [emb2 0 384 inb_S1024x512_S1024x128_0_384 _ _ (by omega) (by omega), key_group x0 x1 x2 x3 896 384 rfl (by decide) (by decide)]
    simp only [Nat.zero_add]
    rfl
  · refine (spun_first x0 x1 x2 x3 768 _ (by decide) _ _).trans ?_
    rw [emb2 0 256 inb_S1024x512_S1024x128_0_256 _ _ (by omega) (by omega), key_group x0 x1 x2 x3 768 256 rfl (by decide) (by decide)]
    simp only [Nat.zero_add]
    rfl
  · refine (spun_second x0 x1 x2 x3 512 640 rfl _ (by decide) _ _).trans ?_
    rw [emb2 0 128 inb_S1024x512_S1024x128_0_128 _ _ (by omega) (by omega), key_group x0 x1 x2 x3 640 128 rfl (by decide) (by decide)]
    simp only [Nat.zero_add]
    rfl
  · refine (spun_first x0 x1 x2 x3 512 _ (by decide) _ _).trans ?_
    rw [emb2 0 0 inb_S1024x512_S1024x128_0_0 _ _ (by omega) (by omega), key_group x0 x1 x2 x3 512 0 rfl (by decide) (by decide)]
    simp only [Nat.zero_add]
    rfl

/-- What the body leaves of the windowed attention's keys. -/
theorem out9 : out0_9 (F := Ideal) x0 x1 x2 x3 x4 = fun i => spunAt x0 x1 x2 x3 1536 (by decide) (i 0) (i 1) := by
  funext i
  refine View.canon_apply_of_pieces (fun i => spunAt x0 x1 x2 x3 1536 (by decide) (i 0) (i 1)) _ ?_ i (cover0_9 (F := Ideal) _ i)
  intro p hp
  simp only [List.mem_cons, List.not_mem_nil, or_false] at hp
  rcases hp with rfl
  intro y
  idx_vars y
  refine (spun_first x0 x1 x2 x3 1536 _ (by decide) _ _).trans ?_
  rw [emb2 0 0 inb_S1024x128_S1024x128_0_0 _ _ (by omega) (by omega)]
  simp only [Nat.zero_add]
  rfl

end

end Cert.ProjIdeal.Block

end
-- ==== Proof.ProjHost.lean ====
module

public import proofs.«01_k».proof.Proof.ProjBlock

@[expose] public section

set_option maxRecDepth 65536

noncomputable section

/-! What the input projection's kernel is given: the permuted weights and the spread rotary tables. -/

namespace Cert.ProjIdeal.Host

open Cert.ProjIdeal Cert.ProjIdeal.Gen Idealize.ShloMosaic Idealize.ShloMosaic.TcCoe Idealize.SL.Sem

/-- The original column at a permuted place. -/
def orig (p : ℕ) : ℕ :=
  if p < 1024 then 128 * (p / 128) + 64 * (p / 32 % 2) + 32 * (p / 64 % 2) + p % 32
  else if p < 1536 then 1536 + 256 * (p / 32 % 2) + 64 * ((p - 1024) / 128) + 32 * (p / 64 % 2) + p % 32
  else if p < 1664 then 2048 + 64 * (p / 32 % 2) + 32 * (p / 64 % 2) + p % 32
  else if p < 2176 then p - 640
  else p

theorem orig_lt (p : ℕ) (h : p < 2304) : orig p < 2304 := by unfold orig; split_ifs <;> omega

/-- Each head's two halves of its two components brought together. -/
def pairW (y : Vec Ideal S4x1024x512 .f32) : Vec Ideal S4x1024x512 .f32 :=
  shapeCast S4x1024x512 (transpose S4x1024x4x2x2x32 [0, 1, 2, 4, 3, 5] (shapeCast S4x1024x4x2x2x32 y shapeCasts_S4x1024x512_S4x1024x4x2x2x32)
    transposes_S4x1024x4x2x2x32_S4x1024x4x2x2x32_0_1_2_4_3_5) shapeCasts_S4x1024x4x2x2x32_S4x1024x512

/-- The grouped queries' columns. -/
def groupW (y : Vec Ideal S4x1024x512 .f32) : Vec Ideal S4x1024x512 .f32 :=
  shapeCast S4x1024x512 (transpose S4x1024x4x2x2x32 [0, 1, 3, 4, 2, 5] (shapeCast S4x1024x2x4x2x32 y shapeCasts_S4x1024x512_S4x1024x2x4x2x32)
    transposes_S4x1024x2x4x2x32_S4x1024x4x2x2x32_0_1_3_4_2_5) shapeCasts_S4x1024x4x2x2x32_S4x1024x512

/-- The grouped keys' columns. -/
def bothW (y : Vec Ideal S4x1024x128 .f32) : Vec Ideal S4x1024x128 .f32 :=
  shapeCast S4x1024x128 (transpose S4x1024x2x2x32 [0, 1, 3, 2, 4] (shapeCast S4x1024x2x2x32 y shapeCasts_S4x1024x128_S4x1024x2x2x32)
    transposes_S4x1024x2x2x32_S4x1024x2x2x32_0_1_3_2_4) shapeCasts_S4x1024x2x2x32_S4x1024x128

theorem pos_pair (k f : ℕ) (h : f < 512) : (((((0 * 1024 + k) * 4 + f / 128) * 2 + f / 64 % 2) * 2 + f / 32 % 2) * 32 + f % 32) = (0 * 1024 + k) * 512 + f := by omega

theorem pos_pair' (k f : ℕ) (h : f < 512) : (0 * 1024 + k) * 512 + (128 * (f / 128) + 64 * (f / 32 % 2) + 32 * (f / 64 % 2) + f % 32)
    = ((((0 * 1024 + k) * 4 + f / 128) * 2 + f / 32 % 2) * 2 + f / 64 % 2) * 32 + f % 32 := by omega

theorem pairW_at (y : Vec Ideal S4x1024x512 .f32) (k : Fin 1024) (f : Fin 512) :
    pairW y (ix3 0 k f) = y (ix3 0 k ⟨128 * (f.val / 128) + 64 * (f.val / 32 % 2) + 32 * (f.val / 64 % 2) + f.val % 32, by omega⟩) := by
  unfold pairW
  refine (shapeCast_apply _ _ (ix3 0 k f) (ix6 0 k ⟨f.val / 128, by omega⟩ ⟨f.val / 64 % 2, by omega⟩ ⟨f.val / 32 % 2, by omega⟩ ⟨f.val % 32, by omega⟩ : S4x1024x4x2x2x32.Idx) (by
      rewrite [Shape.rowMajor_val_six, Shape.rowMajor_val_three]; exact pos_pair k.val f.val f.isLt)).trans ?_
  refine (transpose_apply [0, 1, 2, 4, 3, 5] _ _ (ix6 0 k ⟨f.val / 128, by omega⟩ ⟨f.val / 64 % 2, by omega⟩ ⟨f.val / 32 % 2, by omega⟩ ⟨f.val % 32, by omega⟩ : S4x1024x4x2x2x32.Idx) (ix6 0 k ⟨f.val / 128, by omega⟩ ⟨f.val / 32 % 2, by omega⟩ ⟨f.val / 64 % 2, by omega⟩ ⟨f.val % 32, by omega⟩ : S4x1024x4x2x2x32.Idx)
    (fun b => match b with
    | ⟨0, _⟩ => rfl
    | ⟨1, _⟩ => rfl
    | ⟨2, _⟩ => rfl
    | ⟨3, _⟩ => rfl
    | ⟨4, _⟩ => rfl
    | ⟨5, _⟩ => rfl)).trans ?_
  exact shapeCast_apply _ _ _ _ (by
      rewrite [Shape.rowMajor_val_three, Shape.rowMajor_val_six]; exact pos_pair' k.val f.val f.isLt)

theorem pos_group' (k f : ℕ) (h : f < 512) : (0 * 1024 + k) * 512 + (256 * (f / 32 % 2) + 64 * (f / 128) + 32 * (f / 64 % 2) + f % 32)
    = ((((0 * 1024 + k) * 2 + f / 32 % 2) * 4 + f / 128) * 2 + f / 64 % 2) * 32 + f % 32 := by omega

theorem groupW_at (y : Vec Ideal S4x1024x512 .f32) (k : Fin 1024) (f : Fin 512) :
    groupW y (ix3 0 k f) = y (ix3 0 k ⟨256 * (f.val / 32 % 2) + 64 * (f.val / 128) + 32 * (f.val / 64 % 2) + f.val % 32, by omega⟩) := by
  unfold groupW
  refine (shapeCast_apply _ _ (ix3 0 k f) (ix6 0 k ⟨f.val / 128, by omega⟩ ⟨f.val / 64 % 2, by omega⟩ ⟨f.val / 32 % 2, by omega⟩ ⟨f.val % 32, by omega⟩ : S4x1024x4x2x2x32.Idx) (by
      rewrite [Shape.rowMajor_val_six, Shape.rowMajor_val_three]; exact pos_pair k.val f.val f.isLt)).trans ?_
  refine (transpose_apply [0, 1, 3, 4, 2, 5] _ _ (ix6 0 k ⟨f.val / 128, by omega⟩ ⟨f.val / 64 % 2, by omega⟩ ⟨f.val / 32 % 2, by omega⟩ ⟨f.val % 32, by omega⟩ : S4x1024x4x2x2x32.Idx) (ix6 0 k ⟨f.val / 32 % 2, by omega⟩ ⟨f.val / 128, by omega⟩ ⟨f.val / 64 % 2, by omega⟩ ⟨f.val % 32, by omega⟩ : S4x1024x2x4x2x32.Idx)
    (fun b => match b with
    | ⟨0, _⟩ => rfl
    | ⟨1, _⟩ => rfl
    | ⟨2, _⟩ => rfl
    | ⟨3, _⟩ => rfl
    | ⟨4, _⟩ => rfl
    | ⟨5, _⟩ => rfl)).trans ?_
  exact shapeCast_apply _ _ _ _ (by
      rewrite [Shape.rowMajor_val_three, Shape.rowMajor_val_six]; exact pos_group' k.val f.val f.isLt)

theorem pos_both (k f : ℕ) (h : f < 128) : ((((0 * 1024 + k) * 2 + f / 64 % 2) * 2 + f / 32 % 2) * 32 + f % 32) = (0 * 1024 + k) * 128 + f := by omega

theorem pos_both' (k f : ℕ) (h : f < 128) : (0 * 1024 + k) * 128 + (64 * (f / 32 % 2) + 32 * (f / 64 % 2) + f % 32)
    = (((0 * 1024 + k) * 2 + f / 32 % 2) * 2 + f / 64 % 2) * 32 + f % 32 := by omega

theorem bothW_at (y : Vec Ideal S4x1024x128 .f32) (k : Fin 1024) (f : Fin 128) :
    bothW y (ix3 0 k f) = y (ix3 0 k ⟨64 * (f.val / 32 % 2) + 32 * (f.val / 64 % 2) + f.val % 32, by omega⟩) := by
  unfold bothW
  refine (shapeCast_apply _ _ (ix3 0 k f) (ix5 0 k ⟨f.val / 64 % 2, by omega⟩ ⟨f.val / 32 % 2, by omega⟩ ⟨f.val % 32, by omega⟩ : S4x1024x2x2x32.Idx) (by
      rewrite [Shape.rowMajor_val_five, Shape.rowMajor_val_three]; exact pos_both k.val f.val f.isLt)).trans ?_
  refine (transpose_apply [0, 1, 3, 2, 4] _ _ (ix5 0 k ⟨f.val / 64 % 2, by omega⟩ ⟨f.val / 32 % 2, by omega⟩ ⟨f.val % 32, by omega⟩ : S4x1024x2x2x32.Idx) (ix5 0 k ⟨f.val / 32 % 2, by omega⟩ ⟨f.val / 64 % 2, by omega⟩ ⟨f.val % 32, by omega⟩ : S4x1024x2x2x32.Idx)
    (fun b => match b with
    | ⟨0, _⟩ => rfl
    | ⟨1, _⟩ => rfl
    | ⟨2, _⟩ => rfl
    | ⟨3, _⟩ => rfl
    | ⟨4, _⟩ => rfl)).trans ?_
  exact shapeCast_apply _ _ _ _ (by
      rewrite [Shape.rowMajor_val_three, Shape.rowMajor_val_five]; exact pos_both' k.val f.val f.isLt)

/-- The six parts side by side. -/
def sixW (a b g : Vec Ideal S4x1024x512 .f32) (k : Vec Ideal S4x1024x128 .f32) (v : Vec Ideal S4x1024x512 .f32) (u : Vec Ideal S4x1024x128 .f32) :
    Vec Ideal S4x1024x2304 .f32 :=
  concatenate S4x1024x2304 2 [⟨S4x1024x512, a⟩, ⟨S4x1024x512, b⟩, ⟨S4x1024x512, g⟩, ⟨S4x1024x128, k⟩, ⟨S4x1024x512, v⟩, ⟨S4x1024x128, u⟩]
    concatenates_S4x1024x512_S4x1024x512_S4x1024x512_S4x1024x128_S4x1024x512_S4x1024x128_S4x1024x2304_d2

section
variable (a b g : Vec Ideal S4x1024x512 .f32) (k : Vec Ideal S4x1024x128 .f32) (v : Vec Ideal S4x1024x512 .f32) (u : Vec Ideal S4x1024x128 .f32)

theorem six_0 (i : Fin 1024) (f : Fin 512) : sixW a b g k v u (ix3 0 i ⟨f.val, by omega⟩) = a (ix3 0 i f) := by pointwise [sixW]

theorem six_1 (i : Fin 1024) (f : Fin 512) : sixW a b g k v u (ix3 0 i ⟨512 + f.val, by omega⟩) = b (ix3 0 i f) := by pointwise [sixW]

theorem six_2 (i : Fin 1024) (f : Fin 512) : sixW a b g k v u (ix3 0 i ⟨1024 + f.val, by omega⟩) = g (ix3 0 i f) := by
  pointwise [sixW]
  split_ifs <;> first | (exfalso; omega) | (congr 2; apply Fin.ext; dsimp only; omega)

theorem six_3 (i : Fin 1024) (f : Fin 128) : sixW a b g k v u (ix3 0 i ⟨1536 + f.val, by omega⟩) = k (ix3 0 i f) := by
  pointwise [sixW]
  split_ifs <;> first | (exfalso; omega) | (congr 2; apply Fin.ext; dsimp only; omega)

theorem six_4 (i : Fin 1024) (f : Fin 512) : sixW a b g k v u (ix3 0 i ⟨1664 + f.val, by omega⟩) = v (ix3 0 i f) := by
  pointwise [sixW]
  split_ifs <;> first | (exfalso; omega) | (congr 2; apply Fin.ext; dsimp only; omega)

theorem six_5 (i : Fin 1024) (f : Fin 128) : sixW a b g k v u (ix3 0 i ⟨2176 + f.val, by omega⟩) = u (ix3 0 i f) := by
  pointwise [sixW]
  split_ifs <;> first | (exfalso; omega) | (congr 2; apply Fin.ext; dsimp only; omega)

end

/-- The weights as the kernel is given them. -/
def permuted (x : Vec Ideal S4x1024x2304 .f32) : Vec Ideal S4x1024x2304 .f32 :=
  sixW (pairW (extractStridedSlice S4x1024x512 ![0, 0, 0] x slices_S4x1024x2304_S4x1024x512_0_0_0))
    (pairW (extractStridedSlice S4x1024x512 ![0, 0, 512] x slices_S4x1024x2304_S4x1024x512_0_0_512))
    (groupW (extractStridedSlice S4x1024x512 ![0, 0, 1536] x slices_S4x1024x2304_S4x1024x512_0_0_1536))
    (bothW (extractStridedSlice S4x1024x128 ![0, 0, 2048] x slices_S4x1024x2304_S4x1024x128_0_0_2048))
    (extractStridedSlice S4x1024x512 ![0, 0, 1024] x slices_S4x1024x2304_S4x1024x512_0_0_1024)
    (extractStridedSlice S4x1024x128 ![0, 0, 2176] x slices_S4x1024x2304_S4x1024x128_0_0_2176)

theorem slice_at (x : Vec Ideal S4x1024x2304 .f32) (o : ℕ) (ho : o + 512 ≤ 2304) (h) (k : Fin 1024) (f : Fin 512) :
    extractStridedSlice S4x1024x512 ![0, 0, o] x h (ix3 0 k f) = x (ix3 0 k ⟨o + f.val, by omega⟩) := by pointwise

theorem slice_at' (x : Vec Ideal S4x1024x2304 .f32) (o : ℕ) (ho : o + 128 ≤ 2304) (h) (k : Fin 1024) (f : Fin 128) :
    extractStridedSlice S4x1024x128 ![0, 0, o] x h (ix3 0 k f) = x (ix3 0 k ⟨o + f.val, by omega⟩) := by pointwise

theorem permuted_at (x : Vec Ideal S4x1024x2304 .f32) (k : Fin 1024) (j : Fin 2304) :
    permuted x (ix3 0 k j) = x (ix3 0 k ⟨orig j.val, orig_lt _ j.isLt⟩) := by
  unfold permuted
  have fin : ∀ {a b : Fin 2304}, a.val = b.val → x (ix3 0 k a) = x (ix3 0 k b) := fun h => congrArg (fun c => x (ix3 0 k c)) (Fin.ext h)
  have arg : ∀ (y : Vec Ideal S4x1024x2304 .f32) {a b : Fin 2304}, a.val = b.val → y (ix3 0 k a) = y (ix3 0 k b) := fun y _ _ h => congrArg (fun c => y (ix3 0 k c)) (Fin.ext h)
  by_cases h0 : j.val < 512
  · refine (arg _ (by rfl)).trans ((six_0 _ _ _ _ _ _ k ⟨j.val, h0⟩).trans ((pairW_at _ k _).trans ((slice_at x 0 (by omega) _ k _).trans (fin ?_))))
    show 0 + (128 * (j.val / 128) + 64 * (j.val / 32 % 2) + 32 * (j.val / 64 % 2) + j.val % 32) = orig j.val
    unfold orig; split_ifs <;> omega
  by_cases h1 : j.val < 1024
  · refine (arg _ (by show j.val = 512 + (j.val - 512); omega)).trans ((six_1 _ _ _ _ _ _ k ⟨j.val - 512, by omega⟩).trans ((pairW_at _ k _).trans ((slice_at x 512 (by omega) _ k _).trans (fin ?_))))
    show 512 + (128 * ((j.val - 512) / 128) + 64 * ((j.val - 512) / 32 % 2) + 32 * ((j.val - 512) / 64 % 2) + (j.val - 512) % 32) = orig j.val
    unfold orig; split_ifs <;> omega
  by_cases h2 : j.val < 1536
  · refine (arg _ (by show j.val = 1024 + (j.val - 1024); omega)).trans ((six_2 _ _ _ _ _ _ k ⟨j.val - 1024, by omega⟩).trans ((groupW_at _ k _).trans ((slice_at x 1536 (by omega) _ k _).trans (fin ?_))))
    show 1536 + (256 * ((j.val - 1024) / 32 % 2) + 64 * ((j.val - 1024) / 128) + 32 * ((j.val - 1024) / 64 % 2) + (j.val - 1024) % 32) = orig j.val
    unfold orig; split_ifs <;> omega
  by_cases h3 : j.val < 1664
  · refine (arg _ (by show j.val = 1536 + (j.val - 1536); omega)).trans ((six_3 _ _ _ _ _ _ k ⟨j.val - 1536, by omega⟩).trans ((bothW_at _ k _).trans ((slice_at' x 2048 (by omega) _ k _).trans (fin ?_))))
    show 2048 + (64 * ((j.val - 1536) / 32 % 2) + 32 * ((j.val - 1536) / 64 % 2) + (j.val - 1536) % 32) = orig j.val
    unfold orig; split_ifs <;> omega
  by_cases h4 : j.val < 2176
  · refine (arg _ (by show j.val = 1664 + (j.val - 1664); omega)).trans ((six_4 _ _ _ _ _ _ k ⟨j.val - 1664, by omega⟩).trans ((slice_at x 1024 (by omega) _ k _).trans (fin ?_)))
    show 1024 + (j.val - 1664) = orig j.val
    unfold orig; split_ifs <;> omega
  · refine (arg _ (by show j.val = 2176 + (j.val - 2176); omega)).trans ((six_5 _ _ _ _ _ _ k ⟨j.val - 2176, by omega⟩).trans ((slice_at' x 2176 (by omega) _ k _).trans (fin ?_)))
    show 2176 + (j.val - 2176) = orig j.val
    unfold orig; split_ifs <;> omega

variable (m : (ℓ : Loc nD τ sig) → Buf (Elt Ideal) ℓ)

theorem six_congr {a a' b b' g g' : Vec Ideal S4x1024x512 .f32} {k k' : Vec Ideal S4x1024x128 .f32} {v v' : Vec Ideal S4x1024x512 .f32}
    {u u' : Vec Ideal S4x1024x128 .f32} (ea : a = a') (eb : b = b') (eg : g = g') (ek : k = k') (ev : v = v') (eu : u = u') :
    truncf (F := Ideal) .bf16 (concatenate S4x1024x2304 2 [⟨S4x1024x512, a⟩, ⟨S4x1024x512, b⟩, ⟨S4x1024x512, g⟩, ⟨S4x1024x128, k⟩, ⟨S4x1024x512, v⟩, ⟨S4x1024x128, u⟩]
      concatenates_S4x1024x512_S4x1024x512_S4x1024x512_S4x1024x128_S4x1024x512_S4x1024x128_S4x1024x2304_d2 : FVec Ideal S4x1024x2304 .f32) bitsLt_bf16_f32
      = sixW a' b' g' k' v' u' := by
  subst ea eb eg ek ev eu; rfl

theorem V_w (c : Dev nD) : V m c main_v25 = permuted (m ((c : Thread nD τ).loc main_arg1)) := by
  unfold V
  after_results_simp
  unfold permuted
  refine six_congr ?_ ?_ ?_ ?_ ?_ ?_ <;> dsimp only [Matrix.cons_val] <;> after_results_simp <;> rfl

/-- The cosines' table. -/
theorem V_cos (c : Dev nD) (n : Fin 65536) (l : Fin 128) : (V m c main_v2 : Vec Ideal S65536x128 .f32) (ix2 n l)
    = (m ((c : Thread nD τ).loc main_arg2) : Vec Ideal S65536x32 .f32) (ix2 n ⟨l.val % 32, by omega⟩) := by
  unfold V; after_results_simp <;> pointwise

/-- The sines' table: negated over the first two quarters. -/
def sines (s : Vec Ideal S65536x32 .f32) : Vec Ideal S65536x128 .f32 :=
  concatenate S65536x128 1 [⟨S65536x32, (Host.negf s : FVec Ideal S65536x32 .f32)⟩, ⟨S65536x32, (Host.negf s : FVec Ideal S65536x32 .f32)⟩, ⟨S65536x32, s⟩, ⟨S65536x32, s⟩]
    concatenates_S65536x32_S65536x32_S65536x32_S65536x32_S65536x128_d1

theorem four_congr {s a b d e : Vec Ideal S65536x32 .f32} (ea : a = (Host.negf s : FVec Ideal S65536x32 .f32)) (eb : b = (Host.negf s : FVec Ideal S65536x32 .f32))
    (ed : d = s) (ee : e = s) :
    concatenate S65536x128 1 [⟨S65536x32, a⟩, ⟨S65536x32, b⟩, ⟨S65536x32, d⟩, ⟨S65536x32, e⟩]
      concatenates_S65536x32_S65536x32_S65536x32_S65536x32_S65536x128_d1 = sines s := by
  subst ea eb ed ee; rfl

theorem V_sin (c : Dev nD) : V m c main_v5 = sines (m ((c : Thread nD τ).loc main_arg3)) := by
  unfold V
  after_results_simp
  refine four_congr ?_ ?_ ?_ ?_ <;> dsimp only [Matrix.cons_val] <;> after_results_simp <;> rfl

theorem sines_at (s : Vec Ideal S65536x32 .f32) (n : Fin 65536) (l : Fin 128) :
    sines s (ix2 n l) = if l.val < 64 then -s (ix2 n ⟨l.val % 32, by omega⟩) else s (ix2 n ⟨l.val % 32, by omega⟩) := by
  by_cases h : l.val < 64
  · rw [if_pos h]
    pointwise [sines]
    split_ifs <;> first | (exfalso; omega) | exact congrArg (fun q : Fin 32 => -s (ix2 n q)) (Fin.ext (by dsimp only; omega))
  · rw [if_neg h]
    pointwise [sines]
    split_ifs <;> first | (exfalso; omega) | exact congrArg (fun q : Fin 32 => s (ix2 n q)) (Fin.ext (by dsimp only; omega))

end Cert.ProjIdeal.Host

end
-- ==== Proof.ProjRef.lean ====
module

public import proofs.«01_k».proof.Proof.Spec
public import proofs.«01_k».proof.Proof.Gen.ProjRefIdeal.Read

@[expose] public section

set_option maxRecDepth 16384

noncomputable section

/-! The input projection's reference, read at an index. -/

namespace Cert.ProjRefIdeal.Read

open Cert.ProjRefIdeal Cert.ProjRefIdeal.Gen Idealize.ShloMosaic

section
variable (x0 : Vec Ideal S65536x1024 .f32) (x1 : Vec Ideal S4x1024x2304 .f32) (x2 x3 : Vec Ideal S65536x32 .f32)

/-- A token's projection on one column. -/
def proj (n : Fin 65536) (j : Fin 2304) : Ideal .f32 := ∑ k : Fin 1024, x0 (ix2 n k) * x1 (ix3 0 k j)

theorem proj_at (n : Fin 65536) (j : Fin 2304) : val_main_v2 (F := Ideal) x0 x1 (ix2 n j) = proj x0 x1 n j := by
  pointwise [val_main_v2, val_main_v1, val_main_v0, proj]

/-- The rotary positions of one column of the head that begins at column `c`: half `h`, pair `d`. -/
def rope (n : Fin 65536) (c : ℕ) (hc : c + 64 ≤ 2304) (h : ℕ) (d : Fin 32) : Ideal .f32 :=
  if h = 0 then
    proj x0 x1 n ⟨c + d.val, by omega⟩ * x2 (ix2 n d) + -proj x0 x1 n ⟨c + 32 + d.val, by omega⟩ * x3 (ix2 n d)
  else proj x0 x1 n ⟨c + 32 + d.val, by omega⟩ * x2 (ix2 n d) + proj x0 x1 n ⟨c + d.val, by omega⟩ * x3 (ix2 n d)

theorem rope_congr (n : Fin 65536) {c c' : ℕ} (e : c = c') (hc hc') {h h' : ℕ} (eh : h = h') {d d' : Fin 32} (ed : d = d') :
    rope x0 x1 x2 x3 n c hc h d = rope x0 x1 x2 x3 n c' hc' h' d' := by subst e eh ed; rfl

/-- The rotary's scale. -/
def factor : Ideal .f32 := Ideal.ofBits .f32 0x3E38AA3B#32

theorem turned17_0 (n : Fin 65536) (g : Fin 8) (d : Fin 32) :
    val_main_v17 (F := Ideal) x0 x1 x2 x3 (ix3 n g ⟨d.val, by omega⟩) = rope x0 x1 x2 x3 n (0 + 64 * g.val) (by omega) 0 d := by
  unfold rope
  rw [if_pos rfl]
  simp only [← proj_at]
  pointwise [val_main_v17, val_main_v16, val_main_v15, val_main_v14, val_main_v13, val_main_v12, val_main_v11, val_main_v10, val_main_v9, val_main_v8, val_main_v7, val_main_v6, val_main_v5, val_main_v4, val_main_v3]
  simp only [show g.val * 64 + d.val = 64 * g.val + d.val from by omega, show g.val * 64 + (32 + d.val) = 64 * g.val + 32 + d.val from by omega]

theorem turned17_1 (n : Fin 65536) (g : Fin 8) (d : Fin 32) :
    val_main_v17 (F := Ideal) x0 x1 x2 x3 (ix3 n g ⟨32 + d.val, by omega⟩) = rope x0 x1 x2 x3 n (0 + 64 * g.val) (by omega) 1 d := by
  unfold rope
  rw [if_neg (by decide)]
  simp only [← proj_at]
  pointwise [val_main_v17, val_main_v16, val_main_v15, val_main_v14, val_main_v13, val_main_v12, val_main_v11, val_main_v10, val_main_v9, val_main_v8, val_main_v7, val_main_v6, val_main_v5, val_main_v4, val_main_v3]
  simp only [show g.val * 64 + d.val = 64 * g.val + d.val from by omega, show g.val * 64 + (32 + d.val) = 64 * g.val + 32 + d.val from by omega]

theorem turned17 (n : Fin 65536) (g : Fin 8) (h : ℕ) (hh : h < 2) (d : Fin 32) :
    val_main_v17 (F := Ideal) x0 x1 x2 x3 (ix3 n g ⟨32 * h + d.val, by omega⟩) = rope x0 x1 x2 x3 n (0 + 64 * g.val) (by omega) h d := by
  obtain rfl | rfl : h = 0 ∨ h = 1 := by omega
  · refine Eq.trans (congrArg _ (congrArg _ (Fin.ext ?_))) (turned17_0 x0 x1 x2 x3 n g d)
    show 32 * 0 + d.val = d.val; omega
  · exact turned17_1 x0 x1 x2 x3 n g d

theorem turned34_0 (n : Fin 65536) (g : Fin 8) (d : Fin 32) :
    val_main_v34 (F := Ideal) x0 x1 x2 x3 (ix3 n g ⟨d.val, by omega⟩) = rope x0 x1 x2 x3 n (512 + 64 * g.val) (by omega) 0 d := by
  unfold rope
  rw [if_pos rfl]
  simp only [← proj_at]
  pointwise [val_main_v34, val_main_v33, val_main_v32, val_main_v31, val_main_v30, val_main_v29, val_main_v28, val_main_v27, val_main_v26, val_main_v25, val_main_v24, val_main_v23, val_main_v22, val_main_v21, val_main_v20]
  simp only [show 512 + (g.val * 64 + d.val) = 512 + 64 * g.val + d.val from by omega, show 512 + (g.val * 64 + (32 + d.val)) = 512 + 64 * g.val + 32 + d.val from by omega]

theorem turned34_1 (n : Fin 65536) (g : Fin 8) (d : Fin 32) :
    val_main_v34 (F := Ideal) x0 x1 x2 x3 (ix3 n g ⟨32 + d.val, by omega⟩) = rope x0 x1 x2 x3 n (512 + 64 * g.val) (by omega) 1 d := by
  unfold rope
  rw [if_neg (by decide)]
  simp only [← proj_at]
  pointwise [val_main_v34, val_main_v33, val_main_v32, val_main_v31, val_main_v30, val_main_v29, val_main_v28, val_main_v27, val_main_v26, val_main_v25, val_main_v24, val_main_v23, val_main_v22, val_main_v21, val_main_v20]
  simp only [show 512 + (g.val * 64 + d.val) = 512 + 64 * g.val + d.val from by omega, show 512 + (g.val * 64 + (32 + d.val)) = 512 + 64 * g.val + 32 + d.val from by omega]

theorem turned34 (n : Fin 65536) (g : Fin 8) (h : ℕ) (hh : h < 2) (d : Fin 32) :
    val_main_v34 (F := Ideal) x0 x1 x2 x3 (ix3 n g ⟨32 * h + d.val, by omega⟩) = rope x0 x1 x2 x3 n (512 + 64 * g.val) (by omega) h d := by
  obtain rfl | rfl : h = 0 ∨ h = 1 := by omega
  · refine Eq.trans (congrArg _ (congrArg _ (Fin.ext ?_))) (turned34_0 x0 x1 x2 x3 n g d)
    show 32 * 0 + d.val = d.val; omega
  · exact turned34_1 x0 x1 x2 x3 n g d

theorem turned49_0 (n : Fin 65536) (g : Fin 8) (d : Fin 32) :
    val_main_v49 (F := Ideal) x0 x1 x2 x3 (ix3 n g ⟨d.val, by omega⟩) = rope x0 x1 x2 x3 n (1536 + 64 * g.val) (by omega) 0 d := by
  unfold rope
  rw [if_pos rfl]
  simp only [← proj_at]
  pointwise [val_main_v49, val_main_v48, val_main_v47, val_main_v46, val_main_v45, val_main_v44, val_main_v43, val_main_v42, val_main_v41, val_main_v40, val_main_v39, val_main_v38, val_main_v37, val_main_v36, val_main_v35]
  simp only [show 1536 + (g.val * 64 + d.val) = 1536 + 64 * g.val + d.val from by omega, show 1536 + (g.val * 64 + (32 + d.val)) = 1536 + 64 * g.val + 32 + d.val from by omega]

theorem turned49_1 (n : Fin 65536) (g : Fin 8) (d : Fin 32) :
    val_main_v49 (F := Ideal) x0 x1 x2 x3 (ix3 n g ⟨32 + d.val, by omega⟩) = rope x0 x1 x2 x3 n (1536 + 64 * g.val) (by omega) 1 d := by
  unfold rope
  rw [if_neg (by decide)]
  simp only [← proj_at]
  pointwise [val_main_v49, val_main_v48, val_main_v47, val_main_v46, val_main_v45, val_main_v44, val_main_v43, val_main_v42, val_main_v41, val_main_v40, val_main_v39, val_main_v38, val_main_v37, val_main_v36, val_main_v35]
  simp only [show 1536 + (g.val * 64 + d.val) = 1536 + 64 * g.val + d.val from by omega, show 1536 + (g.val * 64 + (32 + d.val)) = 1536 + 64 * g.val + 32 + d.val from by omega]

theorem turned49 (n : Fin 65536) (g : Fin 8) (h : ℕ) (hh : h < 2) (d : Fin 32) :
    val_main_v49 (F := Ideal) x0 x1 x2 x3 (ix3 n g ⟨32 * h + d.val, by omega⟩) = rope x0 x1 x2 x3 n (1536 + 64 * g.val) (by omega) h d := by
  obtain rfl | rfl : h = 0 ∨ h = 1 := by omega
  · refine Eq.trans (congrArg _ (congrArg _ (Fin.ext ?_))) (turned49_0 x0 x1 x2 x3 n g d)
    show 32 * 0 + d.val = d.val; omega
  · exact turned49_1 x0 x1 x2 x3 n g d

theorem turned66_0 (n : Fin 65536) (g : Fin 2) (d : Fin 32) :
    val_main_v66 (F := Ideal) x0 x1 x2 x3 (ix3 n g ⟨d.val, by omega⟩) = rope x0 x1 x2 x3 n (2048 + 64 * g.val) (by omega) 0 d := by
  unfold rope
  rw [if_pos rfl]
  simp only [← proj_at]
  pointwise [val_main_v66, val_main_v65, val_main_v64, val_main_v63, val_main_v62, val_main_v61, val_main_v60, val_main_v59, val_main_v58, val_main_v57, val_main_v56, val_main_v55, val_main_v54, val_main_v53, val_main_v52]
  simp only [show 2048 + (g.val * 64 + d.val) = 2048 + 64 * g.val + d.val from by omega, show 2048 + (g.val * 64 + (32 + d.val)) = 2048 + 64 * g.val + 32 + d.val from by omega]

theorem turned66_1 (n : Fin 65536) (g : Fin 2) (d : Fin 32) :
    val_main_v66 (F := Ideal) x0 x1 x2 x3 (ix3 n g ⟨32 + d.val, by omega⟩) = rope x0 x1 x2 x3 n (2048 + 64 * g.val) (by omega) 1 d := by
  unfold rope
  rw [if_neg (by decide)]
  simp only [← proj_at]
  pointwise [val_main_v66, val_main_v65, val_main_v64, val_main_v63, val_main_v62, val_main_v61, val_main_v60, val_main_v59, val_main_v58, val_main_v57, val_main_v56, val_main_v55, val_main_v54, val_main_v53, val_main_v52]
  simp only [show 2048 + (g.val * 64 + d.val) = 2048 + 64 * g.val + d.val from by omega, show 2048 + (g.val * 64 + (32 + d.val)) = 2048 + 64 * g.val + 32 + d.val from by omega]

theorem turned66 (n : Fin 65536) (g : Fin 2) (h : ℕ) (hh : h < 2) (d : Fin 32) :
    val_main_v66 (F := Ideal) x0 x1 x2 x3 (ix3 n g ⟨32 * h + d.val, by omega⟩) = rope x0 x1 x2 x3 n (2048 + 64 * g.val) (by omega) h d := by
  obtain rfl | rfl : h = 0 ∨ h = 1 := by omega
  · refine Eq.trans (congrArg _ (congrArg _ (Fin.ext ?_))) (turned66_0 x0 x1 x2 x3 n g d)
    show 32 * 0 + d.val = d.val; omega
  · exact turned66_1 x0 x1 x2 x3 n g d

end

/-! The re-layings. -/

theorem pos_pair (n f : ℕ) : (((n * 4 + f / 128) * 2 + f / 64 % 2) * 2 + f / 32 % 2) * 32 + f % 32 = n * 512 + f := by omega

theorem pos_pair' (n f : ℕ) : (n * 8 + (2 * (f / 128) + f / 32 % 2)) * 64 + (32 * (f / 64 % 2) + f % 32)
    = (((n * 4 + f / 128) * 2 + f / 32 % 2) * 2 + f / 64 % 2) * 32 + f % 32 := by omega

theorem pair_at (y : Vec Ideal S65536x8x64 .f32) (n : Fin 65536) (f : Fin 512) :
    shapeCast S65536x512 (transpose S65536x4x2x2x32 [0, 1, 3, 2, 4] (shapeCast S65536x4x2x2x32 y shapeCasts_S65536x8x64_S65536x4x2x2x32)
      transposes_S65536x4x2x2x32_S65536x4x2x2x32_0_1_3_2_4) shapeCasts_S65536x4x2x2x32_S65536x512 (ix2 n f)
      = y (ix3 n ⟨2 * (f.val / 128) + f.val / 32 % 2, by omega⟩ ⟨32 * (f.val / 64 % 2) + f.val % 32, by omega⟩) := by
  refine (shapeCast_apply _ _ (ix2 n f) (ix5 n ⟨f.val / 128, by omega⟩ ⟨f.val / 64 % 2, by omega⟩ ⟨f.val / 32 % 2, by omega⟩ ⟨f.val % 32, by omega⟩ : S65536x4x2x2x32.Idx) (by
      rewrite [Shape.rowMajor_val_five, Shape.rowMajor_val_two]; exact pos_pair n.val f.val)).trans ?_
  refine (transpose_apply [0, 1, 3, 2, 4] _ _ (ix5 n ⟨f.val / 128, by omega⟩ ⟨f.val / 64 % 2, by omega⟩ ⟨f.val / 32 % 2, by omega⟩ ⟨f.val % 32, by omega⟩ : S65536x4x2x2x32.Idx) (ix5 n ⟨f.val / 128, by omega⟩ ⟨f.val / 32 % 2, by omega⟩ ⟨f.val / 64 % 2, by omega⟩ ⟨f.val % 32, by omega⟩ : S65536x4x2x2x32.Idx)
    (fun b => match b with
    | ⟨0, _⟩ => rfl
    | ⟨1, _⟩ => rfl
    | ⟨2, _⟩ => rfl
    | ⟨3, _⟩ => rfl
    | ⟨4, _⟩ => rfl)).trans ?_
  exact shapeCast_apply _ _ _ _ (by
      rewrite [Shape.rowMajor_val_three, Shape.rowMajor_val_five]; exact pos_pair' n.val f.val)

theorem pos_group (n f : ℕ) : (((n * 4 + f / 128) * 2 + f / 64 % 2) * 2 + f / 32 % 2) * 32 + f % 32 = n * 512 + f := by omega

theorem pos_group' (n f : ℕ) (h : f < 512) : (n * 8 + (4 * (f / 32 % 2) + f / 128)) * 64 + (32 * (f / 64 % 2) + f % 32)
    = (((n * 2 + f / 32 % 2) * 4 + f / 128) * 2 + f / 64 % 2) * 32 + f % 32 := by omega

theorem group_at (y : Vec Ideal S65536x8x64 .f32) (n : Fin 65536) (f : Fin 512) :
    shapeCast S65536x512 (transpose S65536x4x2x2x32 [0, 2, 3, 1, 4] (shapeCast S65536x2x4x2x32 y shapeCasts_S65536x8x64_S65536x2x4x2x32)
      transposes_S65536x2x4x2x32_S65536x4x2x2x32_0_2_3_1_4) shapeCasts_S65536x4x2x2x32_S65536x512 (ix2 n f)
      = y (ix3 n ⟨4 * (f.val / 32 % 2) + f.val / 128, by omega⟩ ⟨32 * (f.val / 64 % 2) + f.val % 32, by omega⟩) := by
  refine (shapeCast_apply _ _ (ix2 n f) (ix5 n ⟨f.val / 128, by omega⟩ ⟨f.val / 64 % 2, by omega⟩ ⟨f.val / 32 % 2, by omega⟩ ⟨f.val % 32, by omega⟩ : S65536x4x2x2x32.Idx) (by
      rewrite [Shape.rowMajor_val_five, Shape.rowMajor_val_two]; exact pos_group n.val f.val)).trans ?_
  refine (transpose_apply [0, 2, 3, 1, 4] _ _ (ix5 n ⟨f.val / 128, by omega⟩ ⟨f.val / 64 % 2, by omega⟩ ⟨f.val / 32 % 2, by omega⟩ ⟨f.val % 32, by omega⟩ : S65536x4x2x2x32.Idx) (ix5 n ⟨f.val / 32 % 2, by omega⟩ ⟨f.val / 128, by omega⟩ ⟨f.val / 64 % 2, by omega⟩ ⟨f.val % 32, by omega⟩ : S65536x2x4x2x32.Idx)
    (fun b => match b with
    | ⟨0, _⟩ => rfl
    | ⟨1, _⟩ => rfl
    | ⟨2, _⟩ => rfl
    | ⟨3, _⟩ => rfl
    | ⟨4, _⟩ => rfl)).trans ?_
  exact shapeCast_apply _ _ _ _ (by
      rewrite [Shape.rowMajor_val_three, Shape.rowMajor_val_five]; exact pos_group' n.val f.val f.isLt)

theorem pos_both (n f : ℕ) (h : f < 128) : ((n * 2 + f / 64) * 2 + f / 32 % 2) * 32 + f % 32 = n * 128 + f := by omega

theorem pos_both' (n f : ℕ) : (n * 2 + f / 32 % 2) * 64 + (32 * (f / 64) + f % 32)
    = ((n * 2 + f / 32 % 2) * 2 + f / 64) * 32 + f % 32 := by omega

theorem both_at (y : Vec Ideal S65536x2x64 .f32) (n : Fin 65536) (f : Fin 128) :
    shapeCast S65536x128 (transpose S65536x2x2x32 [0, 2, 1, 3] (shapeCast S65536x2x2x32 y shapeCasts_S65536x2x64_S65536x2x2x32)
      transposes_S65536x2x2x32_S65536x2x2x32_0_2_1_3) shapeCasts_S65536x2x2x32_S65536x128 (ix2 n f)
      = y (ix3 n ⟨f.val / 32 % 2, by omega⟩ ⟨32 * (f.val / 64) + f.val % 32, by omega⟩) := by
  refine (shapeCast_apply _ _ (ix2 n f) (ix4 n ⟨f.val / 64, by omega⟩ ⟨f.val / 32 % 2, by omega⟩ ⟨f.val % 32, by omega⟩ : S65536x2x2x32.Idx) (by
      rewrite [Shape.rowMajor_val_four, Shape.rowMajor_val_two]; exact pos_both n.val f.val f.isLt)).trans ?_
  refine (transpose_apply [0, 2, 1, 3] _ _ (ix4 n ⟨f.val / 64, by omega⟩ ⟨f.val / 32 % 2, by omega⟩ ⟨f.val % 32, by omega⟩ : S65536x2x2x32.Idx) (ix4 n ⟨f.val / 32 % 2, by omega⟩ ⟨f.val / 64, by omega⟩ ⟨f.val % 32, by omega⟩ : S65536x2x2x32.Idx)
    (fun b => match b with
    | ⟨0, _⟩ => rfl
    | ⟨1, _⟩ => rfl
    | ⟨2, _⟩ => rfl
    | ⟨3, _⟩ => rfl)).trans ?_
  exact shapeCast_apply _ _ _ _ (by
      rewrite [Shape.rowMajor_val_three, Shape.rowMajor_val_four]; exact pos_both' n.val f.val)

theorem tok_lt (b : Fin 16) (i : Fin 32) (t : Fin 128) : 4096 * b.val + 128 * i.val + t.val < 65536 := by omega

theorem pos_blocks (b i t f : ℕ) : (4096 * b + 128 * i + t) * 512 + f = ((b * 32 + i) * 128 + t) * 512 + f := by omega

theorem pos_blocks' (b i t f : ℕ) : (4096 * b + 128 * i + t) * 128 + f = ((b * 32 + i) * 128 + t) * 128 + f := by omega

theorem blocks_at (z : Vec Ideal S65536x512 .f32) (b : Fin 16) (i : Fin 32) (f : Fin 512) (t : Fin 128) :
    transpose S16x32x512x128 [0, 1, 3, 2] (shapeCast S16x32x128x512 z shapeCasts_S65536x512_S16x32x128x512)
      transposes_S16x32x128x512_S16x32x512x128_0_1_3_2 (ix4 b i f t) = z (ix2 ⟨4096 * b.val + 128 * i.val + t.val, tok_lt b i t⟩ f) := by
  refine (transpose_apply [0, 1, 3, 2] _ _ (ix4 b i f t : S16x32x512x128.Idx) (ix4 b i t f : S16x32x128x512.Idx) (fun b => match b with
    | ⟨0, _⟩ => rfl
    | ⟨1, _⟩ => rfl
    | ⟨2, _⟩ => rfl
    | ⟨3, _⟩ => rfl)).trans ?_
  exact shapeCast_apply _ _ _ _ (by
      rewrite [Shape.rowMajor_val_two, Shape.rowMajor_val_four]; exact pos_blocks b.val i.val t.val f.val)

theorem blocks_at' (z : Vec Ideal S65536x128 .f32) (b : Fin 16) (i : Fin 32) (f : Fin 128) (t : Fin 128) :
    transpose S16x32x128x128 [0, 1, 3, 2] (shapeCast S16x32x128x128 z shapeCasts_S65536x128_S16x32x128x128)
      transposes_S16x32x128x128_S16x32x128x128_0_1_3_2 (ix4 b i f t) = z (ix2 ⟨4096 * b.val + 128 * i.val + t.val, tok_lt b i t⟩ f) := by
  refine (transpose_apply [0, 1, 3, 2] _ _ (ix4 b i f t : S16x32x128x128.Idx) (ix4 b i t f : S16x32x128x128.Idx) (fun b => match b with
    | ⟨0, _⟩ => rfl
    | ⟨1, _⟩ => rfl
    | ⟨2, _⟩ => rfl
    | ⟨3, _⟩ => rfl)).trans ?_
  exact shapeCast_apply _ _ _ _ (by
      rewrite [Shape.rowMajor_val_two, Shape.rowMajor_val_four]; exact pos_blocks' b.val i.val t.val f.val)

/-! The six results. -/

theorem cut_at {S : Shape} (y : FVec Ideal S .f32) (i : S.Idx) : truncf (F := Ideal) .bf16 y bitsLt_bf16_f32 i = y i := rfl

variable (x0 : Vec Ideal S65536x1024 .f32) (x1 : Vec Ideal S4x1024x2304 .f32) (x2 x3 : Vec Ideal S65536x32 .f32)

/-- The dual-pair heads' column, permuted: the one at feature `f` from column `o`. -/
def pairRope (n : Fin 65536) (o : ℕ) (ho : o + 512 ≤ 2304) (f : Fin 512) : Ideal .f32 :=
  rope x0 x1 x2 x3 n (o + 64 * (2 * (f.val / 128) + f.val / 32 % 2)) (by omega) (f.val / 64 % 2) ⟨f.val % 32, by omega⟩

/-- The same of the grouped queries. -/
def groupRope (n : Fin 65536) (f : Fin 512) : Ideal .f32 :=
  rope x0 x1 x2 x3 n (1536 + 64 * (4 * (f.val / 32 % 2) + f.val / 128)) (by omega) (f.val / 64 % 2) ⟨f.val % 32, by omega⟩

/-- The same of the grouped keys. -/
def bothRope (n : Fin 65536) (f : Fin 128) : Ideal .f32 :=
  rope x0 x1 x2 x3 n (2048 + 64 * (f.val / 32 % 2)) (by omega) (f.val / 64) ⟨f.val % 32, by omega⟩

theorem scaled_at (i : S65536x8x64.Idx) : val_main_v19 (F := Ideal) x0 x1 x2 x3 i = val_main_v17 (F := Ideal) x0 x1 x2 x3 i * factor := rfl

theorem scaled_at' (i : S65536x8x64.Idx) : val_main_v51 (F := Ideal) x0 x1 x2 x3 i = val_main_v49 (F := Ideal) x0 x1 x2 x3 i * factor := rfl

theorem qd_at (b : Fin 16) (i : Fin 32) (f : Fin 512) (t : Fin 128) :
    val_main_v78 (F := Ideal) x0 x1 x2 x3 (ix4 b i f t)
      = pairRope x0 x1 x2 x3 ⟨4096 * b.val + 128 * i.val + t.val, tok_lt b i t⟩ 0 (by decide) f * factor := by
  unfold val_main_v78 val_main_v77 val_main_v76 val_main_v75 val_main_v74 val_main_v73
  refine (cut_at _ _).trans ?_
  refine (blocks_at _ b i f t).trans ((pair_at _ _ f).trans ((scaled_at x0 x1 x2 x3 _).trans ?_))
  exact congrArg (· * factor) (turned17 x0 x1 x2 x3 _ _ _ (by omega) ⟨f.val % 32, by omega⟩)

theorem kd_at (n : Fin 65536) (f : Fin 512) :
    val_main_v82 (F := Ideal) x0 x1 x2 x3 (ix2 n f) = pairRope x0 x1 x2 x3 n 512 (by decide) f := by
  unfold val_main_v82 val_main_v81 val_main_v80 val_main_v79
  refine (cut_at _ _).trans ?_
  exact (pair_at _ n f).trans (turned34 x0 x1 x2 x3 _ _ _ (by omega) ⟨f.val % 32, by omega⟩)

theorem vd_at (b : Fin 16) (i : Fin 32) (f : Fin 512) (t : Fin 128) :
    val_main_v86 (F := Ideal) x0 x1 (ix4 b i f t)
      = proj x0 x1 ⟨4096 * b.val + 128 * i.val + t.val, tok_lt b i t⟩ ⟨1024 + f.val, by omega⟩ := by
  unfold val_main_v86 val_main_v85 val_main_v84
  refine (cut_at _ _).trans ?_
  refine (blocks_at _ b i f t).trans ?_
  rw [← proj_at]
  pointwise [val_main_v83]

theorem qs_at (b : Fin 16) (i : Fin 32) (f : Fin 512) (t : Fin 128) :
    val_main_v89 (F := Ideal) x0 x1 x2 x3 (ix4 b i f t)
      = groupRope x0 x1 x2 x3 ⟨4096 * b.val + 128 * i.val + t.val, tok_lt b i t⟩ f * factor := by
  unfold val_main_v89 val_main_v88 val_main_v87 val_main_v69 val_main_v68 val_main_v67
  refine (cut_at _ _).trans ?_
  refine (blocks_at _ b i f t).trans ((group_at _ _ f).trans ((scaled_at' x0 x1 x2 x3 _).trans ?_))
  exact congrArg (· * factor) (turned49 x0 x1 x2 x3 _ _ _ (by omega) ⟨f.val % 32, by omega⟩)

theorem ks_at (n : Fin 65536) (f : Fin 128) :
    val_main_v90 (F := Ideal) x0 x1 x2 x3 (ix2 n f) = bothRope x0 x1 x2 x3 n f := by
  unfold val_main_v90 val_main_v72 val_main_v71 val_main_v70
  refine (cut_at _ _).trans ?_
  exact (both_at _ n f).trans (turned66 x0 x1 x2 x3 _ _ _ (by omega) ⟨f.val % 32, by omega⟩)

theorem vs_at (b : Fin 16) (i : Fin 32) (f : Fin 128) (t : Fin 128) :
    val_main_v94 (F := Ideal) x0 x1 (ix4 b i f t)
      = proj x0 x1 ⟨4096 * b.val + 128 * i.val + t.val, tok_lt b i t⟩ ⟨2176 + f.val, by omega⟩ := by
  unfold val_main_v94 val_main_v93 val_main_v92
  refine (cut_at _ _).trans ?_
  refine (blocks_at' _ b i f t).trans ?_
  rw [← proj_at]
  pointwise [val_main_v91]

end Cert.ProjRefIdeal.Read

end
-- ==== Proof.ProjValue.lean ====
module

public import proofs.«01_k».proof.Proof.ProjHost
public import proofs.«01_k».proof.Proof.ProjRef

@[expose] public section

set_option maxRecDepth 16384

noncomputable section

/-! The input projection: the arrays after the run are the reference's functions of the arguments. -/

namespace Cert.ProjIdeal.Value

open Cert.ProjIdeal Cert.ProjIdeal.Gen Cert.ProjIdeal.Block Cert.ProjIdeal.Host Idealize.ShloMosaic Idealize.ShloMosaic.TcCoe Idealize.SL.Sem
open Idealize.ShloMosaic.Pipeline (Dat)
open Cert.ProjRefIdeal.Read (proj rope pairRope groupRope bothRope)

variable (m : (ℓ : Loc nD τ sig) → Buf (Elt Ideal) ℓ) (ρ : Dev nD → PrngReg)

/-- The activations. -/
abbrev X (c : Dev nD) : Vec Ideal S65536x1024 .f32 := m ((c : Thread nD τ).loc main_arg0)
/-- The weights. -/
abbrev W (c : Dev nD) : Vec Ideal S4x1024x2304 .f32 := m ((c : Thread nD τ).loc main_arg1)
/-- The cosines. -/
abbrev C (c : Dev nD) : Vec Ideal S65536x32 .f32 := m ((c : Thread nD τ).loc main_arg2)
/-- The sines. -/
abbrev S (c : Dev nD) : Vec Ideal S65536x32 .f32 := m ((c : Thread nD τ).loc main_arg3)

/-! The input blocks at a grid point, read at an index. -/

theorem blk_x (c : Dev nD) (t : Fin cfg0.N) (r : Fin 1024) (k : Fin 1024) (h : 1024 * t.val + r.val < 65536) :
    (iblk m c 0 t : Vec Ideal S1024x1024 .f32) (ix2 r k) = (V m c main_arg0 : Vec Ideal S65536x1024 .f32) (ix2 ⟨1024 * t.val + r.val, h⟩ k) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_arg0 _ = V m c main_arg0 _
  congr 1
  funext a
  apply Fin.ext
  match a with
  | ⟨0, _⟩ => show win0_0.index t 0 * 1024 + 1 * r.val = 1024 * t.val + r.val; rw [hi.1]; omega
  | ⟨1, _⟩ => show win0_0.index t 1 * 1024 + 1 * k.val = k.val; rw [hi.2]; omega

theorem blk_w (c : Dev nD) (t : Fin cfg0.N) (k : Fin 1024) (l : Fin 2304) :
    (iblk m c 1 t : Vec Ideal S1x1024x2304 .bf16) (ix3 0 k l) = (V m c main_v25 : Vec Ideal S4x1024x2304 .bf16) (ix3 0 k l) := by
  have hi : win0_1.index t 0 = 0 ∧ win0_1.index t 1 = 0 ∧ win0_1.index t 2 = 0 :=
    (by decide +kernel : ∀ t : Fin grid0.N, win0_1.index t 0 = 0 ∧ win0_1.index t 1 = 0 ∧ win0_1.index t 2 = 0) t
  unfold iblk
  rw [View.read_apply]
  show V m c main_v25 _ = V m c main_v25 _
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2.1]; omega
  | ⟨2, _⟩ => show win0_1.index t 2 * 2304 + 1 * l.val = l.val; rw [hi.2.2]; omega

theorem blk_c (c : Dev nD) (t : Fin cfg0.N) (r : Fin 1024) (k : Fin 128) (h : 1024 * t.val + r.val < 65536) :
    (iblk m c 2 t : Vec Ideal S1024x128 .f32) (ix2 r k) = (V m c main_v2 : Vec Ideal S65536x128 .f32) (ix2 ⟨1024 * t.val + r.val, h⟩ k) := by
  have hi : win0_2.index t 0 = t.val ∧ win0_2.index t 1 = 0 :=
    (by decide +kernel : ∀ t : Fin grid0.N, win0_2.index t 0 = t.val ∧ win0_2.index t 1 = 0) t
  unfold iblk
  rw [View.read_apply]
  show V m c main_v2 _ = V m c main_v2 _
  congr 1
  funext a
  apply Fin.ext
  match a with
  | ⟨0, _⟩ => show win0_2.index t 0 * 1024 + 1 * r.val = 1024 * t.val + r.val; rw [hi.1]; omega
  | ⟨1, _⟩ => show win0_2.index t 1 * 128 + 1 * k.val = k.val; rw [hi.2]; omega

theorem blk_s (c : Dev nD) (t : Fin cfg0.N) (r : Fin 1024) (k : Fin 128) (h : 1024 * t.val + r.val < 65536) :
    (iblk m c 3 t : Vec Ideal S1024x128 .f32) (ix2 r k) = (V m c main_v5 : Vec Ideal S65536x128 .f32) (ix2 ⟨1024 * t.val + r.val, h⟩ k) := by
  have hi : win0_3.index t 0 = t.val ∧ win0_3.index t 1 = 0 :=
    (by decide +kernel : ∀ t : Fin grid0.N, win0_3.index t 0 = t.val ∧ win0_3.index t 1 = 0) t
  unfold iblk
  rw [View.read_apply]
  show V m c main_v5 _ = V m c main_v5 _
  congr 1
  funext a
  apply Fin.ext
  match a with
  | ⟨0, _⟩ => show win0_3.index t 0 * 1024 + 1 * r.val = 1024 * t.val + r.val; rw [hi.1]; omega
  | ⟨1, _⟩ => show win0_3.index t 1 * 128 + 1 * k.val = k.val; rw [hi.2]; omega

theorem row_lt (t : Fin cfg0.N) (r : Fin 1024) : 1024 * t.val + r.val < 65536 := by
  have ht : t.val < 64 := t.isLt
  omega

/-- The token at row `r` of grid point `t`. -/
def tok (t : Fin cfg0.N) (r : Fin 1024) : Fin 65536 := ⟨1024 * t.val + r.val, row_lt t r⟩

theorem x_at (c : Dev nD) (t : Fin cfg0.N) (r k : Fin 1024) : (iblk m c 0 t : Vec Ideal S1024x1024 .f32) (ix2 r k) = X m c (ix2 (tok t r) k) :=
  (blk_x m c t r k (row_lt t r)).trans (congrFun (V_main_arg0 m c) _)

theorem w_at (c : Dev nD) (t : Fin cfg0.N) (k : Fin 1024) (j : Fin 2304) :
    (iblk m c 1 t : Vec Ideal S1x1024x2304 .bf16) (ix3 0 k j) = W m c (ix3 0 k ⟨orig j.val, orig_lt _ j.isLt⟩) :=
  (blk_w m c t k j).trans ((congrFun (V_w m c) _).trans (permuted_at (W m c) k j))

theorem c_at (c : Dev nD) (t : Fin cfg0.N) (r : Fin 1024) (l : Fin 128) :
    (iblk m c 2 t : Vec Ideal S1024x128 .f32) (ix2 r l) = C m c (ix2 (tok t r) ⟨l.val % 32, by omega⟩) :=
  (blk_c m c t r l (row_lt t r)).trans (V_cos m c _ l)

theorem s_at (c : Dev nD) (t : Fin cfg0.N) (r : Fin 1024) (l : Fin 128) :
    (iblk m c 3 t : Vec Ideal S1024x128 .f32) (ix2 r l)
      = if l.val < 64 then -S m c (ix2 (tok t r) ⟨l.val % 32, by omega⟩) else S m c (ix2 (tok t r) ⟨l.val % 32, by omega⟩) :=
  (blk_s m c t r l (row_lt t r)).trans ((congrFun (V_sin m c) _).trans (sines_at (S m c) _ l))

/-- A product of the block is the reference's, on the original column. -/
theorem dot_eq (c : Dev nD) (t : Fin cfg0.N) (r : Fin 1024) (j j' : Fin 2304) (e : orig j.val = j'.val) :
    dotAt (iblk m c 0 t) (iblk m c 1 t) r j = proj (X m c) (W m c) (tok t r) j' := by
  unfold dotAt proj
  refine Finset.sum_congr rfl fun k _ => congrArg₂ (· * ·) (x_at m c t r k) ((w_at m c t k j).trans ?_)
  exact congrArg (fun q => W m c (ix3 0 k q)) (Fin.ext e)

theorem spun_lo (c : Dev nD) (t : Fin cfg0.N) (o : ℕ) (ho : o + 128 ≤ 2304) (r : Fin 1024) (l : Fin 128) (b : ℕ) (hb : b + 64 ≤ 2304) (d : Fin 32)
    (hl : l.val < 64) (hd : l.val % 32 = d.val) (h1 : orig (o + l.val) = b + d.val) (h2 : orig (o + (l.val + 64) % 128) = b + 32 + d.val) :
    spunAt (iblk m c 0 t) (iblk m c 1 t) (iblk m c 2 t) (iblk m c 3 t) o ho r l = rope (X m c) (W m c) (C m c) (S m c) (tok t r) b hb 0 d := by
  have ed : (⟨l.val % 32, by omega⟩ : Fin 32) = d := Fin.ext hd
  have e1 := dot_eq m c t r ⟨o + l.val, by omega⟩ ⟨b + d.val, by omega⟩ h1
  have e2 := dot_eq m c t r ⟨o + (l.val + 64) % 128, by omega⟩ ⟨b + 32 + d.val, by omega⟩ h2
  have e3 := c_at m c t r l
  have e4 := s_at m c t r l
  rw [if_pos hl] at e4
  rw [ed] at e3 e4
  unfold spunAt rope
  rw [if_pos rfl]
  refine congrArg₂ (· + ·) (congrArg₂ (· * ·) e1 e3) ((congrArg₂ (· * ·) e2 e4).trans ?_)
  exact (mul_neg _ _).trans (neg_mul _ _).symm

theorem spun_hi (c : Dev nD) (t : Fin cfg0.N) (o : ℕ) (ho : o + 128 ≤ 2304) (r : Fin 1024) (l : Fin 128) (b : ℕ) (hb : b + 64 ≤ 2304) (d : Fin 32)
    (hl : ¬ l.val < 64) (hd : l.val % 32 = d.val) (h1 : orig (o + l.val) = b + 32 + d.val) (h2 : orig (o + (l.val + 64) % 128) = b + d.val) :
    spunAt (iblk m c 0 t) (iblk m c 1 t) (iblk m c 2 t) (iblk m c 3 t) o ho r l = rope (X m c) (W m c) (C m c) (S m c) (tok t r) b hb 1 d := by
  have ed : (⟨l.val % 32, by omega⟩ : Fin 32) = d := Fin.ext hd
  have e1 := dot_eq m c t r ⟨o + l.val, by omega⟩ ⟨b + 32 + d.val, by omega⟩ h1
  have e2 := dot_eq m c t r ⟨o + (l.val + 64) % 128, by omega⟩ ⟨b + d.val, by omega⟩ h2
  have e3 := c_at m c t r l
  have e4 := s_at m c t r l
  rw [if_neg hl] at e4
  rw [ed] at e3 e4
  unfold spunAt rope
  rw [if_neg (by decide)]
  exact congrArg₂ (· + ·) (congrArg₂ (· * ·) e1 e3) (congrArg₂ (· * ·) e2 e4)

theorem orig_pair (o f : ℕ) (ho : o = 0 ∨ o = 512) (hf : f < 512) :
    orig (o + f) = o + 64 * (2 * (f / 128) + f / 32 % 2) + 32 * (f / 64 % 2) + f % 32 := by
  unfold orig; obtain rfl | rfl := ho <;> split_ifs <;> omega

theorem orig_group (f : ℕ) (hf : f < 512) :
    orig (1024 + f) = 1536 + 64 * (4 * (f / 32 % 2) + f / 128) + 32 * (f / 64 % 2) + f % 32 := by
  unfold orig; split_ifs <;> omega

theorem orig_both (f : ℕ) (hf : f < 128) : orig (1536 + f) = 2048 + 64 * (f / 32 % 2) + 32 * (f / 64) + f % 32 := by
  unfold orig; split_ifs <;> omega

theorem orig_value (f : ℕ) (hf : f < 512) : orig (1664 + f) = 1024 + f := by
  unfold orig; split_ifs <;> omega

theorem orig_value' (f : ℕ) : orig (2176 + f) = 2176 + f := by
  unfold orig; split_ifs <;> omega

/-- The other half of a column's 128. -/
theorem swap_lo (f : ℕ) (h : f / 64 % 2 = 0) : 128 * (f / 128) + (f % 128 + 64) % 128 = f + 64 := by omega

theorem swap_hi (f : ℕ) (h : ¬ f / 64 % 2 = 0) : 128 * (f / 128) + (f % 128 + 64) % 128 + 64 = f := by omega

theorem swap_at (f : ℕ) (h : ¬ f / 64 % 2 = 0) :
    (f - 64) / 128 = f / 128 ∧ (f - 64) / 32 % 2 = f / 32 % 2 ∧ (f - 64) / 64 % 2 = 0 ∧ (f - 64) % 32 = f % 32 := by omega

theorem swap_ge (f : ℕ) (h : ¬ f / 64 % 2 = 0) : 64 ≤ f := by omega

theorem pair_eq (c : Dev nD) (t : Fin cfg0.N) (r : Fin 1024) (o : ℕ) (ho : o = 0 ∨ o = 512) (h1 : o + 512 ≤ 2304) (f : Fin 512)
    (h2 : o + 128 * (f.val / 128) + 128 ≤ 2304) :
    spunAt (iblk m c 0 t) (iblk m c 1 t) (iblk m c 2 t) (iblk m c 3 t) (o + 128 * (f.val / 128)) h2 r ⟨f.val % 128, by omega⟩
      = pairRope (X m c) (W m c) (C m c) (S m c) (tok t r) o h1 f := by
  have hf := f.isLt
  have e : o + 128 * (f.val / 128) + f.val % 128 = o + f.val := by omega
  have q := orig_pair o f.val ho hf
  unfold pairRope
  by_cases h : f.val / 64 % 2 = 0
  · have q' := orig_pair o (f.val + 64) ho (by omega)
    have e' : o + 128 * (f.val / 128) + (f.val % 128 + 64) % 128 = o + (f.val + 64) := by have := swap_lo f.val h; omega
    refine (spun_lo m c t _ h2 r _ _ (by omega) ⟨f.val % 32, by omega⟩ (by show f.val % 128 < 64; omega) (by show f.val % 128 % 32 = f.val % 32; omega)
      ((congrArg orig e).trans (q.trans ?_)) ((congrArg orig e').trans (q'.trans ?_))).trans
      (Cert.ProjRefIdeal.Read.rope_congr _ _ _ _ _ rfl _ _ h.symm rfl)
    · show _ = o + 64 * (2 * (f.val / 128) + f.val / 32 % 2) + f.val % 32; omega
    · show _ = o + 64 * (2 * (f.val / 128) + f.val / 32 % 2) + 32 + f.val % 32; omega
  · have h1' : f.val / 64 % 2 = 1 := (Nat.mod_two_eq_zero_or_one _).resolve_left h
    have hge := swap_ge f.val h
    have hs := swap_hi f.val h
    have q' := orig_pair o (f.val - 64) ho (by omega)
    rw [(swap_at f.val h).1, (swap_at f.val h).2.1, (swap_at f.val h).2.2.1, (swap_at f.val h).2.2.2] at q'
    rw [h1'] at q
    have e' : o + 128 * (f.val / 128) + (f.val % 128 + 64) % 128 = o + (f.val - 64) := by
      clear q q' e; generalize f.val / 128 = a at *; generalize (f.val % 128 + 64) % 128 = b at *; omega
    clear hs
    rw [Nat.mul_one] at q
    rw [Nat.mul_zero, Nat.add_zero] at q'
    have g1 : orig (o + 128 * (f.val / 128) + f.val % 128) = o + 64 * (2 * (f.val / 128) + f.val / 32 % 2) + 32 + f.val % 32 := (congrArg orig e).trans q
    have g2 : orig (o + 128 * (f.val / 128) + (f.val % 128 + 64) % 128) = o + 64 * (2 * (f.val / 128) + f.val / 32 % 2) + f.val % 32 := (congrArg orig e').trans q'
    clear q q' e e'
    have g3 : ¬ f.val % 128 < 64 := by clear g1 g2; omega
    have g4 : f.val % 128 % 32 = f.val % 32 := by clear g1 g2; omega
    have g5 : o + 64 * (2 * (f.val / 128) + f.val / 32 % 2) + 64 ≤ 2304 := by clear g1 g2; omega
    exact (spun_hi m c t _ h2 r ⟨f.val % 128, by omega⟩ (o + 64 * (2 * (f.val / 128) + f.val / 32 % 2)) g5 ⟨f.val % 32, by omega⟩ g3 g4 g1 g2).trans
      (Cert.ProjRefIdeal.Read.rope_congr _ _ _ _ _ rfl _ _ h1'.symm rfl)

theorem group_eq (c : Dev nD) (t : Fin cfg0.N) (r : Fin 1024) (f : Fin 512) (h2 : 1024 + 128 * (f.val / 128) + 128 ≤ 2304) :
    spunAt (iblk m c 0 t) (iblk m c 1 t) (iblk m c 2 t) (iblk m c 3 t) (1024 + 128 * (f.val / 128)) h2 r ⟨f.val % 128, by omega⟩
      = groupRope (X m c) (W m c) (C m c) (S m c) (tok t r) f := by
  have hf := f.isLt
  have e : 1024 + 128 * (f.val / 128) + f.val % 128 = 1024 + f.val := by omega
  have q := orig_group f.val hf
  unfold groupRope
  by_cases h : f.val / 64 % 2 = 0
  · have q' := orig_group (f.val + 64) (by omega)
    have e' : 1024 + 128 * (f.val / 128) + (f.val % 128 + 64) % 128 = 1024 + (f.val + 64) := by have := swap_lo f.val h; omega
    refine (spun_lo m c t _ h2 r _ _ (by omega) ⟨f.val % 32, by omega⟩ (by show f.val % 128 < 64; omega) (by show f.val % 128 % 32 = f.val % 32; omega)
      ((congrArg orig e).trans (q.trans ?_)) ((congrArg orig e').trans (q'.trans ?_))).trans
      (Cert.ProjRefIdeal.Read.rope_congr _ _ _ _ _ rfl _ _ h.symm rfl)
    · show _ = 1536 + 64 * (4 * (f.val / 32 % 2) + f.val / 128) + f.val % 32; omega
    · show _ = 1536 + 64 * (4 * (f.val / 32 % 2) + f.val / 128) + 32 + f.val % 32; omega
  · have h1' : f.val / 64 % 2 = 1 := (Nat.mod_two_eq_zero_or_one _).resolve_left h
    have hge := swap_ge f.val h
    have hs := swap_hi f.val h
    have q' := orig_group (f.val - 64) (by omega)
    rw [(swap_at f.val h).1, (swap_at f.val h).2.1, (swap_at f.val h).2.2.1, (swap_at f.val h).2.2.2] at q'
    rw [h1'] at q
    have e' : 1024 + 128 * (f.val / 128) + (f.val % 128 + 64) % 128 = 1024 + (f.val - 64) := by
      clear q q' e; generalize f.val / 128 = a at *; generalize (f.val % 128 + 64) % 128 = b at *; omega
    clear hs
    rw [Nat.mul_one] at q
    rw [Nat.mul_zero, Nat.add_zero] at q'
    have g1 : orig (1024 + 128 * (f.val / 128) + f.val % 128) = 1536 + 64 * (4 * (f.val / 32 % 2) + f.val / 128) + 32 + f.val % 32 := (congrArg orig e).trans q
    have g2 : orig (1024 + 128 * (f.val / 128) + (f.val % 128 + 64) % 128) = 1536 + 64 * (4 * (f.val / 32 % 2) + f.val / 128) + f.val % 32 := (congrArg orig e').trans q'
    clear q q' e e'
    have g3 : ¬ f.val % 128 < 64 := by clear g1 g2; omega
    have g4 : f.val % 128 % 32 = f.val % 32 := by clear g1 g2; omega
    have g5 : 1536 + 64 * (4 * (f.val / 32 % 2) + f.val / 128) + 64 ≤ 2304 := by clear g1 g2; omega
    exact (spun_hi m c t _ h2 r ⟨f.val % 128, by omega⟩ (1536 + 64 * (4 * (f.val / 32 % 2) + f.val / 128)) g5 ⟨f.val % 32, by omega⟩ g3 g4 g1 g2).trans
      (Cert.ProjRefIdeal.Read.rope_congr _ _ _ _ _ rfl _ _ h1'.symm rfl)

theorem both_eq (c : Dev nD) (t : Fin cfg0.N) (r : Fin 1024) (f : Fin 128) :
    spunAt (iblk m c 0 t) (iblk m c 1 t) (iblk m c 2 t) (iblk m c 3 t) 1536 (by decide) r f
      = bothRope (X m c) (W m c) (C m c) (S m c) (tok t r) f := by
  have hf := f.isLt
  have q := orig_both f.val hf
  unfold bothRope
  by_cases h : f.val < 64
  · have q' := orig_both (f.val + 64) (by omega)
    have e' : 1536 + (f.val + 64) % 128 = 1536 + (f.val + 64) := by omega
    refine (spun_lo m c t _ _ r _ _ (by omega) ⟨f.val % 32, by omega⟩ h rfl
      (q.trans ?_) ((congrArg orig e').trans (q'.trans ?_))).trans
      (Cert.ProjRefIdeal.Read.rope_congr _ _ _ _ _ rfl _ _ (by omega) rfl)
    · show _ = 2048 + 64 * (f.val / 32 % 2) + f.val % 32; omega
    · show _ = 2048 + 64 * (f.val / 32 % 2) + 32 + f.val % 32; omega
  · have q' := orig_both (f.val - 64) (by omega)
    have e' : 1536 + (f.val + 64) % 128 = 1536 + (f.val - 64) := by omega
    refine (spun_hi m c t _ _ r _ _ (by omega) ⟨f.val % 32, by omega⟩ h rfl
      (q.trans ?_) ((congrArg orig e').trans (q'.trans ?_))).trans
      (Cert.ProjRefIdeal.Read.rope_congr _ _ _ _ _ rfl _ _ (by omega) rfl)
    · show _ = 2048 + 64 * (f.val / 32 % 2) + 32 + f.val % 32; omega
    · show _ = 2048 + 64 * (f.val / 32 % 2) + f.val % 32; omega

/-! The results as the reference's functions of the kernel's arguments. -/

/-- Result 0. -/
def result5 (c : Dev nD) : Vec Ideal S16x32x512x128 .bf16 :=
  Cert.ProjRefIdeal.Read.val_main_v78 (F := Ideal) (X m c) (W m c) (C m c) (S m c)

/-- Result 1. -/
def result6 (c : Dev nD) : Vec Ideal S65536x512 .bf16 :=
  Cert.ProjRefIdeal.Read.val_main_v82 (F := Ideal) (X m c) (W m c) (C m c) (S m c)

/-- Result 2. -/
def result7 (c : Dev nD) : Vec Ideal S16x32x512x128 .bf16 :=
  Cert.ProjRefIdeal.Read.val_main_v86 (F := Ideal) (X m c) (W m c)

/-- Result 3. -/
def result8 (c : Dev nD) : Vec Ideal S16x32x512x128 .bf16 :=
  Cert.ProjRefIdeal.Read.val_main_v89 (F := Ideal) (X m c) (W m c) (C m c) (S m c)

/-- Result 4. -/
def result9 (c : Dev nD) : Vec Ideal S65536x128 .bf16 :=
  Cert.ProjRefIdeal.Read.val_main_v90 (F := Ideal) (X m c) (W m c) (C m c) (S m c)

/-- Result 5. -/
def result10 (c : Dev nD) : Vec Ideal S16x32x128x128 .bf16 :=
  Cert.ProjRefIdeal.Read.val_main_v94 (F := Ideal) (X m c) (W m c)

theorem pt_lt (t : Fin cfg0.N) : t.val < 64 := t.isLt

theorem tok_eq (t : Fin cfg0.N) (a : Fin 8) (e : Fin 128) (h : 128 * a.val + e.val < 1024) (h') :
    tok t ⟨128 * a.val + e.val, h⟩ = ⟨4096 * (t.val / 4) + 128 * (8 * (t.val % 4) + a.val) + e.val, h'⟩ :=
  Fin.ext (by show 1024 * t.val + (128 * a.val + e.val) = 4096 * (t.val / 4) + 128 * (8 * (t.val % 4) + a.val) + e.val; omega)

theorem point5 (c : Dev nD) (t : Fin cfg0.N) (a : Fin 8) (f : Fin 512) (e : Fin 128) :
    queryAt (iblk m c 0 t) (iblk m c 1 t) (iblk m c 2 t) (iblk m c 3 t) 0 (by decide) ⟨128 * a.val + e.val, by omega⟩ f
      = result5 m c (ix4 ⟨t.val / 4, by have := pt_lt t; omega⟩ ⟨8 * (t.val % 4) + a.val, by omega⟩ f e) := by
  unfold result5
  rw [Cert.ProjRefIdeal.Read.qd_at]
  unfold queryAt
  rw [pair_eq m c t _ 0 (Or.inl rfl) (by decide) f, tok_eq]
  rfl

theorem point7 (c : Dev nD) (t : Fin cfg0.N) (a : Fin 8) (f : Fin 512) (e : Fin 128) :
    valueAt (iblk m c 0 t) (iblk m c 1 t) ⟨128 * a.val + e.val, by omega⟩ f
      = result7 m c (ix4 ⟨t.val / 4, by have := pt_lt t; omega⟩ ⟨8 * (t.val % 4) + a.val, by omega⟩ f e) := by
  unfold result7
  rw [Cert.ProjRefIdeal.Read.vd_at]
  unfold valueAt
  rw [dot_eq m c t _ _ ⟨1024 + f.val, by omega⟩ (orig_value f.val f.isLt), tok_eq]

theorem point8 (c : Dev nD) (t : Fin cfg0.N) (a : Fin 8) (f : Fin 512) (e : Fin 128) :
    queryAt (iblk m c 0 t) (iblk m c 1 t) (iblk m c 2 t) (iblk m c 3 t) 1024 (by decide) ⟨128 * a.val + e.val, by omega⟩ f
      = result8 m c (ix4 ⟨t.val / 4, by have := pt_lt t; omega⟩ ⟨8 * (t.val % 4) + a.val, by omega⟩ f e) := by
  unfold result8
  rw [Cert.ProjRefIdeal.Read.qs_at]
  unfold queryAt
  rw [group_eq m c t _ f, tok_eq]
  rfl

theorem point10 (c : Dev nD) (t : Fin cfg0.N) (a : Fin 8) (f : Fin 128) (e : Fin 128) :
    dotAt (iblk m c 0 t) (iblk m c 1 t) ⟨128 * a.val + e.val, by omega⟩ ⟨2176 + f.val, by omega⟩
      = result10 m c (ix4 ⟨t.val / 4, by have := pt_lt t; omega⟩ ⟨8 * (t.val % 4) + a.val, by omega⟩ f e) := by
  unfold result10
  rw [Cert.ProjRefIdeal.Read.vs_at]
  rw [dot_eq m c t _ _ ⟨2176 + f.val, by omega⟩ (orig_value' f.val), tok_eq]

theorem point6 (c : Dev nD) (t : Fin cfg0.N) (r : Fin 1024) (f : Fin 512) :
    keyAt (iblk m c 0 t) (iblk m c 1 t) (iblk m c 2 t) (iblk m c 3 t) r f = result6 m c (ix2 (tok t r) f) := by
  unfold result6
  rw [Cert.ProjRefIdeal.Read.kd_at]
  exact pair_eq m c t r 512 (Or.inr rfl) (by decide) f _

theorem point9 (c : Dev nD) (t : Fin cfg0.N) (r : Fin 1024) (f : Fin 128) :
    spunAt (iblk m c 0 t) (iblk m c 1 t) (iblk m c 2 t) (iblk m c 3 t) 1536 (by decide) r f = result9 m c (ix2 (tok t r) f) := by
  unfold result9
  rw [Cert.ProjRefIdeal.Read.ks_at]
  exact both_eq m c t r f

/-! The arrays after the run. -/

theorem idx5 (t : Fin cfg0.N) : win0_5.index t 0 = t.val / 4 ∧ win0_5.index t 1 = t.val % 4 ∧ win0_5.index t 2 = 0 ∧ win0_5.index t 3 = 0 :=
  (by decide +kernel : ∀ t : Fin grid0.N, win0_5.index t 0 = t.val / 4 ∧ win0_5.index t 1 = t.val % 4 ∧ win0_5.index t 2 = 0 ∧ win0_5.index t 3 = 0) t

theorem flushed5_eq (c : Dev nD) (t : Fin cfg0.N) (hf : (cfg0.win 5).flush t = true) :
    (dats m 0 c).flushed 5 t = ((cfg0.win 5).blk t).view.read (Elt Ideal) (result5 m c) := by
  have hi := idx5 t
  rw [flushed5, out5]
  funext j
  rw [View.read_apply]
  unfold Pipeline.Window.cut
  refine (point5 m c t ((cfg0.win 5).xinj (grid0.coords t) j 1) ((cfg0.win 5).xinj (grid0.coords t) j 2) ((cfg0.win 5).xinj (grid0.coords t) j 3)).trans ?_
  show result5 m c _ = result5 m c _
  congr 1
  funext a
  apply Fin.ext
  have j0 : (j 0).val = 0 := by
    have h : ((cfg0.win 5).xinj (grid0.coords t) j 0 : Fin 1).val < 1 := Fin.isLt _
    have h' : (j 0).val < 1 := h
    omega
  match a with
  | ⟨0, _⟩ => show t.val / 4 = win0_5.index t 0 * 1 + 1 * (j 0).val; rw [hi.1, j0]; omega
  | ⟨1, _⟩ => show 8 * (t.val % 4) + (j 1).val = win0_5.index t 1 * 8 + 1 * (j 1).val; rw [hi.2.1]; omega
  | ⟨2, _⟩ => show (j 2).val = win0_5.index t 2 * 512 + 1 * (j 2).val; rw [hi.2.2.1]; omega
  | ⟨3, _⟩ => show (j 3).val = win0_5.index t 3 * 128 + 1 * (j 3).val; rw [hi.2.2.2]; omega

theorem final5 (c : Dev nD) : (dats m 0 c).arrAt 5 cfg0.N = result5 m c :=
  (dats m 0 c).arrAt_eq_of_cover 5 (result5 m c) (flushed5_eq m c) fun i => by
    have h0 : (i 0 : Nat) < 16 := (i 0).isLt
    have h1 : (i 1 : Nat) < 32 := (i 1).isLt
    have h2 : (i 2 : Nat) < 512 := (i 2).isLt
    have h3 : (i 3 : Nat) < 128 := (i 3).isLt
    have hN : 4 * (i 0 : Nat) + (i 1 : Nat) / 8 < grid0.N := by rw [show grid0.N = 64 from by decide +kernel]; omega
    refine ⟨⟨4 * (i 0 : Nat) + (i 1 : Nat) / 8, hN⟩, flush0_5 _, ?_⟩
    generalize ht : (⟨4 * (i 0 : Nat) + (i 1 : Nat) / 8, hN⟩ : Fin cfg0.N) = t
    have htv : t.val = 4 * (i 0 : Nat) + (i 1 : Nat) / 8 := by rw [← ht]
    have hi := idx5 t
    have hx : win0_5.xsize (grid0.coords t) 0 = 1 ∧ win0_5.xsize (grid0.coords t) 1 = 8 ∧ win0_5.xsize (grid0.coords t) 2 = 512 ∧ win0_5.xsize (grid0.coords t) 3 = 128 :=
      (by decide +kernel : ∀ t : Fin grid0.N, win0_5.xsize (grid0.coords t) 0 = 1 ∧ win0_5.xsize (grid0.coords t) 1 = 8 ∧ win0_5.xsize (grid0.coords t) 2 = 512 ∧ win0_5.xsize (grid0.coords t) 3 = 128) t
    show i ∈ ((View.whole main_v35_0).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + win0_5.xsize (grid0.coords t) 0
                rw [hi.1, hx.1]; omega
    | ⟨1, _⟩ => show win0_5.index t 1 * 8 ≤ (i 1 : Nat) ∧ (i 1 : Nat) < win0_5.index t 1 * 8 + win0_5.xsize (grid0.coords t) 1
                rw [hi.2.1, hx.2.1]; omega
    | ⟨2, _⟩ => show win0_5.index t 2 * 512 ≤ (i 2 : Nat) ∧ (i 2 : Nat) < win0_5.index t 2 * 512 + win0_5.xsize (grid0.coords t) 2
                rw [hi.2.2.1, hx.2.2.1]; omega
    | ⟨3, _⟩ => show win0_5.index t 3 * 128 ≤ (i 3 : Nat) ∧ (i 3 : Nat) < win0_5.index t 3 * 128 + win0_5.xsize (grid0.coords t) 3
                rw [hi.2.2.2, hx.2.2.2]; omega

theorem idx7 (t : Fin cfg0.N) : win0_7.index t 0 = t.val / 4 ∧ win0_7.index t 1 = t.val % 4 ∧ win0_7.index t 2 = 0 ∧ win0_7.index t 3 = 0 :=
  (by decide +kernel : ∀ t : Fin grid0.N, win0_7.index t 0 = t.val / 4 ∧ win0_7.index t 1 = t.val % 4 ∧ win0_7.index t 2 = 0 ∧ win0_7.index t 3 = 0) t

theorem flushed7_eq (c : Dev nD) (t : Fin cfg0.N) (hf : (cfg0.win 7).flush t = true) :
    (dats m 0 c).flushed 7 t = ((cfg0.win 7).blk t).view.read (Elt Ideal) (result7 m c) := by
  have hi := idx7 t
  rw [flushed7, out7]
  funext j
  rw [View.read_apply]
  unfold Pipeline.Window.cut
  refine (point7 m c t ((cfg0.win 7).xinj (grid0.coords t) j 1) ((cfg0.win 7).xinj (grid0.coords t) j 2) ((cfg0.win 7).xinj (grid0.coords t) j 3)).trans ?_
  show result7 m c _ = result7 m c _
  congr 1
  funext a
  apply Fin.ext
  have j0 : (j 0).val = 0 := by
    have h : ((cfg0.win 7).xinj (grid0.coords t) j 0 : Fin 1).val < 1 := Fin.isLt _
    have h' : (j 0).val < 1 := h
    omega
  match a with
  | ⟨0, _⟩ => show t.val / 4 = win0_7.index t 0 * 1 + 1 * (j 0).val; rw [hi.1, j0]; omega
  | ⟨1, _⟩ => show 8 * (t.val % 4) + (j 1).val = win0_7.index t 1 * 8 + 1 * (j 1).val; rw [hi.2.1]; omega
  | ⟨2, _⟩ => show (j 2).val = win0_7.index t 2 * 512 + 1 * (j 2).val; rw [hi.2.2.1]; omega
  | ⟨3, _⟩ => show (j 3).val = win0_7.index t 3 * 128 + 1 * (j 3).val; rw [hi.2.2.2]; omega

theorem final7 (c : Dev nD) : (dats m 0 c).arrAt 7 cfg0.N = result7 m c :=
  (dats m 0 c).arrAt_eq_of_cover 7 (result7 m c) (flushed7_eq m c) fun i => by
    have h0 : (i 0 : Nat) < 16 := (i 0).isLt
    have h1 : (i 1 : Nat) < 32 := (i 1).isLt
    have h2 : (i 2 : Nat) < 512 := (i 2).isLt
    have h3 : (i 3 : Nat) < 128 := (i 3).isLt
    have hN : 4 * (i 0 : Nat) + (i 1 : Nat) / 8 < grid0.N := by rw [show grid0.N = 64 from by decide +kernel]; omega
    refine ⟨⟨4 * (i 0 : Nat) + (i 1 : Nat) / 8, hN⟩, flush0_7 _, ?_⟩
    generalize ht : (⟨4 * (i 0 : Nat) + (i 1 : Nat) / 8, hN⟩ : Fin cfg0.N) = t
    have htv : t.val = 4 * (i 0 : Nat) + (i 1 : Nat) / 8 := by rw [← ht]
    have hi := idx7 t
    have hx : win0_7.xsize (grid0.coords t) 0 = 1 ∧ win0_7.xsize (grid0.coords t) 1 = 8 ∧ win0_7.xsize (grid0.coords t) 2 = 512 ∧ win0_7.xsize (grid0.coords t) 3 = 128 :=
      (by decide +kernel : ∀ t : Fin grid0.N, win0_7.xsize (grid0.coords t) 0 = 1 ∧ win0_7.xsize (grid0.coords t) 1 = 8 ∧ win0_7.xsize (grid0.coords t) 2 = 512 ∧ win0_7.xsize (grid0.coords t) 3 = 128) t
    show i ∈ ((View.whole main_v35_2).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + win0_7.xsize (grid0.coords t) 0
                rw [hi.1, hx.1]; omega
    | ⟨1, _⟩ => show win0_7.index t 1 * 8 ≤ (i 1 : Nat) ∧ (i 1 : Nat) < win0_7.index t 1 * 8 + win0_7.xsize (grid0.coords t) 1
                rw [hi.2.1, hx.2.1]; omega
    | ⟨2, _⟩ => show win0_7.index t 2 * 512 ≤ (i 2 : Nat) ∧ (i 2 : Nat) < win0_7.index t 2 * 512 + win0_7.xsize (grid0.coords t) 2
                rw [hi.2.2.1, hx.2.2.1]; omega
    | ⟨3, _⟩ => show win0_7.index t 3 * 128 ≤ (i 3 : Nat) ∧ (i 3 : Nat) < win0_7.index t 3 * 128 + win0_7.xsize (grid0.coords t) 3
                rw [hi.2.2.2, hx.2.2.2]; omega

theorem idx8 (t : Fin cfg0.N) : win0_8.index t 0 = t.val / 4 ∧ win0_8.index t 1 = t.val % 4 ∧ win0_8.index t 2 = 0 ∧ win0_8.index t 3 = 0 :=
  (by decide +kernel : ∀ t : Fin grid0.N, win0_8.index t 0 = t.val / 4 ∧ win0_8.index t 1 = t.val % 4 ∧ win0_8.index t 2 = 0 ∧ win0_8.index t 3 = 0) t

theorem flushed8_eq (c : Dev nD) (t : Fin cfg0.N) (hf : (cfg0.win 8).flush t = true) :
    (dats m 0 c).flushed 8 t = ((cfg0.win 8).blk t).view.read (Elt Ideal) (result8 m c) := by
  have hi := idx8 t
  rw [flushed8, out8]
  funext j
  rw [View.read_apply]
  unfold Pipeline.Window.cut
  refine (point8 m c t ((cfg0.win 8).xinj (grid0.coords t) j 1) ((cfg0.win 8).xinj (grid0.coords t) j 2) ((cfg0.win 8).xinj (grid0.coords t) j 3)).trans ?_
  show result8 m c _ = result8 m c _
  congr 1
  funext a
  apply Fin.ext
  have j0 : (j 0).val = 0 := by
    have h : ((cfg0.win 8).xinj (grid0.coords t) j 0 : Fin 1).val < 1 := Fin.isLt _
    have h' : (j 0).val < 1 := h
    omega
  match a with
  | ⟨0, _⟩ => show t.val / 4 = win0_8.index t 0 * 1 + 1 * (j 0).val; rw [hi.1, j0]; omega
  | ⟨1, _⟩ => show 8 * (t.val % 4) + (j 1).val = win0_8.index t 1 * 8 + 1 * (j 1).val; rw [hi.2.1]; omega
  | ⟨2, _⟩ => show (j 2).val = win0_8.index t 2 * 512 + 1 * (j 2).val; rw [hi.2.2.1]; omega
  | ⟨3, _⟩ => show (j 3).val = win0_8.index t 3 * 128 + 1 * (j 3).val; rw [hi.2.2.2]; omega

theorem final8 (c : Dev nD) : (dats m 0 c).arrAt 8 cfg0.N = result8 m c :=
  (dats m 0 c).arrAt_eq_of_cover 8 (result8 m c) (flushed8_eq m c) fun i => by
    have h0 : (i 0 : Nat) < 16 := (i 0).isLt
    have h1 : (i 1 : Nat) < 32 := (i 1).isLt
    have h2 : (i 2 : Nat) < 512 := (i 2).isLt
    have h3 : (i 3 : Nat) < 128 := (i 3).isLt
    have hN : 4 * (i 0 : Nat) + (i 1 : Nat) / 8 < grid0.N := by rw [show grid0.N = 64 from by decide +kernel]; omega
    refine ⟨⟨4 * (i 0 : Nat) + (i 1 : Nat) / 8, hN⟩, flush0_8 _, ?_⟩
    generalize ht : (⟨4 * (i 0 : Nat) + (i 1 : Nat) / 8, hN⟩ : Fin cfg0.N) = t
    have htv : t.val = 4 * (i 0 : Nat) + (i 1 : Nat) / 8 := by rw [← ht]
    have hi := idx8 t
    have hx : win0_8.xsize (grid0.coords t) 0 = 1 ∧ win0_8.xsize (grid0.coords t) 1 = 8 ∧ win0_8.xsize (grid0.coords t) 2 = 512 ∧ win0_8.xsize (grid0.coords t) 3 = 128 :=
      (by decide +kernel : ∀ t : Fin grid0.N, win0_8.xsize (grid0.coords t) 0 = 1 ∧ win0_8.xsize (grid0.coords t) 1 = 8 ∧ win0_8.xsize (grid0.coords t) 2 = 512 ∧ win0_8.xsize (grid0.coords t) 3 = 128) t
    show i ∈ ((View.whole main_v35_3).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + win0_8.xsize (grid0.coords t) 0
                rw [hi.1, hx.1]; omega
    | ⟨1, _⟩ => show win0_8.index t 1 * 8 ≤ (i 1 : Nat) ∧ (i 1 : Nat) < win0_8.index t 1 * 8 + win0_8.xsize (grid0.coords t) 1
                rw [hi.2.1, hx.2.1]; omega
    | ⟨2, _⟩ => show win0_8.index t 2 * 512 ≤ (i 2 : Nat) ∧ (i 2 : Nat) < win0_8.index t 2 * 512 + win0_8.xsize (grid0.coords t) 2
                rw [hi.2.2.1, hx.2.2.1]; omega
    | ⟨3, _⟩ => show win0_8.index t 3 * 128 ≤ (i 3 : Nat) ∧ (i 3 : Nat) < win0_8.index t 3 * 128 + win0_8.xsize (grid0.coords t) 3
                rw [hi.2.2.2, hx.2.2.2]; omega

theorem idx10 (t : Fin cfg0.N) : win0_10.index t 0 = t.val / 4 ∧ win0_10.index t 1 = t.val % 4 ∧ win0_10.index t 2 = 0 ∧ win0_10.index t 3 = 0 :=
  (by decide +kernel : ∀ t : Fin grid0.N, win0_10.index t 0 = t.val / 4 ∧ win0_10.index t 1 = t.val % 4 ∧ win0_10.index t 2 = 0 ∧ win0_10.index t 3 = 0) t

theorem flushed10_eq (c : Dev nD) (t : Fin cfg0.N) (hf : (cfg0.win 10).flush t = true) :
    (dats m 0 c).flushed 10 t = ((cfg0.win 10).blk t).view.read (Elt Ideal) (result10 m c) := by
  have hi := idx10 t
  rw [flushed10, out10]
  funext j
  rw [View.read_apply]
  unfold Pipeline.Window.cut
  refine (point10 m c t ((cfg0.win 10).xinj (grid0.coords t) j 1) ((cfg0.win 10).xinj (grid0.coords t) j 2) ((cfg0.win 10).xinj (grid0.coords t) j 3)).trans ?_
  show result10 m c _ = result10 m c _
  congr 1
  funext a
  apply Fin.ext
  have j0 : (j 0).val = 0 := by
    have h : ((cfg0.win 10).xinj (grid0.coords t) j 0 : Fin 1).val < 1 := Fin.isLt _
    have h' : (j 0).val < 1 := h
    omega
  match a with
  | ⟨0, _⟩ => show t.val / 4 = win0_10.index t 0 * 1 + 1 * (j 0).val; rw [hi.1, j0]; omega
  | ⟨1, _⟩ => show 8 * (t.val % 4) + (j 1).val = win0_10.index t 1 * 8 + 1 * (j 1).val; rw [hi.2.1]; omega
  | ⟨2, _⟩ => show (j 2).val = win0_10.index t 2 * 128 + 1 * (j 2).val; rw [hi.2.2.1]; omega
  | ⟨3, _⟩ => show (j 3).val = win0_10.index t 3 * 128 + 1 * (j 3).val; rw [hi.2.2.2]; omega

theorem final10 (c : Dev nD) : (dats m 0 c).arrAt 10 cfg0.N = result10 m c :=
  (dats m 0 c).arrAt_eq_of_cover 10 (result10 m c) (flushed10_eq m c) fun i => by
    have h0 : (i 0 : Nat) < 16 := (i 0).isLt
    have h1 : (i 1 : Nat) < 32 := (i 1).isLt
    have h2 : (i 2 : Nat) < 128 := (i 2).isLt
    have h3 : (i 3 : Nat) < 128 := (i 3).isLt
    have hN : 4 * (i 0 : Nat) + (i 1 : Nat) / 8 < grid0.N := by rw [show grid0.N = 64 from by decide +kernel]; omega
    refine ⟨⟨4 * (i 0 : Nat) + (i 1 : Nat) / 8, hN⟩, flush0_10 _, ?_⟩
    generalize ht : (⟨4 * (i 0 : Nat) + (i 1 : Nat) / 8, hN⟩ : Fin cfg0.N) = t
    have htv : t.val = 4 * (i 0 : Nat) + (i 1 : Nat) / 8 := by rw [← ht]
    have hi := idx10 t
    have hx : win0_10.xsize (grid0.coords t) 0 = 1 ∧ win0_10.xsize (grid0.coords t) 1 = 8 ∧ win0_10.xsize (grid0.coords t) 2 = 128 ∧ win0_10.xsize (grid0.coords t) 3 = 128 :=
      (by decide +kernel : ∀ t : Fin grid0.N, win0_10.xsize (grid0.coords t) 0 = 1 ∧ win0_10.xsize (grid0.coords t) 1 = 8 ∧ win0_10.xsize (grid0.coords t) 2 = 128 ∧ win0_10.xsize (grid0.coords t) 3 = 128) t
    show i ∈ ((View.whole main_v35_5).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + win0_10.xsize (grid0.coords t) 0
                rw [hi.1, hx.1]; omega
    | ⟨1, _⟩ => show win0_10.index t 1 * 8 ≤ (i 1 : Nat) ∧ (i 1 : Nat) < win0_10.index t 1 * 8 + win0_10.xsize (grid0.coords t) 1
                rw [hi.2.1, hx.2.1]; omega
    | ⟨2, _⟩ => show win0_10.index t 2 * 128 ≤ (i 2 : Nat) ∧ (i 2 : Nat) < win0_10.index t 2 * 128 + win0_10.xsize (grid0.coords t) 2
                rw [hi.2.2.1, hx.2.2.1]; omega
    | ⟨3, _⟩ => show win0_10.index t 3 * 128 ≤ (i 3 : Nat) ∧ (i 3 : Nat) < win0_10.index t 3 * 128 + win0_10.xsize (grid0.coords t) 3
                rw [hi.2.2.2, hx.2.2.2]; omega

theorem idx6 (t : Fin cfg0.N) : win0_6.index t 0 = t.val ∧ win0_6.index t 1 = 0 :=
  (by decide +kernel : ∀ t : Fin grid0.N, win0_6.index t 0 = t.val ∧ win0_6.index t 1 = 0) t

theorem flushed6_eq (c : Dev nD) (t : Fin cfg0.N) (hf : (cfg0.win 6).flush t = true) :
    (dats m 0 c).flushed 6 t = ((cfg0.win 6).blk t).view.read (Elt Ideal) (result6 m c) := by
  have hi := idx6 t
  rw [flushed6, out6]
  funext j
  rw [View.read_apply]
  unfold Pipeline.Window.cut
  refine (point6 m c t ((cfg0.win 6).xinj (grid0.coords t) j 0) ((cfg0.win 6).xinj (grid0.coords t) j 1)).trans ?_
  show result6 m c _ = result6 m c _
  congr 1
  funext a
  apply Fin.ext
  match a with
  | ⟨0, _⟩ => show 1024 * t.val + (j 0).val = win0_6.index t 0 * 1024 + 1 * (j 0).val; rw [hi.1]; omega
  | ⟨1, _⟩ => show (j 1).val = win0_6.index t 1 * 512 + 1 * (j 1).val; rw [hi.2]; omega

theorem final6 (c : Dev nD) : (dats m 0 c).arrAt 6 cfg0.N = result6 m c :=
  (dats m 0 c).arrAt_eq_of_cover 6 (result6 m c) (flushed6_eq m c) fun i => by
    have h0 : (i 0 : Nat) < 65536 := (i 0).isLt
    have h1 : (i 1 : Nat) < 512 := (i 1).isLt
    have hN : (i 0 : Nat) / 1024 < grid0.N := by rw [show grid0.N = 64 from by decide +kernel]; omega
    refine ⟨⟨(i 0 : Nat) / 1024, hN⟩, flush0_6 _, ?_⟩
    generalize ht : (⟨(i 0 : Nat) / 1024, hN⟩ : Fin cfg0.N) = t
    have htv : t.val = (i 0 : Nat) / 1024 := by rw [← ht]
    have hi := idx6 t
    have hx : win0_6.xsize (grid0.coords t) 0 = 1024 ∧ win0_6.xsize (grid0.coords t) 1 = 512 :=
      (by decide +kernel : ∀ t : Fin grid0.N, win0_6.xsize (grid0.coords t) 0 = 1024 ∧ win0_6.xsize (grid0.coords t) 1 = 512) t
    show i ∈ ((View.whole main_v35_1).slice (win0_6.rect t)).set
    rw [View.set_slice_whole, Rect.mem_set_unit]
    intro a
    match a with
    | ⟨0, _⟩ => show win0_6.index t 0 * 1024 ≤ (i 0 : Nat) ∧ (i 0 : Nat) < win0_6.index t 0 * 1024 + win0_6.xsize (grid0.coords t) 0
                rw [hi.1, hx.1]; omega
    | ⟨1, _⟩ => show win0_6.index t 1 * 512 ≤ (i 1 : Nat) ∧ (i 1 : Nat) < win0_6.index t 1 * 512 + win0_6.xsize (grid0.coords t) 1
                rw [hi.2, hx.2]; omega

theorem idx9 (t : Fin cfg0.N) : win0_9.index t 0 = t.val ∧ win0_9.index t 1 = 0 :=
  (by decide +kernel : ∀ t : Fin grid0.N, win0_9.index t 0 = t.val ∧ win0_9.index t 1 = 0) t

theorem flushed9_eq (c : Dev nD) (t : Fin cfg0.N) (hf : (cfg0.win 9).flush t = true) :
    (dats m 0 c).flushed 9 t = ((cfg0.win 9).blk t).view.read (Elt Ideal) (result9 m c) := by
  have hi := idx9 t
  rw [flushed9, out9]
  funext j
  rw [View.read_apply]
  unfold Pipeline.Window.cut
  refine (point9 m c t ((cfg0.win 9).xinj (grid0.coords t) j 0) ((cfg0.win 9).xinj (grid0.coords t) j 1)).trans ?_
  show result9 m c _ = result9 m c _
  congr 1
  funext a
  apply Fin.ext
  match a with
  | ⟨0, _⟩ => show 1024 * t.val + (j 0).val = win0_9.index t 0 * 1024 + 1 * (j 0).val; rw [hi.1]; omega
  | ⟨1, _⟩ => show (j 1).val = win0_9.index t 1 * 128 + 1 * (j 1).val; rw [hi.2]; omega

theorem final9 (c : Dev nD) : (dats m 0 c).arrAt 9 cfg0.N = result9 m c :=
  (dats m 0 c).arrAt_eq_of_cover 9 (result9 m c) (flushed9_eq m c) fun i => by
    have h0 : (i 0 : Nat) < 65536 := (i 0).isLt
    have h1 : (i 1 : Nat) < 128 := (i 1).isLt
    have hN : (i 0 : Nat) / 1024 < grid0.N := by rw [show grid0.N = 64 from by decide +kernel]; omega
    refine ⟨⟨(i 0 : Nat) / 1024, hN⟩, flush0_9 _, ?_⟩
    generalize ht : (⟨(i 0 : Nat) / 1024, hN⟩ : Fin cfg0.N) = t
    have htv : t.val = (i 0 : Nat) / 1024 := by rw [← ht]
    have hi := idx9 t
    have hx : win0_9.xsize (grid0.coords t) 0 = 1024 ∧ win0_9.xsize (grid0.coords t) 1 = 128 :=
      (by decide +kernel : ∀ t : Fin grid0.N, win0_9.xsize (grid0.coords t) 0 = 1024 ∧ win0_9.xsize (grid0.coords t) 1 = 128) t
    show i ∈ ((View.whole main_v35_4).slice (win0_9.rect t)).set
    rw [View.set_slice_whole, Rect.mem_set_unit]
    intro a
    match a with
    | ⟨0, _⟩ => show win0_9.index t 0 * 1024 ≤ (i 0 : Nat) ∧ (i 0 : Nat) < win0_9.index t 0 * 1024 + win0_9.xsize (grid0.coords t) 0
                rw [hi.1, hx.1]; omega
    | ⟨1, _⟩ => show win0_9.index t 1 * 128 ≤ (i 1 : Nat) ∧ (i 1 : Nat) < win0_9.index t 1 * 128 + win0_9.xsize (grid0.coords t) 1
                rw [hi.2, hx.2]; omega

/-- The run: the six results are the reference's functions of the arguments, which are unchanged. -/
theorem run : θ_run defs (onTc (τ := τ) (main (F := Ideal))) ⟨m, fun _ => 0, ρ⟩ fun r => ∀ c : Dev nD,
      r.2.mem ((c : Thread nD τ).loc main_v35_0) = result5 m c
      ∧ r.2.mem ((c : Thread nD τ).loc main_v35_1) = result6 m c
      ∧ r.2.mem ((c : Thread nD τ).loc main_v35_2) = result7 m c
      ∧ r.2.mem ((c : Thread nD τ).loc main_v35_3) = result8 m c
      ∧ r.2.mem ((c : Thread nD τ).loc main_v35_4) = result9 m c
      ∧ r.2.mem ((c : Thread nD τ).loc main_v35_5) = result10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨e5, e6, e7, e8, e9, e10, _, k⟩ := h c
    exact ⟨e5.trans (final5 m c), e6.trans (final6 m c), e7.trans (final7 m c), e8.trans (final8 m c), e9.trans (final9 m c), e10.trans (final10 m c), k⟩)
    (run_blocks m ρ)

end Cert.ProjIdeal.Value

end
-- ==== Proof.ProjClaim.lean ====
/- The claims about the input projection's call: its reference keeps its arguments, and the kernel's six results are the
   reference's. -/
module

public import proofs.«01_k».proof.Defs
public import proofs.«01_k».proof.Proof.ProjValue

@[expose] public section

noncomputable section

namespace Cert.Proof

open Idealize.ShloMosaic Idealize.SL.Sem

/-- The reference runs and keeps its arguments; it declares no semaphore. -/
theorem proj_reference_frame : Cert.quiescent_ProjRefIdeal := fun m ρ _ =>
  (θ_run Cert.ProjRefIdeal.defs _ _).mono
    (fun r h => ⟨fun c => (h c).2.2.2.2.2.2, Idealize.ShloMosaic.sem_eq_zero_of_no_sems (by decide) r.2⟩)
    (Cert.ProjRefIdeal.Value.run (F := Ideal) m ρ)

/-- The kernel's results are the reference's. -/
theorem proj_algebraic : Cert.algebraic_ProjIdeal_ProjRefIdeal := fun m ρ m' ρ' _ hagree => by
  refine ⟨Cert.ProjIdeal.Value.result5 m, Cert.ProjIdeal.Value.result6 m, Cert.ProjIdeal.Value.result7 m, Cert.ProjIdeal.Value.result8 m,
    Cert.ProjIdeal.Value.result9 m, Cert.ProjIdeal.Value.result10 m, Cert.ProjIdeal.Value.run m ρ, ?_⟩
  refine (θ_run Cert.ProjRefIdeal.defs _ _).mono (fun r h c => ?_) (Cert.ProjRefIdeal.Value.run (F := Ideal) m' ρ')
  obtain ⟨e0, e1, e2, e3, e4, e5, k⟩ := h c
  obtain ⟨h0, h1, h2, h3⟩ := hagree c
  refine ⟨e0.trans ?_, e1.trans ?_, e2.trans ?_, e3.trans ?_, e4.trans ?_, e5.trans ?_, k⟩
  · rw [Cert.ProjRefIdeal.Read.val_main_v78_eq, h0, h1, h2, h3]; rfl
  · rw [Cert.ProjRefIdeal.Read.val_main_v82_eq, h0, h1, h2, h3]; rfl
  · rw [Cert.ProjRefIdeal.Read.val_main_v86_eq, h0, h1]; rfl
  · rw [Cert.ProjRefIdeal.Read.val_main_v89_eq, h0, h1, h2, h3]; rfl
  · rw [Cert.ProjRefIdeal.Read.val_main_v90_eq, h0, h1, h2, h3]; rfl
  · rw [Cert.ProjRefIdeal.Read.val_main_v94_eq, h0, h1]; rfl

end Cert.Proof

end
-- ==== Proof.AttnMath.lean ====
module

public import Idealize.ShloMosaic.Lib.Pointwise
public import Idealize.ShloMosaic.PureOps.Ideal.Laws

@[expose] public section

noncomputable section

/-! The mathematics the attention kernel and its reference share: softmax weights of real scores, whatever real number is
    subtracted before the exponential, and the norm of a row. -/

namespace Cert.Attn

open Idealize.ShloMosaic

/-- The root-mean-square norm of a row at a column, scaled twice. -/
def rms (d : Fin 128 → EReal) (g o : EReal) (e : Fin 128) : EReal :=
  d e * Ideal.rsqrt (Ideal.div (∑ k : Fin 128, d k * d k) (Ideal.ofBits .f32 0x43000000#32) + Ideal.ofBits .f32 0x3727C5AC#32) * g * o

/-- A number that is real. -/
def IsReal (x : EReal) : Prop := ∃ r : ℝ, x = (r : EReal)

theorem isReal_max {x y : EReal} (hx : IsReal x) (hy : IsReal y) : IsReal (max x y) := by
  rcases max_choice x y with h | h <;> rw [h] <;> assumption

theorem fold_real {ι : Type} (S : Finset ι) (x : ι → EReal) (hx : ∀ a, IsReal (x a)) (hS : S.Nonempty) : IsReal (S.fold max ⊥ x) := by
  classical
  induction S using Finset.cons_induction with
  | empty => exact absurd hS (by simp)
  | cons a S ha ih =>
    rw [Finset.fold_cons]
    rcases S.eq_empty_or_nonempty with h | h
    · subst h
      rw [Finset.fold_empty, sup_bot_eq]
      exact hx a
    · exact isReal_max (hx a) (ih h)

theorem negInf : Ideal.ofBits .f32 0xFF800000#32 = (⊥ : EReal) := by
  simp [Ideal.ofBits, Ideal.ieee]

theorem one_eq : Ideal.ofBits .f32 0x3F800000#32 = ((1 : ℝ) : EReal) := by
  have h : BitVec.extractLsb' 31 1 1065353216#32 ≠ 1#1 := by decide
  norm_num [Ideal.ofBits, Ideal.ieee, Nat.shiftRight_eq_div_pow, h]

theorem two_eq : Ideal.ofBits .f32 0x40000000#32 = ((2 : ℝ) : EReal) := by
  have h : BitVec.extractLsb' 31 1 1073741824#32 ≠ 1#1 := by decide
  norm_num [Ideal.ofBits, Ideal.ieee, Nat.shiftRight_eq_div_pow, h]

theorem coe_sum {ι : Type} (S : Finset ι) (f : ι → ℝ) : ∑ i ∈ S, (f i : EReal) = ((∑ i ∈ S, f i : ℝ) : EReal) := by
  classical
  induction S using Finset.cons_induction with
  | empty => simp
  | cons a S ha ih => rw [Finset.sum_cons, Finset.sum_cons, ih, EReal.coe_add]

theorem isReal_sum {ι : Type} (S : Finset ι) (f : ι → EReal) (h : ∀ i, IsReal (f i)) : IsReal (∑ i ∈ S, f i) := by
  choose r hr using h
  exact ⟨∑ i ∈ S, r i, by simp only [hr]; exact coe_sum S r⟩

theorem isReal_mul {x y : EReal} (hx : IsReal x) (hy : IsReal y) : IsReal (x * y) := by
  obtain ⟨a, rfl⟩ := hx; obtain ⟨b, rfl⟩ := hy; exact ⟨a * b, by rw [EReal.coe_mul]⟩

theorem isReal_add {x y : EReal} (hx : IsReal x) (hy : IsReal y) : IsReal (x + y) := by
  obtain ⟨a, rfl⟩ := hx; obtain ⟨b, rfl⟩ := hy; exact ⟨a + b, by rw [EReal.coe_add]⟩

theorem isReal_sub {x y : EReal} (hx : IsReal x) (hy : IsReal y) : IsReal (x - y) := by
  obtain ⟨a, rfl⟩ := hx; obtain ⟨b, rfl⟩ := hy; exact ⟨a - b, by rw [EReal.coe_sub]⟩

theorem isReal_exp {x : EReal} (hx : IsReal x) : IsReal (Ideal.exp x) := by
  obtain ⟨a, rfl⟩ := hx; exact ⟨Real.exp a, Ideal.exp_coe a⟩

/-- The part of a query that one of the two components reads: every other run of 32 features. -/
def part (q : Fin 128 → EReal) (s : Fin 2) (d : Fin 128) : EReal := if d.val % 64 / 32 = s.val then q d else 0

/-- A component's score of a key. -/
def score (q : Fin 128 → EReal) (k : Fin 4096 → Fin 128 → EReal) (s : Fin 2) (κ : Fin 4096) : EReal := ∑ d : Fin 128, k κ d * part q s d

theorem score_real {q : Fin 128 → EReal} {k : Fin 4096 → Fin 128 → EReal} (hq : ∀ d, IsReal (q d)) (hk : ∀ κ d, IsReal (k κ d)) (s : Fin 2)
    (κ : Fin 4096) : IsReal (score q k s κ) :=
  isReal_sum _ _ fun d => isReal_mul (hk κ d) (by unfold part; split; exact hq d; exact ⟨0, rfl⟩)

/-- A component's feature, as a feature of the head. -/
def feat (s : Fin 2) (f : Fin 64) : Fin 128 := ⟨f.val / 32 * 64 + s.val * 32 + f.val % 32, by omega⟩

theorem score_eq (q : Fin 128 → EReal) (k : Fin 4096 → Fin 128 → EReal) (s : Fin 2) (κ : Fin 4096) :
    ∑ f : Fin 64, q (feat s f) * k κ (feat s f) = score q k s κ := by
  have h : ∀ d : Fin 128, k κ d * part q s d = if d.val % 64 / 32 = s.val then q d * k κ d else 0 := fun d => by
    unfold part; split
    · rw [mul_comm]
    · rw [mul_zero]
  unfold score
  simp only [h]
  rw [← Finset.sum_filter]
  refine Finset.sum_nbij' (fun f => feat s f) (fun d => ⟨d.val / 64 * 32 + d.val % 32, by omega⟩) ?_ ?_ ?_ ?_ ?_
  · intro f _; rw [Finset.mem_filter]; refine ⟨Finset.mem_univ _, ?_⟩; show (f.val / 32 * 64 + s.val * 32 + f.val % 32) % 64 / 32 = s.val; omega
  · intro d _; exact Finset.mem_univ _
  · intro f _; apply Fin.ext; show (f.val / 32 * 64 + s.val * 32 + f.val % 32) / 64 * 32 + (f.val / 32 * 64 + s.val * 32 + f.val % 32) % 32 = f.val; omega
  · intro d hd
    have h := (Finset.mem_filter.mp hd).2
    apply Fin.ext
    show (d.val / 64 * 32 + d.val % 32) / 32 * 64 + s.val * 32 + (d.val / 64 * 32 + d.val % 32) % 32 = d.val
    omega
  · intro f _; rfl

/-- The mean of the values, weighted by the softmax of the scores in base two. -/
def soft (S v : Fin 4096 → EReal) : ℝ :=
  ∑ κ, (v κ).toReal * ((2 : ℝ) ^ (S κ).toReal / ∑ κ, (2 : ℝ) ^ (S κ).toReal)

theorem weight_eq (c : ℝ) (hc : 0 < c) (s : Fin 4096 → ℝ) (κ : Fin 4096) :
    (2 : ℝ) ^ s κ * c / (∑ κ, (2 : ℝ) ^ s κ * c) = (2 : ℝ) ^ s κ / ∑ κ, (2 : ℝ) ^ s κ := by
  rw [← Finset.sum_mul, mul_div_mul_right _ _ hc.ne']

theorem total_pos (c : ℝ) (hc : 0 < c) (s : Fin 4096 → ℝ) : 0 < ∑ κ, (2 : ℝ) ^ s κ * c :=
  Finset.sum_pos (fun κ _ => mul_pos (Real.rpow_pos_of_pos two_pos _) hc) ⟨0, Finset.mem_univ _⟩

/-- Base-two exponentials less any real number, summed against the values, then divided by their total. -/
theorem mean_eq (S v : Fin 4096 → EReal) (hS : ∀ κ, IsReal (S κ)) (hv : ∀ κ, IsReal (v κ)) (m : EReal) (hm : IsReal m) :
    (∑ κ, v κ * Ideal.exp2 (S κ - m)) * Ideal.div (Ideal.ofBits .f32 0x3F800000#32) (∑ κ, Ideal.exp2 (S κ - m)) = (soft S v : EReal) := by
  choose s hs using hS
  choose w hw using hv
  obtain ⟨r, rfl⟩ := hm
  obtain rfl : S = fun κ => (s κ : EReal) := funext hs
  obtain rfl : v = fun κ => (w κ : EReal) := funext hw
  have hc : (0 : ℝ) < (2 : ℝ) ^ (-r) := Real.rpow_pos_of_pos two_pos _
  have he : ∀ κ, Ideal.exp2 ((s κ : EReal) - (r : EReal)) = (((2 : ℝ) ^ s κ * (2 : ℝ) ^ (-r) : ℝ) : EReal) := fun κ => by
    rw [← EReal.coe_sub, Ideal.exp2_coe, ← Real.rpow_add two_pos, sub_eq_add_neg]
    rfl
  simp only [he, ← EReal.coe_mul, coe_sum, one_eq]
  rw [Ideal.div_coe (total_pos _ hc s).ne', ← EReal.coe_mul, ← EReal.coe_mul]
  unfold soft
  simp only [EReal.toReal_coe]
  congr 1
  rw [one_mul, Finset.sum_mul]
  refine Finset.sum_congr rfl fun κ _ => ?_
  rw [← weight_eq _ hc s κ, mul_assoc, mul_one_div]

/-- The reference's weight of a key. -/
theorem exp_eq (S : Fin 4096 → EReal) (hS : ∀ κ, IsReal (S κ)) (M : EReal) (hM : IsReal M) (κ : Fin 4096) :
    Ideal.div (Ideal.exp (S κ * Ideal.log (Ideal.ofBits .f32 0x40000000#32) - M))
      (∑ κ, Ideal.exp (S κ * Ideal.log (Ideal.ofBits .f32 0x40000000#32) - M))
      = (((2 : ℝ) ^ (S κ).toReal / ∑ κ, (2 : ℝ) ^ (S κ).toReal : ℝ) : EReal) := by
  choose s hs using hS
  obtain ⟨r, rfl⟩ := hM
  obtain rfl : S = fun κ => (s κ : EReal) := funext hs
  have hc : (0 : ℝ) < Real.exp (-r) := Real.exp_pos _
  have hl : Ideal.log (Ideal.ofBits .f32 0x40000000#32) = ((Real.log 2 : ℝ) : EReal) := by
    rw [two_eq, Ideal.log_coe, if_neg (by norm_num)]
  have he : ∀ κ, Ideal.exp ((s κ : EReal) * ((Real.log 2 : ℝ) : EReal) - (r : EReal)) = (((2 : ℝ) ^ s κ * Real.exp (-r) : ℝ) : EReal) := fun κ => by
    rw [← EReal.coe_mul, ← EReal.coe_sub, Ideal.exp_coe, Real.rpow_def_of_pos two_pos, ← Real.exp_add, mul_comm (s κ), sub_eq_add_neg]
  simp only [hl, he, coe_sum, EReal.toReal_coe]
  rw [Ideal.div_coe (total_pos _ hc s).ne', ← EReal.coe_mul, ← weight_eq _ hc s κ, mul_one_div]

/-- Weighting by the difference of two softmax weights. -/
theorem diff_eq (S T v : Fin 4096 → EReal) (hv : ∀ κ, IsReal (v κ)) (lam : EReal) (hl : IsReal lam) :
    ∑ κ, v κ * ((((2 : ℝ) ^ (S κ).toReal / ∑ κ, (2 : ℝ) ^ (S κ).toReal : ℝ) : EReal)
        - lam * (((2 : ℝ) ^ (T κ).toReal / ∑ κ, (2 : ℝ) ^ (T κ).toReal : ℝ) : EReal))
      = (soft S v : EReal) - lam * (soft T v : EReal) := by
  choose w hw using hv
  obtain ⟨l, rfl⟩ := hl
  obtain rfl : v = fun κ => (w κ : EReal) := funext hw
  simp only [← EReal.coe_mul, ← EReal.coe_sub, coe_sum]
  unfold soft
  simp only [EReal.toReal_coe]
  congr 1
  rw [Finset.mul_sum, ← Finset.sum_sub_distrib]
  refine Finset.sum_congr rfl fun κ _ => ?_
  ring

/-- The sum over the keys, tile by tile. -/
theorem sum_tiles (f : Fin 4096 → EReal) : ∑ j : Fin 16, ∑ r : Fin 256, f ⟨256 * j.val + r.val, by omega⟩ = ∑ κ, f κ := by
  rw [← Fintype.sum_prod_type', ← Equiv.sum_comp (finProdFinEquiv (m := 16) (n := 256))]
  refine Finset.sum_congr rfl fun x _ => congrArg f (Fin.ext ?_)
  show 256 * x.1.val + x.2.val = x.2.val + 256 * x.1.val
  omega

/-- The sum over the rows of a tile, eight at a time. -/
theorem sum_rows (f : Fin 256 → EReal) : ∑ i : Fin 8, ∑ a : Fin 32, f ⟨a.val * 8 + i.val, by omega⟩ = ∑ r, f r := by
  rw [Finset.sum_comm, ← Fintype.sum_prod_type', ← Equiv.sum_comp (finProdFinEquiv (m := 32) (n := 8))]
  refine Finset.sum_congr rfl fun x _ => congrArg f (Fin.ext ?_)
  show x.1.val * 8 + x.2.val = x.2.val + 8 * x.1.val
  omega

end Cert.Attn

end
-- ==== Proof.AttnOps.lean ====
module

public import proofs.«01_k».proof.Proof.Gen.KernelIdeal.Loops
public import proofs.«01_k».proof.Proof.Gen.KernelIdeal.Frame
public import Idealize.ShloMosaic.Lib.Exec
public import Idealize.ShloMosaic.Lib.Tactic

@[expose] public section

set_option maxRecDepth 65536
set_option maxHeartbeats 4000000

noncomputable section

/-! The attention's body in uniform terms: one block of 128 queries, its scores tile by tile, and what is stored for it.
    The sixteen blocks that one trip of the direct loop stores are all this. -/

namespace Cert.KernelIdeal.Block

open Cert.KernelIdeal Cert.KernelIdeal.Gen Idealize.ShloMosaic Idealize.ShloMosaic.TcCoe Idealize.SL.Sem Idealize.ShloMosaic.Tactic

variable {F : FTy → Type} [FloatOps F]

/-- A tile's scores: 256 keys against a block's queries, the first component's columns and then the second's. -/
def scores (qm : FVec F S128x256 .bf16) (k : Vec F S256x128 .bf16) : FVec F S256x256 .f32 :=
  matmul dot_S256x128_S128x256_S256x256_1_0_0_1_n_n none k qm (constant S256x256 .f32 0x00000000#32)

/-- The weighted values with one more tile. -/
def tileO (o : FVec F S128x256 .f32) (v w : Vec F S1x1x128x128 .bf16) (p : FVec F S256x256 .f32) : FVec F S128x256 .f32 :=
  addf o (matmul dot_S128x256_S256x256_S128x256_1_0_0_1_n_n none
    (concatenate S128x256 1 [⟨S128x128, shapeCast S128x128 v shapeCasts_S1x1x128x128_S128x128⟩,
      ⟨S128x128, shapeCast S128x128 w shapeCasts_S1x1x128x128_S128x128⟩] concatenates_S128x128_S128x128_S128x256_d1)
    (truncf .bf16 p bitsLt_bf16_f32) (constant S128x256 .f32 0x00000000#32))

/-- The weights' sums with one more tile, eight partial sums of a column. -/
def tileL (l : FVec F S8x256 .f32) (p : FVec F S256x256 .f32) : FVec F S8x256 .f32 :=
  addf l (multiReduction .add [0] S8x256 (shapeCast S32x8x256 p shapeCasts_S256x256_S32x8x256) 0x00000000#32
    reduces_S32x8x256_S8x256 (.inl rfl) rfl)

/-- The weighted values over all tiles. -/
def sumO (p : Fin 16 → FVec F S256x256 .f32) (v : Fin 32 → Vec F S1x1x128x128 .bf16) : FVec F S128x256 .f32 :=
  tileO (tileO (tileO (tileO (tileO (tileO (tileO (tileO (tileO (tileO (tileO (tileO (tileO (tileO (tileO (tileO (broadcast S128x256 (Scalar.ofBits .f32 0x00000000#32)) (v 0) (v 1) (p 0)) (v 2) (v 3) (p 1)) (v 4) (v 5) (p 2)) (v 6) (v 7) (p 3)) (v 8) (v 9) (p 4)) (v 10) (v 11) (p 5)) (v 12) (v 13) (p 6)) (v 14) (v 15) (p 7)) (v 16) (v 17) (p 8)) (v 18) (v 19) (p 9)) (v 20) (v 21) (p 10)) (v 22) (v 23) (p 11)) (v 24) (v 25) (p 12)) (v 26) (v 27) (p 13)) (v 28) (v 29) (p 14)) (v 30) (v 31) (p 15)

/-- The weights' sums over all tiles. -/
def sumL (p : Fin 16 → FVec F S256x256 .f32) : FVec F S8x256 .f32 :=
  tileL (tileL (tileL (tileL (tileL (tileL (tileL (tileL (tileL (tileL (tileL (tileL (tileL (tileL (tileL (tileL (broadcast S8x256 (Scalar.ofBits .f32 0x00000000#32)) (p 0)) (p 1)) (p 2)) (p 3)) (p 4)) (p 5)) (p 6)) (p 7)) (p 8)) (p 9)) (p 10)) (p 11)) (p 12)) (p 13)) (p 14)) (p 15)

/-- What is stored for a block: the two components' averages subtracted, normed and scaled. -/
def stored (lam : FVec F S1x1 .f32) (gain omi : Vec F S1x128 .f32) (p : Fin 16 → FVec F S256x256 .f32)
    (v : Fin 32 → Vec F S1x1x128x128 .bf16) : FVec F S128x128 .bf16 :=
  k0_pay2 lam gain omi (sumO p v) (divf (broadcast S1x256 (Scalar.ofBits .f32 0x3F800000#32))
    (shapeCast S1x256 (multiReduction .add [0] S256 (sumL p) 0x00000000#32 reduces_S8x256_S256 (.inl rfl) rfl) shapeCasts_S256_S1x256))

theorem inb_k : ∀ (j : Fin 16), ∀ a, (![256 * j.val, 0] : Fin 2 → ℕ) a + S256x128.size a ≤ S4096x128.size a := by decide +kernel
theorem inb_v : ∀ (j : Fin 32), ∀ a, (![0, j.val, 0, 0] : Fin 4 → ℕ) a + S1x1x128x128.size a ≤ S1x32x128x128.size a := by decide +kernel

/-- The key tiles. -/
abbrev keys (a : Memref sig .tc .vmem S4096x128 .bf16) (X : BufTy.Contents (Elt F) a.view.ty) (j : Fin 16) : Vec F S256x128 .bf16 :=
  View.readAt (Elt F) a.view (Rect.unit (s := S4096x128) ![256 * j.val, 0] S256x128.size (inb_k j)).toLoadRect X

/-- The value blocks. -/
abbrev vals (a : Memref sig .tc .vmem S1x32x128x128 .bf16) (X : BufTy.Contents (Elt F) a.view.ty) (j : Fin 32) : Vec F S1x1x128x128 .bf16 :=
  View.readAt (Elt F) a.view (Rect.unit (s := S1x32x128x128) ![0, j.val, 0, 0] S1x1x128x128.size (inb_v j)).toLoadRect X

/-- The direct loop's weights: two to the scores. -/
abbrev direct (qm : FVec F S128x256 .bf16) (k : Fin 16 → Vec F S256x128 .bf16) (j : Fin 16) : FVec F S256x256 .f32 :=
  exp2 (scores qm (k j))

/-- A piece of the direct loop: rows `128 (16 k + r)` and on. -/
abbrev piece1 (arg3 : Memref sig .tc .vmem S1x32x128x128 .bf16) (arg4 : Memref sig .tc .vmem S4096x128 .bf16) (arg5 : Memref sig .tc .vmem S1x32x128x128 .bf16)
    (v15 : FVec F S1x1 .f32) (v16 v17 : Vec F S1x128 .f32) (v36 : IVec S128x1 1)
    (X_arg3 : BufTy.Contents (Elt F) arg3.view.ty) (X_arg4 : BufTy.Contents (Elt F) arg4.view.ty) (X_arg5 : BufTy.Contents (Elt F) arg5.view.ty)
    (k : Fin k0_t1_loop.trips) (r : Fin 16) : View.Piece (Elt F) S4096x128 .bf16 :=
  ⟨Rect.unit (s := S4096x128) (k0_off3 k (BitVec.ofNat 32 r.val)) S128x128.size (k0_off3_inb k r),
    stored v15 v16 v17 (direct (k0_pay3 v36 (View.readAt (Elt F) arg3.view
      (Rect.unit (s := S1x32x128x128) (k0_off2 k (BitVec.ofNat 32 r.val)) S1x1x128x128.size (k0_off2_inb k r)).toLoadRect X_arg3)) (keys arg4 X_arg4)) (vals arg5 X_arg5)⟩

theorem trip1_eq (𝒱 : Variants) (c : Dev nD) (bd : Option 𝒱.V) (i : grid0.Coords) (arg2 : Memref sig .tc .smem S16x4 .f32) (harg2 : arg2.IsWhole) (arg3 : Memref sig .tc .vmem S1x32x128x128 .bf16) (harg3 : arg3.IsWhole) (arg4 : Memref sig .tc .vmem S4096x128 .bf16) (harg4 : arg4.IsWhole) (arg5 : Memref sig .tc .vmem S1x32x128x128 .bf16) (harg5 : arg5.IsWhole) (arg6 : Memref sig .tc .vmem S4x64 .f32) (harg6 : arg6.IsWhole) (arg7 : Memref sig .tc .vmem S8x128 .f32) (harg7 : arg7.IsWhole) (arg8 : Memref sig .tc .vmem S4096x128 .bf16) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x256 .f32) (harg12 : arg12.IsWhole) (v15 : FVec F S1x1 .f32) (v16 : Vec F S1x128 .f32) (v17 : Vec F S1x128 .f32) (v36 : IVec S128x1 1) (X_arg3 : BufTy.Contents (Elt F) arg3.view.ty) (X_arg4 : BufTy.Contents (Elt F) arg4.view.ty) (X_arg5 : BufTy.Contents (Elt F) arg5.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 v15 v16 v17 v36 X_arg3 X_arg4 X_arg5 k).1 = [piece1 arg3 arg4 arg5 v15 v16 v17 v36 X_arg3 X_arg4 X_arg5 k 15, piece1 arg3 arg4 arg5 v15 v16 v17 v36 X_arg3 X_arg4 X_arg5 k 14, piece1 arg3 arg4 arg5 v15 v16 v17 v36 X_arg3 X_arg4 X_arg5 k 13, piece1 arg3 arg4 arg5 v15 v16 v17 v36 X_arg3 X_arg4 X_arg5 k 12, piece1 arg3 arg4 arg5 v15 v16 v17 v36 X_arg3 X_arg4 X_arg5 k 11, piece1 arg3 arg4 arg5 v15 v16 v17 v36 X_arg3 X_arg4 X_arg5 k 10, piece1 arg3 arg4 arg5 v15 v16 v17 v36 X_arg3 X_arg4 X_arg5 k 9, piece1 arg3 arg4 arg5 v15 v16 v17 v36 X_arg3 X_arg4 X_arg5 k 8, piece1 arg3 arg4 arg5 v15 v16 v17 v36 X_arg3 X_arg4 X_arg5 k 7, piece1 arg3 arg4 arg5 v15 v16 v17 v36 X_arg3 X_arg4 X_arg5 k 6, piece1 arg3 arg4 arg5 v15 v16 v17 v36 X_arg3 X_arg4 X_arg5 k 5, piece1 arg3 arg4 arg5 v15 v16 v17 v36 X_arg3 X_arg4 X_arg5 k 4, piece1 arg3 arg4 arg5 v15 v16 v17 v36 X_arg3 X_arg4 X_arg5 k 3, piece1 arg3 arg4 arg5 v15 v16 v17 v36 X_arg3 X_arg4 X_arg5 k 2, piece1 arg3 arg4 arg5 v15 v16 v17 v36 X_arg3 X_arg4 X_arg5 k 1, piece1 arg3 arg4 arg5 v15 v16 v17 v36 X_arg3 X_arg4 X_arg5 k 0] := by
  unfold trip_k0_t1
  rfl

/-- A tile's largest scores, eight partial maxima of a column. -/
abbrev tileMax (s : FVec F S256x256 .f32) : FVec F S8x256 .f32 :=
  multiReduction .maximumf [0] S8x256 (shapeCast S32x8x256 s shapeCasts_S256x256_S32x8x256) 0xFF800000#32 reduces_S32x8x256_S8x256 (.inl rfl) rfl

/-- A block's largest scores, by column. -/
def colMax (qm : FVec F S128x256 .bf16) (k : Fin 16 → Vec F S256x128 .bf16) : FVec F S1x256 .f32 :=
  shapeCast S1x256 (multiReduction .maximumf [0] S256 (maximumf (maximumf (maximumf (maximumf (maximumf (maximumf (maximumf (maximumf (maximumf (maximumf (maximumf (maximumf (maximumf (maximumf (maximumf (tileMax (scores qm (k 0))) (tileMax (scores qm (k 1)))) (tileMax (scores qm (k 2)))) (tileMax (scores qm (k 3)))) (tileMax (scores qm (k 4)))) (tileMax (scores qm (k 5)))) (tileMax (scores qm (k 6)))) (tileMax (scores qm (k 7)))) (tileMax (scores qm (k 8)))) (tileMax (scores qm (k 9)))) (tileMax (scores qm (k 10)))) (tileMax (scores qm (k 11)))) (tileMax (scores qm (k 12)))) (tileMax (scores qm (k 13)))) (tileMax (scores qm (k 14)))) (tileMax (scores qm (k 15))))
    0xFF800000#32 reduces_S8x256_S256 (.inl rfl) rfl) shapeCasts_S256_S1x256

theorem inb_s : ∀ (j : Fin 16), ∀ a, (![256 * j.val, 0] : Fin 2 → ℕ) a + S256x256.size a ≤ S4096x256.size a := by decide +kernel

/-- A tile's rows of a score buffer. -/
abbrev tile (j : Fin 16) : Rect S4096x256 := Rect.unit (s := S4096x256) ![256 * j.val, 0] S256x256.size (inb_s j)

/-- A tile's scores, stored. -/
abbrev scorePiece (qm : FVec F S128x256 .bf16) (k : Fin 16 → Vec F S256x128 .bf16) (j : Fin 16) : View.Piece (Elt F) S4096x256 .f32 :=
  ⟨tile j, shapeCast S256x256 (scores qm (k j)) shapeCasts_S256x256_S256x256⟩

/-- A block's scores, stored tile by tile: the last first. -/
abbrev scoreList (qm : FVec F S128x256 .bf16) (k : Fin 16 → Vec F S256x128 .bf16) : List (View.Piece (Elt F) S4096x256 .f32) :=
  [scorePiece qm k 15, scorePiece qm k 14, scorePiece qm k 13, scorePiece qm k 12, scorePiece qm k 11, scorePiece qm k 10, scorePiece qm k 9, scorePiece qm k 8, scorePiece qm k 7, scorePiece qm k 6, scorePiece qm k 5, scorePiece qm k 4, scorePiece qm k 3, scorePiece qm k 2, scorePiece qm k 1, scorePiece qm k 0]

/-- The shifted loop's weights: two to the scores less a number of the column. -/
abbrev shifted (m : FVec F S1x256 .f32) (s : Fin 16 → Vec F S256x256 .f32) (j : Fin 16) : FVec F S256x256 .f32 :=
  exp2 (subf (s j) (broadcastTo S256x256 m broadcasts_S1x256_S256x256))

/-- The tiles of a score buffer as it is. -/
abbrev held (a : Memref sig .tc .vmem S4096x256 .f32) (f : BufTy.Contents (Elt F) a.view.ty) (j : Fin 16) : Vec F S256x256 .f32 :=
  View.readAt (Elt F) a.view (tile j).toLoadRect f

/-- The tiles of a score buffer after a block's scores are stored. -/
abbrev back (a : Memref sig .tc .vmem S4096x256 .f32) (qm : FVec F S128x256 .bf16) (k : Fin 16 → Vec F S256x128 .bf16) (j : Fin 16) : Vec F S256x256 .f32 :=
  a.view.readCov (scoreList qm k) (tile j).toLoadRect

/-- The paired queries of block `4 k + r + 1`. -/
abbrev ahead (arg3 : Memref sig .tc .vmem S1x32x128x128 .bf16) (v36 : IVec S128x1 1) (X_arg3 : BufTy.Contents (Elt F) arg3.view.ty)
    (k : Fin k0_t2_loop.trips) (r : Fin 4) : FVec F S128x256 .bf16 :=
  k0_pay3 v36 (View.readAt (Elt F) arg3.view (Rect.unit (s := S1x32x128x128) (k0_off4 k (BitVec.ofNat 32 r.val)) S1x1x128x128.size (k0_off4_inb k r)).toLoadRect X_arg3)

/-- A piece of the shifted loop: rows `128 (4 k + r)` and on. -/
abbrev piece2 (arg5 : Memref sig .tc .vmem S1x32x128x128 .bf16)
    (v15 : FVec F S1x1 .f32) (v16 v17 : Vec F S1x128 .f32) (X_arg5 : BufTy.Contents (Elt F) arg5.view.ty)
    (k : Fin k0_t2_loop.trips) (r : Fin 4) (m : FVec F S1x256 .f32) (s : Fin 16 → Vec F S256x256 .f32) : View.Piece (Elt F) S4096x128 .bf16 :=
  ⟨Rect.unit (s := S4096x128) (k0_off5 k (BitVec.ofNat 32 r.val)) S128x128.size (k0_off5_inb k r),
    stored v15 v16 v17 (shifted m s) (vals arg5 X_arg5)⟩

theorem yield2_eq (𝒱 : Variants) (c : Dev nD) (bd : Option 𝒱.V) (i : grid0.Coords) (arg2 : Memref sig .tc .smem S16x4 .f32) (harg2 : arg2.IsWhole) (arg3 : Memref sig .tc .vmem S1x32x128x128 .bf16) (harg3 : arg3.IsWhole) (arg4 : Memref sig .tc .vmem S4096x128 .bf16) (harg4 : arg4.IsWhole) (arg5 : Memref sig .tc .vmem S1x32x128x128 .bf16) (harg5 : arg5.IsWhole) (arg6 : Memref sig .tc .vmem S4x64 .f32) (harg6 : arg6.IsWhole) (arg7 : Memref sig .tc .vmem S8x128 .f32) (harg7 : arg7.IsWhole) (arg8 : Memref sig .tc .vmem S4096x128 .bf16) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x256 .f32) (harg12 : arg12.IsWhole) (v15 : FVec F S1x1 .f32) (v16 : Vec F S1x128 .f32) (v17 : Vec F S1x128 .f32) (v36 : IVec S128x1 1) (v52 : FVec F S128x256 .bf16) (v171 : FVec F S8x256 .f32) (X_arg3 : BufTy.Contents (Elt F) arg3.view.ty) (X_arg4 : BufTy.Contents (Elt F) arg4.view.ty) (X_arg5 : BufTy.Contents (Elt F) arg5.view.ty) (k : Fin k0_t2_loop.trips) (acc : FVec F S1x256 .f32) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (trip_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 k).1 acc f8 f9 f10 f11 f12 = colMax (ahead arg3 v36 X_arg3 k 3) (keys arg4 X_arg4) := by
  unfold trip_k0_t2
  rfl

theorem rows2_eq (𝒱 : Variants) (c : Dev nD) (bd : Option 𝒱.V) (i : grid0.Coords) (arg2 : Memref sig .tc .smem S16x4 .f32) (harg2 : arg2.IsWhole) (arg3 : Memref sig .tc .vmem S1x32x128x128 .bf16) (harg3 : arg3.IsWhole) (arg4 : Memref sig .tc .vmem S4096x128 .bf16) (harg4 : arg4.IsWhole) (arg5 : Memref sig .tc .vmem S1x32x128x128 .bf16) (harg5 : arg5.IsWhole) (arg6 : Memref sig .tc .vmem S4x64 .f32) (harg6 : arg6.IsWhole) (arg7 : Memref sig .tc .vmem S8x128 .f32) (harg7 : arg7.IsWhole) (arg8 : Memref sig .tc .vmem S4096x128 .bf16) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x256 .f32) (harg12 : arg12.IsWhole) (v15 : FVec F S1x1 .f32) (v16 : Vec F S1x128 .f32) (v17 : Vec F S1x128 .f32) (v36 : IVec S128x1 1) (v52 : FVec F S128x256 .bf16) (v171 : FVec F S8x256 .f32) (X_arg3 : BufTy.Contents (Elt F) arg3.view.ty) (X_arg4 : BufTy.Contents (Elt F) arg4.view.ty) (X_arg5 : BufTy.Contents (Elt F) arg5.view.ty) (k : Fin k0_t2_loop.trips) (acc : FVec F S1x256 .f32) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (trip_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 k).2.1 acc f8 f9 f10 f11 f12 = [piece2 arg5 v15 v16 v17 X_arg5 k 3 (colMax (ahead arg3 v36 X_arg3 k 2) (keys arg4 X_arg4)) (back arg12 (ahead arg3 v36 X_arg3 k 2) (keys arg4 X_arg4)), piece2 arg5 v15 v16 v17 X_arg5 k 2 (colMax (ahead arg3 v36 X_arg3 k 1) (keys arg4 X_arg4)) (back arg11 (ahead arg3 v36 X_arg3 k 1) (keys arg4 X_arg4)), piece2 arg5 v15 v16 v17 X_arg5 k 1 (colMax (ahead arg3 v36 X_arg3 k 0) (keys arg4 X_arg4)) (back arg10 (ahead arg3 v36 X_arg3 k 0) (keys arg4 X_arg4)), piece2 arg5 v15 v16 v17 X_arg5 k 0 acc (held arg9 f9)] := by
  unfold trip_k0_t2
  rfl

theorem scores9_eq (𝒱 : Variants) (c : Dev nD) (bd : Option 𝒱.V) (i : grid0.Coords) (arg2 : Memref sig .tc .smem S16x4 .f32) (harg2 : arg2.IsWhole) (arg3 : Memref sig .tc .vmem S1x32x128x128 .bf16) (harg3 : arg3.IsWhole) (arg4 : Memref sig .tc .vmem S4096x128 .bf16) (harg4 : arg4.IsWhole) (arg5 : Memref sig .tc .vmem S1x32x128x128 .bf16) (harg5 : arg5.IsWhole) (arg6 : Memref sig .tc .vmem S4x64 .f32) (harg6 : arg6.IsWhole) (arg7 : Memref sig .tc .vmem S8x128 .f32) (harg7 : arg7.IsWhole) (arg8 : Memref sig .tc .vmem S4096x128 .bf16) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x256 .f32) (harg12 : arg12.IsWhole) (v15 : FVec F S1x1 .f32) (v16 : Vec F S1x128 .f32) (v17 : Vec F S1x128 .f32) (v36 : IVec S128x1 1) (v52 : FVec F S128x256 .bf16) (v171 : FVec F S8x256 .f32) (X_arg3 : BufTy.Contents (Elt F) arg3.view.ty) (X_arg4 : BufTy.Contents (Elt F) arg4.view.ty) (X_arg5 : BufTy.Contents (Elt F) arg5.view.ty) (k : Fin k0_t2_loop.trips) (acc : FVec F S1x256 .f32) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (trip_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 k).2.2.1 acc f8 f9 f10 f11 f12 = scoreList (ahead arg3 v36 X_arg3 k 3) (keys arg4 X_arg4) := by
  unfold trip_k0_t2
  rfl

end Cert.KernelIdeal.Block

end
-- ==== Proof.AttnLoops.lean ====
module

public import proofs.«01_k».proof.Proof.AttnOps
public import Idealize.ShloMosaic.Lib.Pipeline.FrameBody
public import Idealize.ShloMosaic.Lib.Pipeline.Value

@[expose] public section

set_option maxRecDepth 65536
set_option maxHeartbeats 4000000

noncomputable section

/-! The attention's two loops: what they leave in the output block, block of queries by block of queries. -/

namespace Cert.KernelIdeal.Block

open Cert.KernelIdeal Cert.KernelIdeal.Gen Idealize.ShloMosaic Idealize.ShloMosaic.TcCoe Idealize.SL.Sem Idealize.ShloMosaic.Tactic

variable {F : FTy → Type} [FloatOps F]

theorem inb_r : ∀ (b : Fin 32), ∀ a, (![128 * b.val, 0] : Fin 2 → ℕ) a + S128x128.size a ≤ S4096x128.size a := by decide +kernel

/-- The output rows of a block of queries. -/
abbrev rows (b : Fin 32) : Rect S4096x128 := Rect.unit (s := S4096x128) ![128 * b.val, 0] S128x128.size (inb_r b)

theorem emb_congr {s : Shape} {off off' size : Fin s.rank → ℕ} (h : off = off') (inb) (inb') (y) :
    (Rect.unit (s := s) off size inb).emb y = (Rect.unit (s := s) off' size inb').emb y := by subst h; rfl

theorem readAt_off {s : Shape} {e : EltTy} {κ : Kind} {sp : Space} (v : View sig κ sp s e) (f : BufTy.Contents (Elt F) v.ty)
    {off off' size : Fin s.rank → ℕ} (h : off = off') (inb) (inb') :
    (View.readAt (Elt F) v (Rect.unit (s := s) off size inb).toLoadRect f : (⟨s.rank, size⟩ : Shape).Idx → Elt F e)
      = View.readAt (Elt F) v (Rect.unit (s := s) off' size inb').toLoadRect f := by subst h; rfl

/-- The first `n` blocks' rows are stored, and everything stored is what `G` holds there. -/
def Filled (G : S4096x128.Idx → Elt F .bf16) (n : ℕ) (L : List (View.Piece (Elt F) S4096x128 .bf16)) : Prop :=
  (∀ p ∈ L, ∀ x, p.2 x = G (p.1.emb x)) ∧ ∀ y : S4096x128.Idx, (y 0).val < 128 * n → ∃ p ∈ L, y ∈ p.1.set

theorem Filled.nil (G : S4096x128.Idx → Elt F .bf16) : Filled G 0 [] :=
  ⟨by simp, fun y h => absurd h (by omega)⟩

theorem Filled.cons {G : S4096x128.Idx → Elt F .bf16} {n : ℕ} {L : List (View.Piece (Elt F) S4096x128 .bf16)} (h : Filled G n L)
    {off : Fin 2 → ℕ} (inb : ∀ a : Fin 2, off a + S128x128.size a ≤ S4096x128.size a) {w : S128x128.Idx → Elt F .bf16}
    (b : Fin 32) (hn : b.val = n) (ho : off = ![128 * b.val, 0]) (hw : ∀ y, w y = G ((rows b).emb y)) :
    Filled G (n + 1) (⟨Rect.unit (s := S4096x128) off S128x128.size inb, w⟩ :: L) := by
  refine ⟨?_, ?_⟩
  · intro p hp
    rcases List.mem_cons.mp hp with rfl | hp
    · intro x
      exact (hw x).trans (congrArg G (emb_congr (s := S4096x128) (size := S128x128.size) ho.symm (inb_r b) inb x))
    · exact h.1 p hp
  · intro y hy
    by_cases hlt : (y 0).val < 128 * n
    · obtain ⟨p, hp, hm⟩ := h.2 y hlt
      exact ⟨p, List.mem_cons_of_mem _ hp, hm⟩
    · refine ⟨_, List.mem_cons_self, ?_⟩
      rw [Rect.mem_set_unit]
      subst ho
      intro a
      match a with
      | ⟨0, _⟩ => show 128 * b.val ≤ (y 0).val ∧ (y 0).val < 128 * b.val + 128; omega
      | ⟨1, _⟩ =>
        have h1 : (y 1).val < 128 := (y 1).isLt
        show 0 ≤ (y 1).val ∧ (y 1).val < 0 + 128; omega

theorem Filled.read {G : S4096x128.Idx → Elt F .bf16} {L : List (View.Piece (Elt F) S4096x128 .bf16)} (h : Filled G 32 L)
    {κ : Kind} {sp : Space} (v : View sig κ sp S4096x128 .bf16) (f : BufTy.Contents (Elt F) v.ty) : v.read (Elt F) (v.writes (Elt F) f L) = G := by
  have hc : ∀ y : S4096x128.Idx, ∃ p ∈ L, y ∈ p.1.set := fun y => h.2 y (by have h0 : (y 0).val < 4096 := (y 0).isLt; omega)
  rw [View.read_writes_eq_canon _ _ _ hc]
  funext y
  exact View.canon_apply_of_pieces G L h.1 y (hc y)

/-! The score buffers. -/

theorem scoreList_eq (qm : FVec F S128x256 .bf16) (k : Fin 16 → Vec F S256x128 .bf16) :
    scoreList qm k = (List.finRange 16).reverse.map (scorePiece qm k) := rfl

theorem tile_unique (j j' : Fin 16) (x : S256x256.Idx) (h : (tile j).emb x ∈ (tile j').set) : j = j' := by
  have := (Rect.mem_set_unit.mp h) 0
  have e : ((tile j).emb x 0 : Nat) = 256 * j.val + 1 * (x 0).val := rfl
  have hx : (x 0).val < 256 := (x 0).isLt
  apply Fin.ext
  have h1 : 256 * j'.val ≤ ((tile j).emb x 0 : Nat) ∧ ((tile j).emb x 0 : Nat) < 256 * j'.val + 256 := this
  omega

theorem read_pieces {κ : Kind} {sp : Space} (v : View sig κ sp S4096x256 .f32) (f : BufTy.Contents (Elt F) v.ty) (w : Fin 16 → FVec F S256x256 .f32)
    (j : Fin 16) (x : S256x256.Idx) : ∀ L : List (Fin 16), j ∈ L →
      v.read (Elt F) (v.writes (Elt F) f (L.map fun j => (⟨tile j, w j⟩ : View.Piece (Elt F) S4096x256 .f32))) ((tile j).emb x) = w j x
  | [], h => by simp at h
  | a :: L, h => by
    by_cases ha : j = a
    · subst ha
      exact View.read_writes_cons_emb _ _ _ _ _ _
    · have hL : j ∈ L := (List.mem_cons.mp h).resolve_left ha
      rw [List.map_cons, View.writes_cons, View.read_slice_write_of_not_mem]
      · exact read_pieces v f w j x L hL
      · rw [Rect.map_emb_univ]
        exact fun hm => ha (tile_unique j a x hm)

theorem held_scores (a : Memref sig .tc .vmem S4096x256 .f32) (f : BufTy.Contents (Elt F) a.view.ty) (qm : FVec F S128x256 .bf16)
    (k : Fin 16 → Vec F S256x128 .bf16) (L : List (View.Piece (Elt F) S4096x256 .f32)) (j : Fin 16) :
    held a (a.view.writes (Elt F) f (scoreList qm k ++ L)) j = scores qm (k j) := by
  rw [View.writes_append, scoreList_eq]
  funext x
  refine (read_pieces a.view _ (fun j => shapeCast S256x256 (scores qm (k j)) shapeCasts_S256x256_S256x256) j x _ (by simp)).trans ?_
  exact congrFun (shapeCast_self _ _) x

theorem back_scores (a : Memref sig .tc .vmem S4096x256 .f32) (qm : FVec F S128x256 .bf16)
    (k : Fin 16 → Vec F S256x128 .bf16) (j : Fin 16) : back a qm k j = scores qm (k j) := by
  have h := held_scores a a.view.junk qm k [] j
  rw [List.append_nil] at h
  exact h

/-- The direct loop stores every block's rows. -/
theorem direct_filled (G : S4096x128.Idx → Elt F .bf16) (𝒱 : Variants) (c : Dev nD) (bd : Option 𝒱.V) (i : grid0.Coords) (arg2 : Memref sig .tc .smem S16x4 .f32) (harg2 : arg2.IsWhole) (arg3 : Memref sig .tc .vmem S1x32x128x128 .bf16) (harg3 : arg3.IsWhole) (arg4 : Memref sig .tc .vmem S4096x128 .bf16) (harg4 : arg4.IsWhole) (arg5 : Memref sig .tc .vmem S1x32x128x128 .bf16) (harg5 : arg5.IsWhole) (arg6 : Memref sig .tc .vmem S4x64 .f32) (harg6 : arg6.IsWhole) (arg7 : Memref sig .tc .vmem S8x128 .f32) (harg7 : arg7.IsWhole) (arg8 : Memref sig .tc .vmem S4096x128 .bf16) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x256 .f32) (harg12 : arg12.IsWhole) (v15 : FVec F S1x1 .f32) (v16 : Vec F S1x128 .f32) (v17 : Vec F S1x128 .f32) (v36 : IVec S128x1 1) (X_arg3 : BufTy.Contents (Elt F) arg3.view.ty) (X_arg4 : BufTy.Contents (Elt F) arg4.view.ty) (X_arg5 : BufTy.Contents (Elt F) arg5.view.ty)
    (hd : ∀ b : Fin 32, ∀ y, stored v15 v16 v17 (direct (k0_pay3 v36 (vals arg3 X_arg3 b)) (keys arg4 X_arg4)) (vals arg5 X_arg5) y = G ((rows b).emb y)) :
    ∀ k : ℕ, k ≤ k0_t1_loop.trips → Filled G (16 * k) (pb_k0_t1 (F := F) 𝒱 c bd i arg2 harg2 arg3 harg3 arg4 harg4 arg5 harg5 arg6 harg6 arg7 harg7 arg8 harg8 arg9 harg9 arg10 harg10 arg11 harg11 arg12 harg12 v15 v16 v17 v36 X_arg3 X_arg4 X_arg5 k)
  | 0, _ => Filled.nil G
  | k + 1, hk => by
    have ih := direct_filled G 𝒱 c bd i arg2 harg2 arg3 harg3 arg4 harg4 arg5 harg5 arg6 harg6 arg7 harg7 arg8 harg8 arg9 harg9 arg10 harg10 arg11 harg11 arg12 harg12 v15 v16 v17 v36 X_arg3 X_arg4 X_arg5 hd k (by omega)
    have ht : k0_t1_loop.trips ≤ 2 := k0_t1_abs.2.1
    rw [show k + 1 = (⟨k, hk⟩ : Fin k0_t1_loop.trips).val + 1 from rfl, pb_k0_t1_succ, tripL_k0_t1, trip1_eq]
    have step : ∀ (r : Fin 16) (n : ℕ) (hn : n = 16 * k + r.val) (L), Filled G n L →
        Filled G (n + 1) (piece1 arg3 arg4 arg5 v15 v16 v17 v36 X_arg3 X_arg4 X_arg5 ⟨k, hk⟩ r :: L) := fun r n hn L hL => by
      have hr := r.isLt
      refine hL.cons _ ⟨16 * k + r.val, by omega⟩ hn.symm ?_ ?_
      · rw [k0_off3_eq]; congr 1; show 2048 * k + 128 * r.val = 128 * (16 * k + r.val); omega
      · intro y
        rw [readAt_off arg3.view X_arg3 (k0_off2_eq ⟨k, hk⟩ r) (k0_off2_inb ⟨k, hk⟩ r) (inb_v ⟨16 * k + r.val, by omega⟩)]
        exact hd ⟨16 * k + r.val, by omega⟩ y
    rw [show 16 * (k + 1) = 16 * k + 15 + 1 by omega]
    refine step 15 _ rfl _ ?_
    refine step 14 _ rfl _ ?_
    refine step 13 _ rfl _ ?_
    refine step 12 _ rfl _ ?_
    refine step 11 _ rfl _ ?_
    refine step 10 _ rfl _ ?_
    refine step 9 _ rfl _ ?_
    refine step 8 _ rfl _ ?_
    refine step 7 _ rfl _ ?_
    refine step 6 _ rfl _ ?_
    refine step 5 _ rfl _ ?_
    refine step 4 _ rfl _ ?_
    refine step 3 _ rfl _ ?_
    refine step 2 _ rfl _ ?_
    refine step 1 _ rfl _ ?_
    exact step 0 _ rfl _ ih

theorem shifted_congr (m : FVec F S1x256 .f32) {s s' : Fin 16 → Vec F S256x256 .f32} (h : ∀ j, s j = s' j) : shifted m s = shifted m s' := by
  rw [funext h]

/-- The shifted loop stores the rows of the blocks it has been over; the first score buffer holds the next block's scores and the number
    carried along is one its columns may be shifted by. -/
theorem shifted_filled (G : S4096x128.Idx → Elt F .bf16) (Ok : FVec F S1x256 .f32 → Prop) (𝒱 : Variants) (c : Dev nD) (bd : Option 𝒱.V) (i : grid0.Coords) (arg2 : Memref sig .tc .smem S16x4 .f32) (harg2 : arg2.IsWhole) (arg3 : Memref sig .tc .vmem S1x32x128x128 .bf16) (harg3 : arg3.IsWhole) (arg4 : Memref sig .tc .vmem S4096x128 .bf16) (harg4 : arg4.IsWhole) (arg5 : Memref sig .tc .vmem S1x32x128x128 .bf16) (harg5 : arg5.IsWhole) (arg6 : Memref sig .tc .vmem S4x64 .f32) (harg6 : arg6.IsWhole) (arg7 : Memref sig .tc .vmem S8x128 .f32) (harg7 : arg7.IsWhole) (arg8 : Memref sig .tc .vmem S4096x128 .bf16) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x256 .f32) (harg12 : arg12.IsWhole) (v15 : FVec F S1x1 .f32) (v16 : Vec F S1x128 .f32) (v17 : Vec F S1x128 .f32) (v36 : IVec S128x1 1) (v52 : FVec F S128x256 .bf16) (v171 : FVec F S8x256 .f32) (X_arg3 : BufTy.Contents (Elt F) arg3.view.ty) (X_arg4 : BufTy.Contents (Elt F) arg4.view.ty) (X_arg5 : BufTy.Contents (Elt F) arg5.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (init : FVec F S1x256 .f32)
    (hm : ∀ b : Fin 32, Ok (colMax (k0_pay3 v36 (vals arg3 X_arg3 b)) (keys arg4 X_arg4)))
    (hs : ∀ b : Fin 32, ∀ m, Ok m → ∀ y, stored v15 v16 v17 (shifted m fun j => scores (k0_pay3 v36 (vals arg3 X_arg3 b)) (keys arg4 X_arg4 j)) (vals arg5 X_arg5) y
      = G ((rows b).emb y))
    (h0 : Ok init) (h9 : ∀ j, held arg9 G_arg9 j = scores (k0_pay3 v36 (vals arg3 X_arg3 0)) (keys arg4 X_arg4 j)) :
    ∀ k : ℕ, k ≤ k0_t2_loop.trips → Filled G (4 * k) (st_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 G_arg8 G_arg9 G_arg10 G_arg11 G_arg12 init k).2.1 ∧ Ok (st_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 G_arg8 G_arg9 G_arg10 G_arg11 G_arg12 init k).1
      ∧ ∀ (b : Fin 32), b.val = 4 * k → ∀ j, held arg9 (arg9.view.writes (Elt F) G_arg9 (st_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 G_arg8 G_arg9 G_arg10 G_arg11 G_arg12 init k).2.2.1) j = scores (k0_pay3 v36 (vals arg3 X_arg3 b)) (keys arg4 X_arg4 j)
  | 0, _ => ⟨Filled.nil G, h0, fun b hb j => by rw [show b = 0 from Fin.ext hb]; exact h9 j⟩
  | k + 1, hk => by
    have ht : k0_t2_loop.trips ≤ 7 := k0_t2_abs.2.1
    obtain ⟨i1, i2, i3⟩ := shifted_filled G Ok 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 G_arg8 G_arg9 G_arg10 G_arg11 G_arg12 init hm hs h0 h9 k (by omega)
    have ea : ∀ r : Fin 4, ahead arg3 v36 X_arg3 ⟨k, hk⟩ r = k0_pay3 v36 (vals arg3 X_arg3 ⟨4 * k + r.val + 1, by omega⟩) := fun r =>
      congrArg (k0_pay3 v36) (readAt_off arg3.view X_arg3 (k0_off4_eq ⟨k, hk⟩ r) (k0_off4_inb ⟨k, hk⟩ r) (inb_v ⟨4 * k + r.val + 1, by omega⟩))
    rw [show k + 1 = (⟨k, hk⟩ : Fin k0_t2_loop.trips).val + 1 from rfl, st_k0_t2_succ, tripL_k0_t2, tripR_k0_t2, yield2_eq, rows2_eq, scores9_eq]
    dsimp only
    have off : ∀ r : Fin 4, k0_off5 (⟨k, hk⟩ : Fin k0_t2_loop.trips) (BitVec.ofNat 32 r.val) = ![128 * (⟨4 * k + r.val, by omega⟩ : Fin 32).val, 0] := fun r => by
      rw [k0_off5_eq]; congr 1; show 512 * k + 128 * r.val = 128 * (4 * k + r.val); omega
    refine ⟨?_, ?_, ?_⟩
    · rw [show 4 * (k + 1) = 4 * k + 3 + 1 by omega]
      refine Filled.cons (n := 4 * k + 3) ?_ _ ⟨4 * k + 3, by omega⟩ rfl (off 3) fun y => ?_
      · refine Filled.cons (n := 4 * k + 2) ?_ _ ⟨4 * k + 2, by omega⟩ rfl (off 2) fun y => ?_
        · refine Filled.cons (n := 4 * k + 1) ?_ _ ⟨4 * k + 1, by omega⟩ rfl (off 1) fun y => ?_
          · refine Filled.cons (n := 4 * k) i1 _ ⟨4 * k, by omega⟩ rfl (off 0) fun y => ?_
            rw [shifted_congr _ (i3 ⟨4 * k, by omega⟩ rfl)]
            exact hs _ _ i2 y
          · rw [shifted_congr _ (back_scores arg10 _ _), ea 0]
            exact hs _ _ (hm _) y
        · rw [shifted_congr _ (back_scores arg11 _ _), ea 1]
          exact hs _ _ (hm _) y
      · rw [shifted_congr _ (back_scores arg12 _ _), ea 2]
        exact hs _ _ (hm _) y
    · rw [ea 3]; exact hm _
    · intro b hb j
      rw [held_scores, ea 3, show b = ⟨4 * k + 3 + 1, by omega⟩ from Fin.ext hb]
      rfl

/-- A score buffer's tiles, read back under whatever was stored before. -/
abbrev backL (a : Memref sig .tc .vmem S4096x256 .f32) (L : List (View.Piece (Elt F) S4096x256 .f32)) (j : Fin 16) : Vec F S256x256 .f32 :=
  a.view.readCov L (tile j).toLoadRect

theorem backL_scores (a : Memref sig .tc .vmem S4096x256 .f32) (qm : FVec F S128x256 .bf16) (k : Fin 16 → Vec F S256x128 .bf16)
    (L : List (View.Piece (Elt F) S4096x256 .f32)) (j : Fin 16) : backL a (scoreList qm k ++ L) j = scores qm (k j) :=
  held_scores a a.view.junk qm k L j

/-- The four last blocks, after the loop, complete the output block. -/
theorem shifted_all (G : S4096x128.Idx → Elt F .bf16) (Ok : FVec F S1x256 .f32 → Prop) {𝒱 : Variants} {c : Dev nD} {bd : Option 𝒱.V} {i : grid0.Coords} {arg2 : Memref sig .tc .smem S16x4 .f32} {harg2 : arg2.IsWhole} {arg3 : Memref sig .tc .vmem S1x32x128x128 .bf16} {harg3 : arg3.IsWhole} {arg4 : Memref sig .tc .vmem S4096x128 .bf16} {harg4 : arg4.IsWhole} {arg5 : Memref sig .tc .vmem S1x32x128x128 .bf16} {harg5 : arg5.IsWhole} {arg6 : Memref sig .tc .vmem S4x64 .f32} {harg6 : arg6.IsWhole} {arg7 : Memref sig .tc .vmem S8x128 .f32} {harg7 : arg7.IsWhole} {arg8 : Memref sig .tc .vmem S4096x128 .bf16} {harg8 : arg8.IsWhole} {arg9 : Memref sig .tc .vmem S4096x256 .f32} {harg9 : arg9.IsWhole} {arg10 : Memref sig .tc .vmem S4096x256 .f32} {harg10 : arg10.IsWhole} {arg11 : Memref sig .tc .vmem S4096x256 .f32} {harg11 : arg11.IsWhole} {arg12 : Memref sig .tc .vmem S4096x256 .f32} {harg12 : arg12.IsWhole} {v15 : FVec F S1x1 .f32} {v16 : Vec F S1x128 .f32} {v17 : Vec F S1x128 .f32} {v36 : IVec S128x1 1} {v52 : FVec F S128x256 .bf16} {v171 : FVec F S8x256 .f32} {X_arg3 : BufTy.Contents (Elt F) arg3.view.ty} {X_arg4 : BufTy.Contents (Elt F) arg4.view.ty} {X_arg5 : BufTy.Contents (Elt F) arg5.view.ty} {G_arg8 : BufTy.Contents (Elt F) arg8.view.ty} {P9 : List (View.Piece (Elt F) S4096x256 .f32)} {G_arg10 : BufTy.Contents (Elt F) arg10.view.ty} {G_arg11 : BufTy.Contents (Elt F) arg11.view.ty} {G_arg12 : BufTy.Contents (Elt F) arg12.view.ty} {init : FVec F S1x256 .f32} {lam : FVec F S1x1 .f32} {gain omi : Vec F S1x128 .f32}
    (hm : ∀ b : Fin 32, Ok (colMax (k0_pay3 v36 (vals arg3 X_arg3 b)) (keys arg4 X_arg4)))
    (hs : ∀ b : Fin 32, ∀ m, Ok m → ∀ y, stored lam gain omi (shifted m fun j => scores (k0_pay3 v36 (vals arg3 X_arg3 b)) (keys arg4 X_arg4 j)) (vals arg5 X_arg5) y
      = G ((rows b).emb y))
    {n : ℕ} (hn : n = 7) (hl : n ≤ k0_t2_loop.trips) {i28 i29 i30 i31} {w28 w29 w30 w31 : S128x128.Idx → Elt F .bf16}
    (e15 : v15 = lam) (e16 : v16 = gain) (e17 : v17 = omi) (e0 : init = colMax (k0_pay3 v36 (vals arg3 X_arg3 0)) (keys arg4 X_arg4)) (e9 : P9 = scoreList (k0_pay3 v36 (vals arg3 X_arg3 0)) (keys arg4 X_arg4))
    (e28 : w28 = stored v15 v16 v17 (shifted (st_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 G_arg8 (arg9.view.writes (Elt F) arg9.view.junk P9) G_arg10 G_arg11 G_arg12 init n).1 (backL arg9 ((st_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 G_arg8 (arg9.view.writes (Elt F) arg9.view.junk P9) G_arg10 G_arg11 G_arg12 init n).2.2.1 ++ P9))) (vals arg5 X_arg5))
    (e29 : w29 = stored v15 v16 v17 (shifted (colMax (k0_pay3 v36 (vals arg3 X_arg3 29)) (keys arg4 X_arg4)) (backL arg10 (scoreList (k0_pay3 v36 (vals arg3 X_arg3 29)) (keys arg4 X_arg4) ++ (st_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 G_arg8 (arg9.view.writes (Elt F) arg9.view.junk P9) G_arg10 G_arg11 G_arg12 init n).2.2.2.1))) (vals arg5 X_arg5))
    (e30 : w30 = stored v15 v16 v17 (shifted (colMax (k0_pay3 v36 (vals arg3 X_arg3 30)) (keys arg4 X_arg4)) (backL arg11 (scoreList (k0_pay3 v36 (vals arg3 X_arg3 30)) (keys arg4 X_arg4) ++ (st_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 G_arg8 (arg9.view.writes (Elt F) arg9.view.junk P9) G_arg10 G_arg11 G_arg12 init n).2.2.2.2.1))) (vals arg5 X_arg5))
    (e31 : w31 = stored v15 v16 v17 (shifted (colMax (k0_pay3 v36 (vals arg3 X_arg3 31)) (keys arg4 X_arg4)) (backL arg12 (scoreList (k0_pay3 v36 (vals arg3 X_arg3 31)) (keys arg4 X_arg4) ++ (st_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 G_arg8 (arg9.view.writes (Elt F) arg9.view.junk P9) G_arg10 G_arg11 G_arg12 init n).2.2.2.2.2))) (vals arg5 X_arg5)) :
    Filled G 32 (⟨Rect.unit (s := S4096x128) ![3968, 0] S128x128.size i31, w31⟩ :: ⟨Rect.unit (s := S4096x128) ![3840, 0] S128x128.size i30, w30⟩
      :: ⟨Rect.unit (s := S4096x128) ![3712, 0] S128x128.size i29, w29⟩ :: ⟨Rect.unit (s := S4096x128) ![3584, 0] S128x128.size i28, w28⟩ :: (st_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 G_arg8 (arg9.view.writes (Elt F) arg9.view.junk P9) G_arg10 G_arg11 G_arg12 init n).2.1) := by
  subst e15 e16 e17
  obtain ⟨i1, i2, i3⟩ := shifted_filled G Ok 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 G_arg8 (arg9.view.writes (Elt F) arg9.view.junk P9) G_arg10 G_arg11 G_arg12 init hm hs (e0 ▸ hm 0)
    (fun j => by
      have h := held_scores arg9 arg9.view.junk (k0_pay3 v36 (vals arg3 X_arg3 0)) (keys arg4 X_arg4) [] j
      rw [List.append_nil, ← e9] at h; exact h) n hl
  have i3' := i3 28 (by subst hn; rfl)
  have i1' : Filled G 28 _ := (by rw [hn] : 4 * n = 28) ▸ i1
  refine Filled.cons (n := 31) ?_ _ 31 rfl rfl fun y => ?_
  · refine Filled.cons (n := 30) ?_ _ 30 rfl rfl fun y => ?_
    · refine Filled.cons (n := 29) ?_ _ 29 rfl rfl fun y => ?_
      · refine Filled.cons (n := 28) i1' _ 28 rfl rfl fun y => ?_
        have hb : ∀ j, backL arg9 ((st_k0_t2 (F := F) 𝒱 c bd i arg2 harg2 arg3 harg3 arg4 harg4 arg5 harg5 arg6 harg6 arg7 harg7 arg8 harg8 arg9 harg9 arg10 harg10 arg11 harg11 arg12 harg12 v15 v16 v17 v36 v52 v171 X_arg3 X_arg4 X_arg5 G_arg8 (arg9.view.writes (Elt F) arg9.view.junk P9) G_arg10 G_arg11 G_arg12 init n).2.2.1 ++ P9) j = scores (k0_pay3 v36 (vals arg3 X_arg3 28)) (keys arg4 X_arg4 j) := fun j => by
          rw [← i3' j, ← View.writes_append]
          rfl
        rw [e28, shifted_congr _ hb]
        exact hs _ _ i2 y
      · rw [e29, shifted_congr _ (backL_scores arg10 _ _ _)]
        exact hs _ _ (hm _) y
    · rw [e30, shifted_congr _ (backL_scores arg11 _ _ _)]
      exact hs _ _ (hm _) y
  · rw [e31, shifted_congr _ (backL_scores arg12 _ _ _)]
    exact hs _ _ (hm _) y

end Cert.KernelIdeal.Block

end
-- ==== Proof.AttnPoint.lean ====
module

public import proofs.«01_k».proof.Proof.AttnMath
public import proofs.«01_k».proof.Proof.AttnLoops

@[expose] public section

set_option maxRecDepth 65536
set_option maxHeartbeats 1000000

noncomputable section

/-! The attention's operations read at an index. -/

namespace Cert.KernelIdeal.Point

open Cert.KernelIdeal Cert.KernelIdeal.Gen Cert.KernelIdeal.Block Cert.Attn Idealize.ShloMosaic Idealize.ShloMosaic.TcCoe Idealize.SL.Sem

/-- What is stored for a block at a token and a feature. -/
theorem out_at (lam : FVec Ideal S1x1 .f32) (g o : Vec Ideal S1x128 .f32) (w : FVec Ideal S128x256 .f32) (l : FVec Ideal S1x256 .f32)
    (t e : Fin 128) :
    k0_pay2 (F := Ideal) lam g o w l (ix2 t e)
      = rms (fun e => w (ix2 e ⟨t.val, by omega⟩) * l (ix2 0 ⟨t.val, by omega⟩)
          - lam (ix2 0 0) * (w (ix2 e ⟨128 + t.val, by omega⟩) * l (ix2 0 ⟨128 + t.val, by omega⟩))) (g (ix2 0 e)) (o (ix2 0 e)) e := by
  pointwise [k0_pay2, rms]

theorem tileL_at (l : FVec Ideal S8x256 .f32) (p : FVec Ideal S256x256 .f32) (i : Fin 8) (c : Fin 256) :
    tileL (F := Ideal) l p (ix2 i c) = l (ix2 i c) + ∑ a : Fin 32, p (ix2 ⟨a.val * 8 + i.val, by omega⟩ c) := by
  pointwise [tileL]

theorem total_at (l : FVec Ideal S8x256 .f32) (c : Fin 256) :
    divf (F := Ideal) (broadcast S1x256 (Scalar.ofBits .f32 0x3F800000#32))
      (shapeCast S1x256 (multiReduction .add [0] S256 l 0x00000000#32 reduces_S8x256_S256 (.inl rfl) rfl) shapeCasts_S256_S1x256) (ix2 0 c)
      = Ideal.div (Ideal.ofBits .f32 0x3F800000#32) (∑ i : Fin 8, l (ix2 i c)) := by
  pointwise

theorem tileO_at (o : FVec Ideal S128x256 .f32) (v w : Vec Ideal S1x1x128x128 .bf16) (p : FVec Ideal S256x256 .f32) (e : Fin 128) (c : Fin 256) :
    tileO (F := Ideal) o v w p (ix2 e c) = o (ix2 e c) + ∑ r : Fin 256,
      (if h : r.val < 128 then v (ix4 0 0 e ⟨r.val, h⟩) else w (ix4 0 0 e ⟨r.val - 128, by omega⟩)) * p (ix2 r c) := by
  pointwise [tileO]

theorem scores_at (qm : FVec Ideal S128x256 .bf16) (k : Vec Ideal S256x128 .bf16) (r c : Fin 256) :
    scores (F := Ideal) qm k (ix2 r c) = ∑ d : Fin 128, k (ix2 r d) * qm (ix2 d c) := by
  pointwise [scores]

theorem qm_at (m : IVec S128x1 1) (q : Vec Ideal S1x1x128x128 .bf16) (d : Fin 128) (c : Fin 256) :
    k0_pay3 (F := Ideal) m q (ix2 d c)
      = if h : c.val < 128 then (if m (ix2 d 0) = 1 then q (ix4 0 0 d ⟨c.val, h⟩) else 0)
        else (if m (ix2 d 0) = 1 then 0 else q (ix4 0 0 d ⟨c.val - 128, by omega⟩)) := by
  pointwise [k0_pay3]
  rfl

theorem lam_at (x : Vec Ideal S4x64 .f32) (z : Vec Ideal S1x1 .f32) :
    k0_pay1463 (F := Ideal) x z (ix2 0 0) = Ideal.exp (∑ k : Fin 64, x (ix2 0 k) * x (ix2 1 k))
      - Ideal.exp (∑ k : Fin 64, x (ix2 2 k) * x (ix2 3 k)) + z (ix2 0 0) := by
  pointwise [k0_pay1463]

theorem mask_at : ∀ d : Fin 128, (k0_pay1464 : IVec S128x1 1) (ix2 d 0) = if d.val % 64 < 32 then 1 else 0 := by decide +kernel

theorem sum16 (f : Fin 16 → EReal) :
    0 + f 0 + f 1 + f 2 + f 3 + f 4 + f 5 + f 6 + f 7 + f 8 + f 9 + f 10 + f 11 + f 12 + f 13 + f 14 + f 15 = ∑ j, f j := by
  simp only [Fin.sum_univ_castSucc, Finset.univ_eq_empty, Finset.sum_empty]; rfl

theorem sumL_at (p : Fin 16 → FVec Ideal S256x256 .f32) (i : Fin 8) (c : Fin 256) :
    sumL (F := Ideal) p (ix2 i c) = ∑ j : Fin 16, ∑ a : Fin 32, p j (ix2 ⟨a.val * 8 + i.val, by omega⟩ c) := by
  unfold sumL
  simp only [tileL_at]
  rw [← sum16]
  have h : (broadcast S8x256 (Scalar.ofBits .f32 0x00000000#32) : FVec Ideal S8x256 .f32) (ix2 i c) = 0 := by pointwise
  rw [h]

theorem sumO_at (p : Fin 16 → FVec Ideal S256x256 .f32) (v : Fin 32 → Vec Ideal S1x1x128x128 .bf16) (e : Fin 128) (c : Fin 256) :
    sumO (F := Ideal) p v (ix2 e c) = ∑ j : Fin 16, ∑ r : Fin 256,
      v ⟨(256 * j.val + r.val) / 128, by omega⟩ (ix4 0 0 e ⟨(256 * j.val + r.val) % 128, by omega⟩) * p j (ix2 r c) := by
  have hv : ∀ (j : Fin 16) (r : Fin 256),
      v ⟨(256 * j.val + r.val) / 128, by omega⟩ (ix4 0 0 e ⟨(256 * j.val + r.val) % 128, by omega⟩)
        = if h : r.val < 128 then v ⟨2 * j.val, by omega⟩ (ix4 0 0 e ⟨r.val, h⟩) else v ⟨2 * j.val + 1, by omega⟩ (ix4 0 0 e ⟨r.val - 128, by omega⟩) := by
    intro j r
    by_cases h : r.val < 128
    · have e1 : (⟨(256 * j.val + r.val) / 128, by omega⟩ : Fin 32) = ⟨2 * j.val, by omega⟩ := Fin.ext (by show (256 * j.val + r.val) / 128 = 2 * j.val; omega)
      have e2 : (⟨(256 * j.val + r.val) % 128, by omega⟩ : Fin 128) = ⟨r.val, h⟩ := Fin.ext (by show (256 * j.val + r.val) % 128 = r.val; omega)
      rw [dif_pos h, e1, e2]
    · have e1 : (⟨(256 * j.val + r.val) / 128, by omega⟩ : Fin 32) = ⟨2 * j.val + 1, by omega⟩ := Fin.ext (by show (256 * j.val + r.val) / 128 = 2 * j.val + 1; omega)
      have e2 : (⟨(256 * j.val + r.val) % 128, by omega⟩ : Fin 128) = ⟨r.val - 128, by omega⟩ := Fin.ext (by show (256 * j.val + r.val) % 128 = r.val - 128; omega)
      rw [dif_neg h, e1, e2]
  simp only [hv]
  unfold sumO
  simp only [tileO_at]
  rw [← sum16]
  have h : (broadcast S128x256 (Scalar.ofBits .f32 0x00000000#32) : FVec Ideal S128x256 .f32) (ix2 e c) = 0 := by pointwise
  rw [h]
  rfl

theorem colMax_real (qm : FVec Ideal S128x256 .bf16) (k : Fin 16 → Vec Ideal S256x128 .bf16) (c : Fin 256)
    (h : ∀ j r, IsReal (scores (F := Ideal) qm (k j) (ix2 r c))) : IsReal (colMax (F := Ideal) qm k (ix2 0 c)) := by
  have hf : ∀ (j : Fin 16) (i : Fin 8), IsReal (Finset.univ.fold max ⊥ (fun a : Fin 32 => scores (F := Ideal) qm (k j) (ix2 ⟨a.val * 8 + i.val, by omega⟩ c))) :=
    fun j i => fold_real _ _ (fun a => h j _) ⟨0, Finset.mem_univ _⟩
  pointwise [colMax]
  simp only [negInf]
  refine fold_real _ _ (fun i => ?_) ⟨0, Finset.mem_univ _⟩
  exact isReal_max (isReal_max (isReal_max (isReal_max (isReal_max (isReal_max (isReal_max (isReal_max (isReal_max (isReal_max (isReal_max (isReal_max (isReal_max (isReal_max (isReal_max (hf 0 i) (hf 1 i)) (hf 2 i)) (hf 3 i)) (hf 4 i)) (hf 5 i)) (hf 6 i)) (hf 7 i)) (hf 8 i)) (hf 9 i)) (hf 10 i)) (hf 11 i)) (hf 12 i)) (hf 13 i)) (hf 14 i)) (hf 15 i)

/-- A key of a block, from its tile. -/
def keyOf (k : Fin 16 → Vec Ideal S256x128 .bf16) (κ : Fin 4096) (d : Fin 128) : EReal :=
  k ⟨κ.val / 256, by omega⟩ (ix2 ⟨κ.val % 256, by omega⟩ d)

/-- A value of a block, from its tile. -/
def valOf (v : Fin 32 → Vec Ideal S1x1x128x128 .bf16) (e : Fin 128) (κ : Fin 4096) : EReal :=
  v ⟨κ.val / 128, by omega⟩ (ix4 0 0 e ⟨κ.val % 128, by omega⟩)

/-- A block's query for one of its 128 tokens. -/
def queryOf (q : Vec Ideal S1x1x128x128 .bf16) (t : Fin 128) (d : Fin 128) : EReal := q (ix4 0 0 d t)

theorem score_at (q : Vec Ideal S1x1x128x128 .bf16) (k : Fin 16 → Vec Ideal S256x128 .bf16) (s : Fin 2) (t : Fin 128) (j : Fin 16) (r : Fin 256) :
    scores (F := Ideal) (k0_pay3 (F := Ideal) k0_pay1464 q) (k j) (ix2 r ⟨128 * s.val + t.val, by omega⟩)
      = score (queryOf q t) (keyOf k) s ⟨256 * j.val + r.val, by omega⟩ := by
  rw [scores_at]
  refine Finset.sum_congr rfl fun d _ => ?_
  have e1 : keyOf k ⟨256 * j.val + r.val, by omega⟩ d = k j (ix2 r d) := by
    have a : (⟨(256 * j.val + r.val) / 256, by omega⟩ : Fin 16) = j := Fin.ext (by show (256 * j.val + r.val) / 256 = j.val; omega)
    have b : (⟨(256 * j.val + r.val) % 256, by omega⟩ : Fin 256) = r := Fin.ext (by show (256 * j.val + r.val) % 256 = r.val; omega)
    show k _ (ix2 _ d) = _
    rw [a, b]
  rw [e1, qm_at, mask_at]
  congr 1
  unfold part queryOf
  match s with
  | ⟨0, _⟩ =>
    have h : 128 * 0 + t.val < 128 := by omega
    have b : (⟨128 * 0 + t.val, h⟩ : Fin 128) = t := Fin.ext (by show 128 * 0 + t.val = t.val; omega)
    rw [dif_pos h, b]
    by_cases hd : d.val % 64 < 32
    · rw [if_pos hd, if_pos rfl, if_pos (show d.val % 64 / 32 = 0 by omega)]
    · rw [if_neg hd, if_neg (by decide), if_neg (show ¬ d.val % 64 / 32 = 0 by omega)]
  | ⟨1, _⟩ =>
    have h : ¬ 128 * 1 + t.val < 128 := by omega
    have b : (⟨128 * 1 + t.val - 128, by omega⟩ : Fin 128) = t := Fin.ext (by show 128 * 1 + t.val - 128 = t.val; omega)
    rw [dif_neg h, b]
    by_cases hd : d.val % 64 < 32
    · rw [if_pos hd, if_pos rfl, if_neg (show ¬ d.val % 64 / 32 = 1 by omega)]
    · rw [if_neg hd, if_neg (by decide), if_pos (show d.val % 64 / 32 = 1 by omega)]

/-- A column of the products, divided by its total. -/
theorem column_at (p : Fin 16 → FVec Ideal S256x256 .f32) (v : Fin 32 → Vec Ideal S1x1x128x128 .bf16) (S : Fin 4096 → EReal) (μ : EReal)
    (c : Fin 256) (e : Fin 128) (hp : ∀ j r, p j (ix2 r c) = Ideal.exp2 (S ⟨256 * j.val + r.val, by omega⟩ - μ))
    (hS : ∀ κ, IsReal (S κ)) (hμ : IsReal μ) (hv : ∀ κ, IsReal (valOf v e κ)) :
    sumO (F := Ideal) p v (ix2 e c) * (divf (F := Ideal) (broadcast S1x256 (Scalar.ofBits .f32 0x3F800000#32))
      (shapeCast S1x256 (multiReduction .add [0] S256 (sumL p) 0x00000000#32 reduces_S8x256_S256 (.inl rfl) rfl) shapeCasts_S256_S1x256)) (ix2 0 c)
      = (soft S (valOf v e) : EReal) := by
  rw [total_at, sumO_at, ← mean_eq S (valOf v e) hS hv μ hμ]
  simp only [sumL_at]
  congr 1
  · rw [← sum_tiles]
    refine Finset.sum_congr rfl fun j _ => Finset.sum_congr rfl fun r _ => ?_
    rw [hp]; rfl
  · congr 1
    rw [Finset.sum_comm, ← sum_tiles]
    refine Finset.sum_congr rfl fun j _ => ?_
    rw [sum_rows fun r => p j (ix2 r c)]
    exact Finset.sum_congr rfl fun r _ => hp j r

/-- What is stored for a block, from exponentials of its scores less a real number. -/
theorem stored_at (lam : FVec Ideal S1x1 .f32) (g o : Vec Ideal S1x128 .f32) (p : Fin 16 → FVec Ideal S256x256 .f32)
    (q : Vec Ideal S1x1x128x128 .bf16) (k : Fin 16 → Vec Ideal S256x128 .bf16) (v : Fin 32 → Vec Ideal S1x1x128x128 .bf16) (μ : Fin 256 → EReal)
    (hp : ∀ j r c, p j (ix2 r c) = Ideal.exp2 (scores (F := Ideal) (k0_pay3 (F := Ideal) k0_pay1464 q) (k j) (ix2 r c) - μ c))
    (hμ : ∀ c, IsReal (μ c)) (hq : ∀ t d, IsReal (queryOf q t d)) (hk : ∀ κ d, IsReal (keyOf k κ d)) (hv : ∀ e κ, IsReal (valOf v e κ)) (t e : Fin 128) :
    stored (F := Ideal) lam g o p v (ix2 t e)
      = rms (fun e => (soft (score (queryOf q t) (keyOf k) 0) (valOf v e) : EReal)
          - lam (ix2 0 0) * (soft (score (queryOf q t) (keyOf k) 1) (valOf v e) : EReal)) (g (ix2 0 e)) (o (ix2 0 e)) e := by
  have hc : ∀ (s : Fin 2) (e : Fin 128), sumO (F := Ideal) p v (ix2 e ⟨128 * s.val + t.val, by omega⟩)
      * (divf (F := Ideal) (broadcast S1x256 (Scalar.ofBits .f32 0x3F800000#32))
        (shapeCast S1x256 (multiReduction .add [0] S256 (sumL p) 0x00000000#32 reduces_S8x256_S256 (.inl rfl) rfl) shapeCasts_S256_S1x256))
        (ix2 0 ⟨128 * s.val + t.val, by omega⟩)
      = (soft (score (queryOf q t) (keyOf k) s) (valOf v e) : EReal) := fun s e =>
    column_at p v _ _ _ e (fun j r => by rw [hp, score_at]) (score_real (hq t) hk s) (hμ _) (hv e)
  have e0 : (⟨t.val, by omega⟩ : Fin 256) = ⟨128 * (0 : Fin 2).val + t.val, by omega⟩ := Fin.ext (by show t.val = 128 * 0 + t.val; omega)
  have e1 : (⟨128 + t.val, by omega⟩ : Fin 256) = ⟨128 * (1 : Fin 2).val + t.val, by omega⟩ := Fin.ext (by show 128 + t.val = 128 * 1 + t.val; omega)
  unfold stored
  rw [out_at]
  simp only [e0, e1, hc]

theorem direct_at (qm : FVec Ideal S128x256 .bf16) (k : Fin 16 → Vec Ideal S256x128 .bf16) (j : Fin 16) (r c : Fin 256) :
    direct (F := Ideal) qm k j (ix2 r c) = Ideal.exp2 (scores (F := Ideal) qm (k j) (ix2 r c) - 0) := by
  rw [sub_zero]; rfl

theorem shifted_at (m : FVec Ideal S1x256 .f32) (s : Fin 16 → FVec Ideal S256x256 .f32) (j : Fin 16) (r c : Fin 256) :
    shifted (F := Ideal) m s j (ix2 r c) = Ideal.exp2 (s j (ix2 r c) - m (ix2 0 c)) := by
  pointwise [shifted]
  rfl

theorem scores_real (q : Vec Ideal S1x1x128x128 .bf16) (k : Fin 16 → Vec Ideal S256x128 .bf16)
    (hq : ∀ t d, IsReal (queryOf q t d)) (hk : ∀ κ d, IsReal (keyOf k κ d)) (j : Fin 16) (r c : Fin 256) :
    IsReal (scores (F := Ideal) (k0_pay3 (F := Ideal) k0_pay1464 q) (k j) (ix2 r c)) := by
  have h : c = ⟨128 * (⟨c.val / 128, by omega⟩ : Fin 2).val + (⟨c.val % 128, by omega⟩ : Fin 128).val, by show 128 * (c.val / 128) + c.val % 128 < 256; omega⟩ :=
    Fin.ext (by show c.val = 128 * (c.val / 128) + c.val % 128; omega)
  rw [h, score_at]
  exact score_real (hq _) hk _ _

end Cert.KernelIdeal.Point
-- ==== Proof.AttnRef.lean ====
module

public import Idealize.ShloMosaic.Lib.ValueIdxRank6
public import proofs.«01_k».proof.Proof.AttnMath
public import proofs.«01_k».proof.Proof.Gen.ReferenceIdeal.Read

@[expose] public section

set_option maxRecDepth 16384

noncomputable section

/-! The attention reference read at an index. -/

namespace Cert.ReferenceIdeal.Read

open Cert.ReferenceIdeal Cert.Attn Idealize.ShloMosaic

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

variable (x1 : (⟨S16x32x512x128, .bf16⟩ : BufTy).Contents (Elt Ideal)) (x2 : (⟨S65536x512, .bf16⟩ : BufTy).Contents (Elt Ideal))
  (x3 : (⟨S16x32x512x128, .bf16⟩ : BufTy).Contents (Elt Ideal)) (x4 : (⟨S4x64, .f32⟩ : BufTy).Contents (Elt Ideal))
  (x5 : (⟨S8x128, .f32⟩ : BufTy).Contents (Elt Ideal))

theorem pos_q (b t h s g i : ℕ) : ((b * 32 + t / 128) * 512 + (128 * h + (g * 64 + s * 32 + i))) * 128 + t % 128
    = (((((b * 32 + t / 128) * 4 + h) * 2 + g) * 2 + s) * 32 + i) * 128 + t % 128 := by omega

theorem pos_k (b t h s g i : ℕ) : (4096 * b + t) * 512 + (128 * h + (g * 64 + s * 32 + i))
    = ((((b * 4096 + t) * 4 + h) * 2 + g) * 2 + s) * 32 + i := by omega

theorem pos_q' (b t h s f : ℕ) : (((((b * 32 + t / 128) * 128 + t % 128) * 4 + h) * 2 + s) * 2 + f / 32) * 32 + f % 32
    = (((b * 4096 + t) * 4 + h) * 2 + s) * 64 + f := by omega

theorem pos_k' (b t h s f : ℕ) : ((((b * 4096 + t) * 4 + h) * 2 + s) * 2 + f / 32) * 32 + f % 32
    = (((b * 4096 + t) * 4 + h) * 2 + s) * 64 + f := by omega

/-- A query's index, its features split. -/
def at7 (b : Fin 16) (t : Fin 4096) (h : Fin 4) (s : Fin 2) (f : Fin 64) : S16x32x128x4x2x2x32.Idx := fun a => match a with
  | ⟨0, _⟩ => b
  | ⟨1, _⟩ => ⟨t.val / 128, by show t.val / 128 < 32; omega⟩
  | ⟨2, _⟩ => ⟨t.val % 128, by show t.val % 128 < 128; omega⟩
  | ⟨3, _⟩ => h
  | ⟨4, _⟩ => s
  | ⟨5, _⟩ => ⟨f.val / 32, by show f.val / 32 < 2; omega⟩
  | ⟨6, _⟩ => ⟨f.val % 32, by show f.val % 32 < 32; omega⟩

/-- A key's index, its features split. -/
def at6 (b : Fin 16) (t : Fin 4096) (h : Fin 4) (s : Fin 2) (f : Fin 64) : S16x4096x4x2x2x32.Idx := fun a => match a with
  | ⟨0, _⟩ => b
  | ⟨1, _⟩ => t
  | ⟨2, _⟩ => h
  | ⟨3, _⟩ => s
  | ⟨4, _⟩ => ⟨f.val / 32, by show f.val / 32 < 2; omega⟩
  | ⟨5, _⟩ => ⟨f.val % 32, by show f.val % 32 < 32; omega⟩

/-- A token's query, by head. -/
def query (b : Fin 16) (h : Fin 4) (t : Fin 4096) (d : Fin 128) : EReal :=
  x1 (ix4 b ⟨t.val / 128, by omega⟩ ⟨128 * h.val + d.val, by omega⟩ ⟨t.val % 128, by omega⟩)

/-- A batch's keys, by head. -/
def key (b : Fin 16) (h : Fin 4) (κ : Fin 4096) (d : Fin 128) : EReal :=
  x2 (ix2 ⟨4096 * b.val + κ.val, by omega⟩ ⟨128 * h.val + d.val, by omega⟩)

/-- The weight of the second component. -/
def lam : EReal := Ideal.exp (∑ k : Fin 64, x4 (ix2 0 k) * x4 (ix2 1 k)) - Ideal.exp (∑ k : Fin 64, x4 (ix2 2 k) * x4 (ix2 3 k)) + x5 (ix2 2 0)

theorem q_at (b : Fin 16) (t : Fin 4096) (h : Fin 4) (s : Fin 2) (f : Fin 64) :
    val_main_v3 (F := Ideal) x1 (ix5 b t h s f) = query x1 b h t (feat s f) := by
  unfold val_main_v3
  refine (shapeCast_apply (val_main_v2 (F := Ideal) x1) _ (ix5 b t h s f) (at7 b t h s f) (by
      rewrite [rowMajor_val_seven, Shape.rowMajor_val_five]
      exact pos_q' b.val t.val h.val s.val f.val)).trans ?_
  rw [val_main_v2_apply]
  unfold val_main_v1
  refine (shapeCast_apply _ _ _ (ix4 b ⟨t.val / 128, by omega⟩ ⟨128 * h.val + (f.val / 32 * 64 + s.val * 32 + f.val % 32), by omega⟩ ⟨t.val % 128, by omega⟩) (by
      rewrite [Shape.rowMajor_val_four, rowMajor_val_seven]
      show ((b.val * 32 + t.val / 128) * 512 + (128 * h.val + (f.val / 32 * 64 + s.val * 32 + f.val % 32))) * 128 + t.val % 128
        = (((((b.val * 32 + t.val / 128) * 4 + h.val) * 2 + f.val / 32) * 2 + s.val) * 32 + f.val % 32) * 128 + t.val % 128
      exact pos_q _ _ _ _ _ _)).trans ?_
  rw [val_main_v0_apply]
  rfl

theorem k_at (b : Fin 16) (t : Fin 4096) (h : Fin 4) (s : Fin 2) (f : Fin 64) :
    val_main_v7 (F := Ideal) x2 (ix5 b t h s f) = key x2 b h t (feat s f) := by
  unfold val_main_v7
  refine (shapeCast_apply (val_main_v6 (F := Ideal) x2) _ (ix5 b t h s f) (at6 b t h s f) (by
      rewrite [Shape.rowMajor_val_six, Shape.rowMajor_val_five]
      exact pos_k' b.val t.val h.val s.val f.val)).trans ?_
  rw [val_main_v6_apply]
  unfold val_main_v5
  refine (shapeCast_apply _ _ _ (ix2 ⟨4096 * b.val + t.val, by omega⟩ ⟨128 * h.val + (f.val / 32 * 64 + s.val * 32 + f.val % 32), by omega⟩) (by
      rewrite [Shape.rowMajor_val_two, Shape.rowMajor_val_six]
      show (4096 * b.val + t.val) * 512 + (128 * h.val + (f.val / 32 * 64 + s.val * 32 + f.val % 32))
        = ((((b.val * 4096 + t.val) * 4 + h.val) * 2 + f.val / 32) * 2 + s.val) * 32 + f.val % 32
      exact pos_k _ _ _ _ _ _)).trans ?_
  rw [val_main_v4_apply]
  rfl

theorem v_at (b : Fin 16) (t : Fin 4096) (h : Fin 4) (e : Fin 128) :
    val_main_v10 (F := Ideal) x3 (ix4 b t h e) = query x3 b h t e := by
  rw [val_main_v10_apply, val_main_v9_apply, val_main_v8_apply]
  show x3 _ = x3 _
  congr 1
  funext a
  apply Fin.ext
  match a with
  | ⟨0, _⟩ => show (((b.val * 4096 + t.val) * 4 + h.val) * 128 + e.val) / 2097152 = b.val; omega
  | ⟨1, _⟩ => show (((b.val * 4096 + t.val) * 4 + h.val) * 128 + e.val) / 65536 % 32 = t.val / 128; omega
  | ⟨2, _⟩ => show (((b.val * 4096 + t.val) * 4 + h.val) * 128 + e.val) % 512 = 128 * h.val + e.val; omega
  | ⟨3, _⟩ => show (((b.val * 4096 + t.val) * 4 + h.val) * 128 + e.val) / 512 % 128 = t.val % 128; omega

theorem lam_at (i : S_.Idx) : val_main_v28 (F := Ideal) x4 x5 i = lam x4 x5 := by
  unfold val_main_v28 val_main_v25 val_main_v17 val_main_v24 val_main_v16 val_main_v23
  pointwise [val_main_v27, val_main_v26, val_main_v15, val_main_v14, val_main_v13, val_main_v12, val_main_v11, val_main_cst, val_main_v22,
    val_main_v21, val_main_v20, val_main_v19, val_main_v18, val_main_cst_0, lam]

theorem score_at (b : Fin 16) (h : Fin 4) (s : Fin 2) (t κ : Fin 4096) :
    val_main_v29 (F := Ideal) x1 x2 (ix5 b h s t κ) = score (query x1 b h t) (key x2 b h) s κ := by
  rw [val_main_v29_apply, ← score_eq]
  refine Finset.sum_congr rfl fun f _ => ?_
  have e1 : lidx_main_v29 (ix5 b h s t κ) f = ix5 b t h s f := by
    funext a; match a with | ⟨0, _⟩ => rfl | ⟨1, _⟩ => rfl | ⟨2, _⟩ => rfl | ⟨3, _⟩ => rfl | ⟨4, _⟩ => rfl
  have e2 : ridx_main_v29 (ix5 b h s t κ) f = ix5 b κ h s f := by
    funext a; match a with | ⟨0, _⟩ => rfl | ⟨1, _⟩ => rfl | ⟨2, _⟩ => rfl | ⟨3, _⟩ => rfl | ⟨4, _⟩ => rfl
  rw [e1, e2, q_at, k_at]

variable (h1 : ∀ i, IsReal (x1 i)) (h2 : ∀ i, IsReal (x2 i)) (h3 : ∀ i, IsReal (x3 i)) (h4 : ∀ i, IsReal (x4 i)) (h5 : IsReal (x5 (ix2 2 0)))

include h4 h5 in
theorem lam_real : IsReal (lam x4 x5) :=
  isReal_add (isReal_sub (isReal_exp (isReal_sum _ _ fun k => isReal_mul (h4 _) (h4 _))) (isReal_exp (isReal_sum _ _ fun k => isReal_mul (h4 _) (h4 _))))
    h5

theorem scaled_at (i : S16x4x2x4096x4096.Idx) :
    val_main_v32 (F := Ideal) x1 x2 i = val_main_v29 (F := Ideal) x1 x2 i * Ideal.log (Ideal.ofBits .f32 0x40000000#32) := by
  rw [val_main_v32_apply, val_main_v31_apply, val_main_v30_apply, val_main_cst_1_apply]
  rfl

theorem log_two_real : IsReal (Ideal.log (Ideal.ofBits .f32 0x40000000#32)) :=
  ⟨Real.log 2, by rw [two_eq, Ideal.log_coe, if_neg (by norm_num)]⟩

include h1 h2 in
theorem raw_real (i : S16x4x2x4096x4096.Idx) : IsReal (val_main_v29 (F := Ideal) x1 x2 i) := by
  rw [ValueIdx.eq_ix5 i]
  exact (score_at x1 x2 (i 0) (i 1) (i 2) (i 3) (i 4)) ▸ score_real (fun d => h1 _) (fun κ d => h2 _) _ _

include h1 h2 in
theorem max_real (i : S16x4x2x4096.Idx) : IsReal (val_main_v35 (F := Ideal) x1 x2 i) := by
  rw [val_main_v35_apply, val_main_v34_apply, val_main_cst_3_apply]
  show IsReal (max (Ideal.ofBits .f32 0xFF800000#32) (val_main_v33 (F := Ideal) x1 x2 i))
  rw [negInf, bot_sup_eq]
  unfold val_main_v33
  have hr : ∀ j, IsReal (val_main_v32 (F := Ideal) x1 x2 j) := fun j => by
    rw [scaled_at]; exact isReal_mul (raw_real x1 x2 h1 h2 j) log_two_real
  generalize val_main_v32 (F := Ideal) x1 x2 = y at hr
  rw [Host.reduce_eq_fold]
  show IsReal (Finset.fold max (Ideal.ofBits .f32 0xFF800000#32) y _)
  rw [negInf]
  refine fold_real _ _ hr ⟨ix5 (i 0) (i 1) (i 2) (i 3) (0 : Fin 4096), ?_⟩
  rw [Finset.mem_filter]
  refine ⟨Finset.mem_univ _, ?_⟩
  funext a
  match a with | ⟨0, _⟩ => rfl | ⟨1, _⟩ => rfl | ⟨2, _⟩ => rfl | ⟨3, _⟩ => rfl

include h1 h2 in
theorem weight_at (b : Fin 16) (h : Fin 4) (s : Fin 2) (t κ : Fin 4096) :
    val_main_v43 (F := Ideal) x1 x2 (ix5 b h s t κ)
      = (((2 : ℝ) ^ (score (query x1 b h t) (key x2 b h) s κ).toReal / ∑ κ, (2 : ℝ) ^ (score (query x1 b h t) (key x2 b h) s κ).toReal : ℝ) : EReal) := by
  have hM := max_real x1 x2 h1 h2 (ix4 b h s t)
  have he : ∀ κ : Fin 4096, val_main_v39 (F := Ideal) x1 x2 (ix5 b h s t κ)
      = Ideal.exp (score (query x1 b h t) (key x2 b h) s κ * Ideal.log (Ideal.ofBits .f32 0x40000000#32) - val_main_v35 (F := Ideal) x1 x2 (ix4 b h s t)) := fun κ => by
    rw [val_main_v39_apply, val_main_v38_apply, scaled_at, score_at, val_main_v37_apply, val_main_v36_apply]
    have e : idx_main_v36 (idx_main_v37 (ix5 b h s t κ)) = ix4 b h s t := by
      funext a; match a with | ⟨0, _⟩ => rfl | ⟨1, _⟩ => rfl | ⟨2, _⟩ => rfl | ⟨3, _⟩ => rfl
    rw [e]
    rfl
  rw [← exp_eq (score (query x1 b h t) (key x2 b h) s) (fun κ => score_real (fun d => h1 _) (fun κ d => h2 _) s κ) _ hM κ, val_main_v43_apply, val_main_v42_apply, val_main_v41_apply,
    val_main_v40_apply, he]
  have e : ∀ k : Fin 4096, idx_main_v40 (idx_main_v41 (idx_main_v42 (ix5 b h s t κ))) k = ix5 b h s t k := fun k => by
    funext a; match a with | ⟨0, _⟩ => rfl | ⟨1, _⟩ => rfl | ⟨2, _⟩ => rfl | ⟨3, _⟩ => rfl | ⟨4, _⟩ => rfl
  simp only [e, he]
  rw [val_main_cst_4_apply]
  show Ideal.div _ (Ideal.ofBits .f32 0x00000000#32 + _) = Ideal.div _ _
  rw [Ideal.ofBits_zero_f32, zero_add]

/-- A token's attention at a feature of a head, before its norm. -/
def attended (b : Fin 16) (h : Fin 4) (t : Fin 4096) (e : Fin 128) : EReal :=
  (soft (score (query x1 b h t) (key x2 b h) 0) (fun κ => query x3 b h κ e) : EReal)
    - lam x4 x5 * (soft (score (query x1 b h t) (key x2 b h) 1) (fun κ => query x3 b h κ e) : EReal)

include h1 h2 h3 h4 h5 in
theorem attended_at (b : Fin 16) (h : Fin 4) (t : Fin 4096) (e : Fin 128) :
    val_main_v52 (F := Ideal) x1 x2 x3 x4 x5 (ix4 b t h e) = attended x1 x2 x3 x4 x5 b h t e := by
  have e0 : idx_main_v52 (ix4 b t h e) = ix4 b h e t := by
    funext a; match a with | ⟨0, _⟩ => rfl | ⟨1, _⟩ => rfl | ⟨2, _⟩ => rfl | ⟨3, _⟩ => rfl
  rw [val_main_v52_apply, e0, val_main_v51_apply, attended, ← diff_eq (score (query x1 b h t) (key x2 b h) 0) (score (query x1 b h t) (key x2 b h) 1) (fun κ => query x3 b h κ e) (fun κ => h3 _) _ (lam_real x4 x5 h4 h5)]
  refine Finset.sum_congr rfl fun κ _ => ?_
  have e1 : lidx_main_v51 (ix4 b h e t) κ = ix4 b κ h e := by
    funext a; match a with | ⟨0, _⟩ => rfl | ⟨1, _⟩ => rfl | ⟨2, _⟩ => rfl | ⟨3, _⟩ => rfl
  have e2 : ridx_main_v51 (ix4 b h e t) κ = ix4 b h t κ := by
    funext a; match a with | ⟨0, _⟩ => rfl | ⟨1, _⟩ => rfl | ⟨2, _⟩ => rfl | ⟨3, _⟩ => rfl
  rw [e1, e2, v_at, val_main_v50_apply, val_main_v49_apply, val_main_v48_apply, lam_at, val_main_v47_apply, val_main_v46_apply, val_main_v45_apply,
    val_main_v44_apply]
  have e3 : idx_main_v44 (idx_main_v45 (ix4 b h t κ)) = ix5 b h 0 t κ := by
    funext a; apply Fin.ext
    match a with
    | ⟨0, _⟩ => show ((((b.val * 4 + h.val) * 4096 + t.val) * 4096 + κ.val) / 67108864) = b.val; omega
    | ⟨1, _⟩ => show ((((b.val * 4 + h.val) * 4096 + t.val) * 4096 + κ.val) / 16777216 % 4) = h.val; omega
    | ⟨2, _⟩ => rfl
    | ⟨3, _⟩ => show ((((b.val * 4 + h.val) * 4096 + t.val) * 4096 + κ.val) / 4096 % 4096) = t.val; omega
    | ⟨4, _⟩ => show ((((b.val * 4 + h.val) * 4096 + t.val) * 4096 + κ.val) % 4096) = κ.val; omega
  have e4 : idx_main_v46 (idx_main_v47 (ix4 b h t κ)) = ix5 b h 1 t κ := by
    funext a; apply Fin.ext
    match a with
    | ⟨0, _⟩ => show ((((b.val * 4 + h.val) * 4096 + t.val) * 4096 + κ.val) / 67108864) = b.val; omega
    | ⟨1, _⟩ => show ((((b.val * 4 + h.val) * 4096 + t.val) * 4096 + κ.val) / 16777216 % 4) = h.val; omega
    | ⟨2, _⟩ => rfl
    | ⟨3, _⟩ => show ((((b.val * 4 + h.val) * 4096 + t.val) * 4096 + κ.val) / 4096 % 4096) = t.val; omega
    | ⟨4, _⟩ => show ((((b.val * 4 + h.val) * 4096 + t.val) * 4096 + κ.val) % 4096) = κ.val; omega
  rw [e3, e4, weight_at x1 x2 h1 h2, weight_at x1 x2 h1 h2]
  rfl

include h1 h2 h3 h4 h5 in
/-- The reference's result at a token and a feature of a head. -/
theorem out_at (b : Fin 16) (h : Fin 4) (t : Fin 4096) (e : Fin 128) :
    val_main_v74 (F := Ideal) x1 x2 x3 x4 x5 (ix2 ⟨4096 * b.val + t.val, by omega⟩ ⟨128 * h.val + e.val, by omega⟩)
      = rms (attended x1 x2 x3 x4 x5 b h t) (x5 (ix2 0 e)) (x5 (ix2 1 e)) e := by
  have e0 : idx_main_v73 (ix2 ⟨4096 * b.val + t.val, by omega⟩ ⟨128 * h.val + e.val, by omega⟩) = ix4 b t h e := by
    funext a; apply Fin.ext
    match a with
    | ⟨0, _⟩ => show ((4096 * b.val + t.val) * 512 + (128 * h.val + e.val)) / 2097152 = b.val; omega
    | ⟨1, _⟩ => show ((4096 * b.val + t.val) * 512 + (128 * h.val + e.val)) / 512 % 4096 = t.val; omega
    | ⟨2, _⟩ => show ((4096 * b.val + t.val) * 512 + (128 * h.val + e.val)) / 128 % 4 = h.val; omega
    | ⟨3, _⟩ => show ((4096 * b.val + t.val) * 512 + (128 * h.val + e.val)) % 128 = e.val; omega
  have hd : ∀ k : Fin 128, idx_main_v54 (idx_main_v55 (idx_main_v61 (ix4 b t h e))) k = ix4 b t h k := fun k => by
    funext a; match a with | ⟨0, _⟩ => rfl | ⟨1, _⟩ => rfl | ⟨2, _⟩ => rfl | ⟨3, _⟩ => rfl
  have hg : val_main_v66 (F := Ideal) x5 (ix4 b t h e) = x5 (ix2 0 e) := by
    rw [val_main_v66_apply, val_main_v65_apply, val_main_v64_apply, val_main_v63_apply]
    congr 1; funext a; apply Fin.ext
    match a with | ⟨0, _⟩ => rfl | ⟨1, _⟩ => show e.val % 128 = e.val; omega
  have ho : val_main_v71 (F := Ideal) x5 (ix4 b t h e) = x5 (ix2 1 e) := by
    rw [val_main_v71_apply, val_main_v70_apply, val_main_v69_apply, val_main_v68_apply]
    congr 1; funext a; apply Fin.ext
    match a with | ⟨0, _⟩ => rfl | ⟨1, _⟩ => show e.val % 128 = e.val; omega
  rw [val_main_v74_apply, val_main_v73_apply, e0, val_main_v72_apply, ho, val_main_v67_apply, hg, val_main_v62_apply, val_main_v61_apply,
    val_main_v60_apply, val_main_v59_apply, val_main_v58_apply, val_main_v57_apply, val_main_v56_apply, val_main_v55_apply, val_main_v54_apply]
  simp only [hd, val_main_v53_apply, attended_at x1 x2 x3 x4 x5 h1 h2 h3 h4 h5]
  rw [val_main_cst_5_apply, val_main_cst_6_apply, val_main_cst_7_apply]
  show _ * Ideal.rsqrt (Ideal.div (Ideal.ofBits .f32 0x00000000#32 + _) _ + _) * _ * _ = _
  rw [Ideal.ofBits_zero_f32, zero_add]
  rfl

end Cert.ReferenceIdeal.Read

end
-- ==== Proof.AttnBody.lean ====
module

public import proofs.«01_k».proof.Proof.AttnLoops
public import proofs.«01_k».proof.Proof.Gen.KernelIdeal.Loops
public import proofs.«01_k».proof.Proof.Gen.KernelIdeal.Frame
public import Idealize.ShloMosaic.Lib.Exec
public import Idealize.ShloMosaic.Lib.Tactic
public import Idealize.ShloMosaic.Lib.Pipeline.Kit

/-! The attention's body, run once with the output block named: it ends with the block `G`, if every block of queries' rows of `G` are what
either branch stores for them. -/

@[expose] public section

set_option maxRecDepth 65536
set_option maxHeartbeats 2000000

noncomputable section

namespace Cert.KernelIdeal.Run

open Cert.KernelIdeal Cert.KernelIdeal.Gen Cert.KernelIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The factor on the second component's weights. -/
abbrev lamOf (a6 : Memref sig .tc .vmem S4x64 .f32) (a7 : Memref sig .tc .vmem S8x128 .f32) (X6 : BufTy.Contents (Elt F) a6.view.ty)
    (X7 : BufTy.Contents (Elt F) a7.view.ty) : FVec F S1x1 .f32 :=
  k0_pay1463 (View.readAt (Elt F) a6.view (Rect.unit (s := S4x64) ![0, 0] S4x64.size (by decide)).toLoadRect X6)
    (View.readAt (Elt F) a7.view (Rect.unit (s := S8x128) ![2, 0] S1x1.size (by decide)).toLoadRect X7)

/-- The two rows of scales. -/
abbrev gainOf (a7 : Memref sig .tc .vmem S8x128 .f32) (X7 : BufTy.Contents (Elt F) a7.view.ty) : Vec F S1x128 .f32 :=
  View.readAt (Elt F) a7.view (Rect.unit (s := S8x128) ![0, 0] S1x128.size (by decide)).toLoadRect X7
abbrev omiOf (a7 : Memref sig .tc .vmem S8x128 .f32) (X7 : BufTy.Contents (Elt F) a7.view.ty) : Vec F S1x128 .f32 :=
  View.readAt (Elt F) a7.view (Rect.unit (s := S8x128) ![1, 0] S1x128.size (by decide)).toLoadRect X7

/-- The body ends with its input blocks as they were and `G` in the output block. -/
theorem body_value (c : Dev nD) (i : grid0.Coords) (arg2 : Memref sig .tc .smem S16x4 .f32) (harg2 : arg2.IsWhole) (arg3 : Memref sig .tc .vmem S1x32x128x128 .bf16) (harg3 : arg3.IsWhole) (arg4 : Memref sig .tc .vmem S4096x128 .bf16) (harg4 : arg4.IsWhole) (arg5 : Memref sig .tc .vmem S1x32x128x128 .bf16) (harg5 : arg5.IsWhole) (arg6 : Memref sig .tc .vmem S4x64 .f32) (harg6 : arg6.IsWhole) (arg7 : Memref sig .tc .vmem S8x128 .f32) (harg7 : arg7.IsWhole) (arg8 : Memref sig .tc .vmem S4096x128 .bf16) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4096x256 .f32) (harg12 : arg12.IsWhole)
    (x0 : Vec F S16x4 .f32) (x1 : Vec F S1x32x128x128 .bf16) (x2 : Vec F S4096x128 .bf16) (x3 : Vec F S1x32x128x128 .bf16) (x4 : Vec F S4x64 .f32) (x5 : Vec F S8x128 .f32)
    (G : S4096x128.Idx → Elt F .bf16) (Ok : FVec F S1x256 .f32 → Prop)
    (hd : ∀ b : Fin 32, ∀ y, stored (lamOf arg6 arg7 (harg6.unread x4) (harg7.unread x5)) (gainOf arg7 (harg7.unread x5)) (omiOf arg7 (harg7.unread x5)) (direct (k0_pay3 k0_pay1464 (vals arg3 (harg3.unread x1) b)) (keys arg4 (harg4.unread x2))) (vals arg5 (harg5.unread x3)) y = G ((rows b).emb y))
    (hm : ∀ b : Fin 32, Ok (colMax (k0_pay3 k0_pay1464 (vals arg3 (harg3.unread x1) b)) (keys arg4 (harg4.unread x2))))
    (hs : ∀ b : Fin 32, ∀ m, Ok m → ∀ y, stored (lamOf arg6 arg7 (harg6.unread x4) (harg7.unread x5)) (gainOf arg7 (harg7.unread x5)) (omiOf arg7 (harg7.unread x5)) (shifted m fun j => scores (k0_pay3 k0_pay1464 (vals arg3 (harg3.unread x1) b)) ((keys arg4 (harg4.unread x2)) j)) (vals arg5 (harg5.unread x3)) y = G ((rows b).emb y))
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare G ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12) K := by
  simp only [cc0_diff_attn_eq_skeleton]; unfold cc0_diff_attn_skel
  simp only [k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  split
  · sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; swap; · iexact H8
      ipureintro
      rw [show Scf.trips k0_t1_loop.lb k0_t1_loop.ub k0_t1_loop.st = 2 by decide +kernel]
      exact Filled.read (direct_filled G _ _ _ _ _ _ _ _ _ _ _ _ _ _ _ _ _ _ _ _ _ _ _ _ _ _ _ _ _ _ _ _ _ hd 2 (by decide +kernel)) _ _
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    iexists _; iexists _; isplitr; swap; · iexact H12
    ipureintro; rfl
  · sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; swap; · iexact H8
      ipureintro
      refine Filled.read (shifted_all G Ok hm hs (by decide +kernel) le_rfl ?_ ?_ ?_ ?_ ?_ ?_ ?_ ?_ ?_) _ _
      · rfl
      · rfl
      · rfl
      · rfl
      · rfl
      · rfl
      · rfl
      · rfl
      · rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    iexists _; iexists _; isplitr; swap; · iexact H12
    ipureintro; rfl

end Cert.KernelIdeal.Run

end
-- ==== Proof.AttnBlock.lean ====
module

public import proofs.«01_k».proof.Proof.AttnPoint
public import proofs.«01_k».proof.Proof.AttnRef
public import proofs.«01_k».proof.Proof.AttnBody

@[expose] public section

set_option maxRecDepth 16384

noncomputable section

/-! A block of the attention: what the body stores is the reference's result at the block's tokens and head. -/

namespace Cert.KernelIdeal.Run

open Cert.KernelIdeal Cert.KernelIdeal.Gen Cert.KernelIdeal.Block Cert.KernelIdeal.Point Cert.Attn Idealize.ShloMosaic Idealize.ShloMosaic.TcCoe Idealize.SL.Sem

theorem vals_at (a : Memref sig .tc .vmem S1x32x128x128 .bf16) (h : a.IsWhole) (x : Vec Ideal S1x32x128x128 .bf16) (j : Fin 32) (d t : Fin 128) :
    vals (F := Ideal) a (h.unread x) j (ix4 0 0 d t) = x (ix4 0 j d t) := by
  unfold vals
  rw [View.readAt_apply, h.read_unread]
  congr 1; funext a; apply Fin.ext
  match a with
  | ⟨0, _⟩ => rfl
  | ⟨1, _⟩ => show j.val + 1 * 0 = j.val; omega
  | ⟨2, _⟩ => show 0 + 1 * d.val = d.val; omega
  | ⟨3, _⟩ => show 0 + 1 * t.val = t.val; omega

theorem keys_at (a : Memref sig .tc .vmem S4096x128 .bf16) (h : a.IsWhole) (x : Vec Ideal S4096x128 .bf16) (j : Fin 16) (r : Fin 256) (d : Fin 128) :
    keys (F := Ideal) a (h.unread x) j (ix2 r d) = x (ix2 ⟨256 * j.val + r.val, by omega⟩ d) := by
  unfold keys
  rw [View.readAt_apply, h.read_unread]
  congr 1; funext a; apply Fin.ext
  match a with
  | ⟨0, _⟩ => show 256 * j.val + 1 * r.val = 256 * j.val + r.val; omega
  | ⟨1, _⟩ => show 0 + 1 * d.val = d.val; omega

theorem gain_at (a : Memref sig .tc .vmem S8x128 .f32) (h : a.IsWhole) (x : Vec Ideal S8x128 .f32) (e : Fin 128) :
    gainOf (F := Ideal) a (h.unread x) (ix2 0 e) = x (ix2 0 e) := by
  unfold gainOf
  rw [View.readAt_apply, h.read_unread]
  congr 1; funext a; apply Fin.ext
  match a with
  | ⟨0, _⟩ => rfl
  | ⟨1, _⟩ => show 0 + 1 * e.val = e.val; omega

theorem omi_at (a : Memref sig .tc .vmem S8x128 .f32) (h : a.IsWhole) (x : Vec Ideal S8x128 .f32) (e : Fin 128) :
    omiOf (F := Ideal) a (h.unread x) (ix2 0 e) = x (ix2 1 e) := by
  unfold omiOf
  rw [View.readAt_apply, h.read_unread]
  congr 1; funext a; apply Fin.ext
  match a with
  | ⟨0, _⟩ => rfl
  | ⟨1, _⟩ => show 0 + 1 * e.val = e.val; omega

theorem lamOf_at (a6 : Memref sig .tc .vmem S4x64 .f32) (h6 : a6.IsWhole) (a7 : Memref sig .tc .vmem S8x128 .f32) (h7 : a7.IsWhole)
    (x4 : Vec Ideal S4x64 .f32) (x5 : Vec Ideal S8x128 .f32) :
    lamOf (F := Ideal) a6 a7 (h6.unread x4) (h7.unread x5) (ix2 0 0) = ReferenceIdeal.Read.lam x4 x5 := by
  have e4 : ∀ (r : Fin 4) (k : Fin 64), View.readAt (Elt Ideal) a6.view (Rect.unit (s := S4x64) ![0, 0] S4x64.size (by decide)).toLoadRect (h6.unread x4) (ix2 r k)
      = x4 (ix2 r k) := fun r k => by
    rw [View.readAt_apply, h6.read_unread]
    congr 1; funext a; apply Fin.ext
    match a with
    | ⟨0, _⟩ => show 0 + 1 * r.val = r.val; omega
    | ⟨1, _⟩ => show 0 + 1 * k.val = k.val; omega
  have e5 : View.readAt (Elt Ideal) a7.view (Rect.unit (s := S8x128) ![2, 0] S1x1.size (by decide)).toLoadRect (h7.unread x5) (ix2 0 0) = x5 (ix2 2 0) := by
    rw [View.readAt_apply, h7.read_unread]
    congr 1; funext a; apply Fin.ext
    match a with
    | ⟨0, _⟩ => rfl
    | ⟨1, _⟩ => rfl
  unfold lamOf
  rw [lam_at]
  unfold ReferenceIdeal.Read.lam
  simp only [e4, e5]

/-- The array's column of a head's lane, and its row of a batch's token. -/
abbrev colAt (H : Fin 4) (d : Fin 128) : Fin 512 := ⟨128 * H.val + d.val, by omega⟩
abbrev rowAt (B : Fin 16) (r : Fin 4096) : Fin 65536 := ⟨4096 * B.val + r.val, by omega⟩

variable (X1 : Vec Ideal S16x32x512x128 .bf16) (X2 : Vec Ideal S65536x512 .bf16) (X3 : Vec Ideal S16x32x512x128 .bf16)
  (x4 : Vec Ideal S4x64 .f32) (x5 : Vec Ideal S8x128 .f32)

/-- The reference's result for a batch and a head. -/
def headOf (B : Fin 16) (H : Fin 4) : Vec Ideal S4096x128 .bf16 := fun j =>
  ReferenceIdeal.Read.val_main_v74 (F := Ideal) X1 X2 X3 x4 x5
    (ix2 ⟨4096 * B.val + (j 0).val, by have : (j 0).val < 4096 := (j 0).isLt; omega⟩ ⟨128 * H.val + (j 1).val, by have : (j 1).val < 128 := (j 1).isLt; omega⟩)

variable (h1 : ∀ i, IsReal (X1 i)) (h2 : ∀ i, IsReal (X2 i)) (h3 : ∀ i, IsReal (X3 i)) (h4 : ∀ i, IsReal (x4 i)) (h5 : IsReal (x5 (ix2 2 0)))
variable (a3 : Memref sig .tc .vmem S1x32x128x128 .bf16) (ha3 : a3.IsWhole) (a4 : Memref sig .tc .vmem S4096x128 .bf16) (ha4 : a4.IsWhole)
  (a5 : Memref sig .tc .vmem S1x32x128x128 .bf16) (ha5 : a5.IsWhole) (a6 : Memref sig .tc .vmem S4x64 .f32) (ha6 : a6.IsWhole)
  (a7 : Memref sig .tc .vmem S8x128 .f32) (ha7 : a7.IsWhole)
  (x1 : Vec Ideal S1x32x128x128 .bf16) (x2 : Vec Ideal S4096x128 .bf16) (x3 : Vec Ideal S1x32x128x128 .bf16) (B : Fin 16) (H : Fin 4)
  (e1 : ∀ (j : Fin 32) (d t : Fin 128), x1 (ix4 0 j d t) = X1 (ix4 B j (colAt H d) t))
  (e2 : ∀ (r : Fin 4096) (d : Fin 128), x2 (ix2 r d) = X2 (ix2 (rowAt B r) (colAt H d)))
  (e3 : ∀ (j : Fin 32) (d t : Fin 128), x3 (ix4 0 j d t) = X3 (ix4 B j (colAt H d) t))

include e1 in
theorem query_eq (b : Fin 32) (t d : Fin 128) :
    queryOf (vals (F := Ideal) a3 (ha3.unread x1) b) t d = ReferenceIdeal.Read.query X1 B H ⟨128 * b.val + t.val, by omega⟩ d := by
  unfold queryOf ReferenceIdeal.Read.query
  rw [vals_at, e1]
  congr 1; funext a; apply Fin.ext
  match a with
  | ⟨0, _⟩ => rfl
  | ⟨1, _⟩ => show b.val = (128 * b.val + t.val) / 128; omega
  | ⟨2, _⟩ => rfl
  | ⟨3, _⟩ => show t.val = (128 * b.val + t.val) % 128; omega

include e2 in
theorem key_eq (κ : Fin 4096) (d : Fin 128) : keyOf (keys (F := Ideal) a4 (ha4.unread x2)) κ d = ReferenceIdeal.Read.key X2 B H κ d := by
  unfold keyOf ReferenceIdeal.Read.key
  rw [keys_at, e2]
  congr 1; funext a; apply Fin.ext
  match a with
  | ⟨0, _⟩ => show 4096 * B.val + (256 * (κ.val / 256) + κ.val % 256) = 4096 * B.val + κ.val; omega
  | ⟨1, _⟩ => rfl

include e3 in
theorem val_eq (e : Fin 128) (κ : Fin 4096) : valOf (vals (F := Ideal) a5 (ha5.unread x3)) e κ = ReferenceIdeal.Read.query X3 B H κ e := by
  unfold valOf ReferenceIdeal.Read.query
  rw [vals_at, e3]

include h1 h2 h3 h4 h5 e1 e2 e3 in
theorem block_eq (b : Fin 32) (p : Fin 16 → FVec Ideal S256x256 .f32) (μ : Fin 256 → EReal)
    (hp : ∀ j r c, p j (ix2 r c) = Ideal.exp2 (scores (F := Ideal) (k0_pay3 (F := Ideal) k0_pay1464 (vals a3 (ha3.unread x1) b))
      (keys a4 (ha4.unread x2) j) (ix2 r c) - μ c)) (hμ : ∀ c, IsReal (μ c)) (y : S128x128.Idx) :
    stored (F := Ideal) (lamOf a6 a7 (ha6.unread x4) (ha7.unread x5)) (gainOf a7 (ha7.unread x5)) (omiOf a7 (ha7.unread x5)) p
      (vals a5 (ha5.unread x3)) y = headOf X1 X2 X3 x4 x5 B H ((rows b).emb y) := by
  have hq := query_eq X1 a3 ha3 x1 B H e1 b
  have hk := key_eq X2 a4 ha4 x2 B H e2
  have hv := val_eq X3 a5 ha5 x3 B H e3
  have hqr : ∀ t d, IsReal (queryOf (vals (F := Ideal) a3 (ha3.unread x1) b) t d) := fun t d => by rw [hq]; exact h1 _
  have hkr : ∀ κ d, IsReal (keyOf (keys (F := Ideal) a4 (ha4.unread x2)) κ d) := fun κ d => by rw [hk]; exact h2 _
  have hvr : ∀ e κ, IsReal (valOf (vals (F := Ideal) a5 (ha5.unread x3)) e κ) := fun e κ => by rw [hv]; exact h3 _
  obtain ⟨t, e, rfl⟩ : ∃ (t e : Fin 128), y = ix2 t e := ⟨y 0, y 1, by funext a; match a with | ⟨0, _⟩ => rfl | ⟨1, _⟩ => rfl⟩
  rw [stored_at _ _ _ p _ _ _ μ hp hμ hqr hkr hvr t e, lamOf_at, gain_at, omi_at]
  have hy : headOf X1 X2 X3 x4 x5 B H ((rows b).emb (ix2 t e))
      = ReferenceIdeal.Read.val_main_v74 (F := Ideal) X1 X2 X3 x4 x5
        (ix2 ⟨4096 * B.val + (⟨128 * b.val + t.val, by omega⟩ : Fin 4096).val, by show 4096 * B.val + (128 * b.val + t.val) < 65536; omega⟩ ⟨128 * H.val + e.val, by omega⟩) := by
    unfold headOf
    congr 1; funext a; apply Fin.ext
    match a with
    | ⟨0, _⟩ => show 4096 * B.val + (128 * b.val + 1 * t.val) = 4096 * B.val + (128 * b.val + t.val); omega
    | ⟨1, _⟩ => show 128 * H.val + (0 + 1 * e.val) = 128 * H.val + e.val; omega
  rw [hy, ReferenceIdeal.Read.out_at X1 X2 X3 x4 x5 h1 h2 h3 h4 h5]
  congr 1
  funext e
  unfold ReferenceIdeal.Read.attended
  rw [show queryOf (vals (F := Ideal) a3 (ha3.unread x1) b) t = ReferenceIdeal.Read.query X1 B H ⟨128 * b.val + t.val, by omega⟩ from funext (hq t),
    show keyOf (keys (F := Ideal) a4 (ha4.unread x2)) = ReferenceIdeal.Read.key X2 B H from funext fun κ => funext (hk κ),
    show valOf (vals (F := Ideal) a5 (ha5.unread x3)) e = fun κ => ReferenceIdeal.Read.query X3 B H κ e from funext (hv e)]

/-- What is asked of a shift: it is real in every column. -/
def Ok (m : FVec Ideal S1x256 .f32) : Prop := ∀ c : Fin 256, IsReal (m (ix2 0 c))

include h1 h2 h3 h4 h5 e1 e2 e3 in
theorem block_direct (b : Fin 32) (y : S128x128.Idx) :
    stored (F := Ideal) (lamOf a6 a7 (ha6.unread x4) (ha7.unread x5)) (gainOf a7 (ha7.unread x5)) (omiOf a7 (ha7.unread x5))
      (direct (k0_pay3 k0_pay1464 (vals a3 (ha3.unread x1) b)) (keys a4 (ha4.unread x2))) (vals a5 (ha5.unread x3)) y
      = headOf X1 X2 X3 x4 x5 B H ((rows b).emb y) :=
  block_eq X1 X2 X3 x4 x5 h1 h2 h3 h4 h5 a3 ha3 a4 ha4 a5 ha5 a6 ha6 a7 ha7 x1 x2 x3 B H e1 e2 e3 b _ (fun _ => 0)
    (fun j r c => direct_at _ _ j r c) (fun _ => ⟨0, rfl⟩) y

include h1 h2 h3 h4 h5 e1 e2 e3 in
theorem block_shifted (b : Fin 32) (m : FVec Ideal S1x256 .f32) (hm : Ok m) (y : S128x128.Idx) :
    stored (F := Ideal) (lamOf a6 a7 (ha6.unread x4) (ha7.unread x5)) (gainOf a7 (ha7.unread x5)) (omiOf a7 (ha7.unread x5))
      (shifted m fun j => scores (k0_pay3 k0_pay1464 (vals a3 (ha3.unread x1) b)) ((keys a4 (ha4.unread x2)) j)) (vals a5 (ha5.unread x3)) y
      = headOf X1 X2 X3 x4 x5 B H ((rows b).emb y) :=
  block_eq X1 X2 X3 x4 x5 h1 h2 h3 h4 h5 a3 ha3 a4 ha4 a5 ha5 a6 ha6 a7 ha7 x1 x2 x3 B H e1 e2 e3 b _ (fun c => m (ix2 0 c))
    (fun j r c => shifted_at m _ j r c) hm y

include h1 h2 e1 e2 in
theorem block_max (b : Fin 32) : Ok (colMax (F := Ideal) (k0_pay3 k0_pay1464 (vals a3 (ha3.unread x1) b)) (keys a4 (ha4.unread x2))) := fun c =>
  colMax_real _ _ c fun j r => scores_real _ _ (fun t d => by rw [query_eq X1 a3 ha3 x1 B H e1 b]; exact h1 _)
    (fun κ d => by rw [key_eq X2 a4 ha4 x2 B H e2]; exact h2 _) j r c

end Cert.KernelIdeal.Run

end
-- ==== Proof.AttnValue.lean ====
module

public import proofs.«01_k».proof.Proof.KernelIdealBody
public import proofs.«01_k».proof.Proof.AttnBlock
public import Idealize.ShloMosaic.Lib.Pipeline.Value

@[expose] public section

set_option maxRecDepth 16384
set_option maxHeartbeats 1000000

noncomputable section

/-! The attention: the array after the run is the reference's function of the arguments, when they are real. -/

namespace Cert.KernelIdeal.Whole

open Cert.KernelIdeal Cert.KernelIdeal.Gen Cert.KernelIdeal.Run Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KernelIdealBody (inv_eq row ms0 ms1 ms2 ms3 ms4 ms5 ms6)

local notation "𝕄" => MT nD τ sig Unit (Elt Ideal) ℕ (UR sig nD τ) ℕ

variable (m : (ℓ : Loc nD τ sig) → Buf (Elt Ideal) ℓ) (ρ : Dev nD → PrngReg)

/-- The reference's result as a function of the kernel's arguments. -/
def result (c : Dev nD) : Vec Ideal S65536x512 .bf16 :=
  ReferenceIdeal.Read.val_main_v74 (F := Ideal) (m ((c : Thread nD τ).loc main_arg1)) (m ((c : Thread nD τ).loc main_arg2))
    (m ((c : Thread nD τ).loc main_arg3)) (m ((c : Thread nD τ).loc main_arg4)) (m ((c : Thread nD τ).loc main_arg5))

theorem lt_N (t : Fin cfg0.N) : t.val < 64 := t.isLt.trans_eq N_0

/-- A grid point's batch and head. -/
def batch (t : Fin cfg0.N) : Fin 16 := ⟨t.val / 4, by have := lt_N t; omega⟩
def head (t : Fin cfg0.N) : Fin 4 := ⟨t.val % 4, by omega⟩

/-- The block of the result that a grid point writes. -/
def block (c : Dev nD) (t : Fin cfg0.N) : Vec Ideal S4096x128 .bf16 :=
  headOf (m ((c : Thread nD τ).loc main_arg1)) (m ((c : Thread nD τ).loc main_arg2)) (m ((c : Thread nD τ).loc main_arg3))
    (m ((c : Thread nD τ).loc main_arg4)) (m ((c : Thread nD τ).loc main_arg5)) (batch t) (head t)

/-- What the pipeline moves on core `c`: the arrays as launched, each input block left as it was, the output block at the result's. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => block m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = block m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! The input blocks at a grid point, read at an index. -/

theorem blk_q (c : Dev nD) (t : Fin cfg0.N) (j : Fin 32) (d k : Fin 128) :
    (iblk m c 1 t : Vec Ideal S1x32x128x128 .bf16) (ix4 0 j d k)
      = (m ((c : Thread nD τ).loc main_arg1) : Vec Ideal S16x32x512x128 .bf16) (ix4 (batch t) j (colAt (head t) d) k) := by
  have hi : win0_1.index t 0 = t.val / 4 ∧ win0_1.index t 1 = 0 ∧ win0_1.index t 2 = t.val % 4 ∧ win0_1.index t 3 = 0 :=
    (by decide +kernel : ∀ t : Fin grid0.N, win0_1.index t 0 = t.val / 4 ∧ win0_1.index t 1 = 0 ∧ win0_1.index t 2 = t.val % 4 ∧ win0_1.index t 3 = 0) t
  unfold iblk
  rw [View.read_apply]
  show V m c main_arg1 _ = V m c main_arg1 _
  congr 1
  funext a
  apply Fin.ext
  match a with
  | ⟨0, _⟩ => show win0_1.index t 0 * 1 + 1 * 0 = t.val / 4; rw [hi.1]; omega
  | ⟨1, _⟩ => show win0_1.index t 1 * 32 + 1 * j.val = j.val; rw [hi.2.1]; omega
  | ⟨2, _⟩ => show win0_1.index t 2 * 128 + 1 * d.val = 128 * (t.val % 4) + d.val; rw [hi.2.2.1]; omega
  | ⟨3, _⟩ => show win0_1.index t 3 * 128 + 1 * k.val = k.val; rw [hi.2.2.2]; omega

theorem blk_k (c : Dev nD) (t : Fin cfg0.N) (r : Fin 4096) (d : Fin 128) :
    (iblk m c 2 t : Vec Ideal S4096x128 .bf16) (ix2 r d)
      = (m ((c : Thread nD τ).loc main_arg2) : Vec Ideal S65536x512 .bf16)
        (ix2 (rowAt (batch t) r) (colAt (head t) d)) := by
  have hi : win0_2.index t 0 = t.val / 4 ∧ win0_2.index t 1 = t.val % 4 :=
    (by decide +kernel : ∀ t : Fin grid0.N, win0_2.index t 0 = t.val / 4 ∧ win0_2.index t 1 = t.val % 4) t
  unfold iblk
  rw [View.read_apply]
  show V m c main_arg2 _ = V m c main_arg2 _
  congr 1
  funext a
  apply Fin.ext
  match a with
  | ⟨0, _⟩ => show win0_2.index t 0 * 4096 + 1 * r.val = 4096 * (t.val / 4) + r.val; rw [hi.1]; omega
  | ⟨1, _⟩ => show win0_2.index t 1 * 128 + 1 * d.val = 128 * (t.val % 4) + d.val; rw [hi.2]; omega

theorem blk_v (c : Dev nD) (t : Fin cfg0.N) (j : Fin 32) (d k : Fin 128) :
    (iblk m c 3 t : Vec Ideal S1x32x128x128 .bf16) (ix4 0 j d k)
      = (m ((c : Thread nD τ).loc main_arg3) : Vec Ideal S16x32x512x128 .bf16) (ix4 (batch t) j (colAt (head t) d) k) := by
  have hi : win0_3.index t 0 = t.val / 4 ∧ win0_3.index t 1 = 0 ∧ win0_3.index t 2 = t.val % 4 ∧ win0_3.index t 3 = 0 :=
    (by decide +kernel : ∀ t : Fin grid0.N, win0_3.index t 0 = t.val / 4 ∧ win0_3.index t 1 = 0 ∧ win0_3.index t 2 = t.val % 4 ∧ win0_3.index t 3 = 0) t
  unfold iblk
  rw [View.read_apply]
  show V m c main_arg3 _ = V m c main_arg3 _
  congr 1
  funext a
  apply Fin.ext
  match a with
  | ⟨0, _⟩ => show win0_3.index t 0 * 1 + 1 * 0 = t.val / 4; rw [hi.1]; omega
  | ⟨1, _⟩ => show win0_3.index t 1 * 32 + 1 * j.val = j.val; rw [hi.2.1]; omega
  | ⟨2, _⟩ => show win0_3.index t 2 * 128 + 1 * d.val = 128 * (t.val % 4) + d.val; rw [hi.2.2.1]; omega
  | ⟨3, _⟩ => show win0_3.index t 3 * 128 + 1 * k.val = k.val; rw [hi.2.2.2]; omega

theorem blk_lam (c : Dev nD) (t : Fin cfg0.N) :
    (iblk m c 4 t : Vec Ideal S4x64 .f32) = (m ((c : Thread nD τ).loc main_arg4) : Vec Ideal S4x64 .f32) := by
  have hi : win0_4.index t 0 = 0 ∧ win0_4.index t 1 = 0 :=
    (by decide +kernel : ∀ t : Fin grid0.N, win0_4.index t 0 = 0 ∧ win0_4.index t 1 = 0) t
  funext j
  unfold iblk
  rw [View.read_apply]
  show V m c main_arg4 _ = V m c main_arg4 _
  congr 1
  funext a
  apply Fin.ext
  match a with
  | ⟨0, _⟩ => show win0_4.index t 0 * 4 + 1 * (j 0).val = (j 0).val; rw [hi.1]; omega
  | ⟨1, _⟩ => show win0_4.index t 1 * 64 + 1 * (j 1).val = (j 1).val; rw [hi.2]; omega

theorem blk_prm (c : Dev nD) (t : Fin cfg0.N) :
    (iblk m c 5 t : Vec Ideal S8x128 .f32) = (m ((c : Thread nD τ).loc main_arg5) : Vec Ideal S8x128 .f32) := by
  have hi : win0_5.index t 0 = 0 ∧ win0_5.index t 1 = 0 :=
    (by decide +kernel : ∀ t : Fin grid0.N, win0_5.index t 0 = 0 ∧ win0_5.index t 1 = 0) t
  funext j
  unfold iblk
  rw [View.read_apply]
  show V m c main_arg5 _ = V m c main_arg5 _
  congr 1
  funext a
  apply Fin.ext
  match a with
  | ⟨0, _⟩ => show win0_5.index t 0 * 8 + 1 * (j 0).val = (j 0).val; rw [hi.1]; omega
  | ⟨1, _⟩ => show win0_5.index t 1 * 128 + 1 * (j 1).val = (j 1).val; rw [hi.2]; omega

/-- The arguments are real; of the last one, the entry that is read into the scalar. -/
structure Reals (c : Dev nD) : Prop where
  q : ∀ i, IsReal ((m ((c : Thread nD τ).loc main_arg1) : Vec Ideal S16x32x512x128 .bf16) i)
  k : ∀ i, IsReal ((m ((c : Thread nD τ).loc main_arg2) : Vec Ideal S65536x512 .bf16) i)
  v : ∀ i, IsReal ((m ((c : Thread nD τ).loc main_arg3) : Vec Ideal S16x32x512x128 .bf16) i)
  lam : ∀ i, IsReal ((m ((c : Thread nD τ).loc main_arg4) : Vec Ideal S4x64 .f32) i)
  prm : IsReal ((m ((c : Thread nD τ).loc main_arg5) : Vec Ideal S8x128 .f32) (ix2 2 0))

/-- The body at a point, from what the pipeline hands it to what it takes back. -/
theorem body_at (c : Dev nD) (H : Reals m c) (t : Fin cfg0.N) :
    iprop((dats m 0 c).Φ t.castSucc ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d))
      ∗ (∃ d, owns (c : Thread nD τ) (ms3 t) fullShare ((dats m 0 c).before 3 t d))
      ∗ (∃ d, owns (c : Thread nD τ) (ms4 t) fullShare ((dats m 0 c).before 4 t d))
      ∗ (∃ d, owns (c : Thread nD τ) (ms5 t) fullShare ((dats m 0 c).before 5 t d))
      ∗ (∃ d, owns (c : Thread nD τ) (ms6 t) fullShare ((dats m 0 c).before 6 t d)))
    ⊢ wp frame (wpE (defs₀ (F := Ideal)) Variants.none c none) Set.univ (bodyAt0 t) (fun _ =>
      iprop((dats m 0 c).Φ t.succ ∗ (dats m 0 c).owesAt () t.succ
      ∗ owns (c : Thread nD τ) (ms0 t) fullShare ((dats m 0 c).after 0 t)
      ∗ owns (c : Thread nD τ) (ms1 t) fullShare ((dats m 0 c).after 1 t)
      ∗ owns (c : Thread nD τ) (ms2 t) fullShare ((dats m 0 c).after 2 t)
      ∗ owns (c : Thread nD τ) (ms3 t) fullShare ((dats m 0 c).after 3 t)
      ∗ owns (c : Thread nD τ) (ms4 t) fullShare ((dats m 0 c).after 4 t)
      ∗ owns (c : Thread nD τ) (ms5 t) fullShare ((dats m 0 c).after 5 t)
      ∗ owns (c : Thread nD τ) (ms6 t) fullShare ((dats m 0 c).after 6 t))) := by
  unfold bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, inv_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
  iapply (body_value c (grid0.coords t) _ _ _ _ _ _ _ _ _ _ _ _ _ _ _ _ _ _ _ _ _ _ (iblk m c 0 t) (iblk m c 1 t) (iblk m c 2 t) (iblk m c 3 t) (iblk m c 4 t) (iblk m c 5 t)
    (block m c t) Ok
    (fun b y => by
      rw [blk_lam, blk_prm]
      exact block_direct _ _ _ _ _ H.q H.k H.v H.lam H.prm _ _ _ _ _ _ _ _ _ _ _ _ _ (batch t) (head t) (blk_q m c t) (blk_k m c t) (blk_v m c t) b y)
    (fun b => block_max _ _ H.q H.k _ _ _ _ _ _ (batch t) (head t) (blk_q m c t) (blk_k m c t) b)
    (fun b s hs y => by
      rw [blk_lam, blk_prm]
      exact block_shifted _ _ _ _ _ H.q H.k H.v H.lam H.prm _ _ _ _ _ _ _ _ _ _ _ _ _ (batch t) (head t) (blk_q m c t) (blk_k m c t) (blk_v m c t) b s hs y)
    Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- What the pipeline asks of the body. -/
theorem obligation (c : Dev nD) (H : Reals m c) : BodyObligation (dats m 0 c) (defs₀ (F := Ideal)) Variants.none () Set.univ := fun t => by
  rw [bigSep_W0, bigSep_W0, row]
  exact triple_restated (body_at m c H t) rfl .rfl fun _ => .rfl

set_option backward.isDefEq.respectTransparency.types false in
theorem run_quiescent (H : ∀ c, Reals m c) : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c (H c)).loose) (hshare := fun c => (dats m 0 c).share_full fun _ => rfl)
    (howed := fun _ _ => rfl) (V := V m) (hmain := hmain m Variants.none) (hA := A_eq m) (hΦ := fun _ _ => rfl)

theorem flushed_eq (c : Dev nD) (t : Fin cfg0.N) (hf : (cfg0.win 6).flush t = true) :
    (dats m 0 c).flushed 6 t = ((cfg0.win 6).blk t).view.read (Elt Ideal) (result m c) := by
  have hi : win0_6.index t 0 = t.val / 4 ∧ win0_6.index t 1 = t.val % 4 :=
    (by decide +kernel : ∀ t : Fin grid0.N, win0_6.index t 0 = t.val / 4 ∧ win0_6.index t 1 = t.val % 4) t
  have e : (dats m 0 c).flushed 6 t = (cfg0.win 6).cut (grid0.coords t) (block m c t) := by
    show (cfg0.win 6).cut (grid0.coords t) ((dats m 0 c).after 6 t) = _
    rw [after_6]
  rw [e]
  funext j
  rw [View.read_apply]
  unfold Pipeline.Window.cut
  show result m c _ = result m c _
  congr 1
  funext a
  apply Fin.ext
  match a with
  | ⟨0, _⟩ => show 4096 * (t.val / 4) + (j 0).val = win0_6.index t 0 * 4096 + 1 * (j 0).val; rw [hi.1]; omega
  | ⟨1, _⟩ => show 128 * (t.val % 4) + (j 1).val = win0_6.index t 1 * 128 + 1 * (j 1).val; rw [hi.2]; omega

/-- The result array after the run. -/
theorem final (c : Dev nD) : (dats m 0 c).arrAt 6 cfg0.N = result m c :=
  (dats m 0 c).arrAt_eq_of_cover 6 (result m c) (flushed_eq m c) fun i => by
    have h0 : (i 0 : Nat) < 65536 := (i 0).isLt
    have h1 : (i 1 : Nat) < 512 := (i 1).isLt
    have hN : 4 * ((i 0 : Nat) / 4096) + (i 1 : Nat) / 128 < grid0.N := by rw [N_0]; omega
    refine ⟨⟨4 * ((i 0 : Nat) / 4096) + (i 1 : Nat) / 128, hN⟩, flush0_6 _, ?_⟩
    generalize ht : (⟨4 * ((i 0 : Nat) / 4096) + (i 1 : Nat) / 128, hN⟩ : Fin cfg0.N) = t
    have htv : t.val = 4 * ((i 0 : Nat) / 4096) + (i 1 : Nat) / 128 := by rw [← ht]
    have hi : win0_6.index t 0 = t.val / 4 ∧ win0_6.index t 1 = t.val % 4 :=
      (by decide +kernel : ∀ t : Fin grid0.N, win0_6.index t 0 = t.val / 4 ∧ win0_6.index t 1 = t.val % 4) t
    have hx : win0_6.xsize (grid0.coords t) 0 = 4096 ∧ win0_6.xsize (grid0.coords t) 1 = 128 :=
      (by decide +kernel : ∀ t : Fin grid0.N, win0_6.xsize (grid0.coords t) 0 = 4096 ∧ win0_6.xsize (grid0.coords t) 1 = 128) t
    show i ∈ ((View.whole main_v0).slice (win0_6.rect t)).set
    rw [View.set_slice_whole, Rect.mem_set_unit]
    intro a
    match a with
    | ⟨0, _⟩ => show win0_6.index t 0 * 4096 ≤ (i 0 : Nat) ∧ (i 0 : Nat) < win0_6.index t 0 * 4096 + win0_6.xsize (grid0.coords t) 0
                rw [hi.1, hx.1]; omega
    | ⟨1, _⟩ => show win0_6.index t 1 * 128 ≤ (i 1 : Nat) ∧ (i 1 : Nat) < win0_6.index t 1 * 128 + win0_6.xsize (grid0.coords t) 1
                rw [hi.2, hx.2]; omega

/-- The run: the result is the reference's function of the arguments, which are unchanged. -/
theorem run (H : ∀ c, Reals m c) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h' c => have h := h'.1; ⟨((h c).1 6).trans (final m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩) (run_quiescent m ρ H)

end Cert.KernelIdeal.Whole

end
-- ==== Proof.FiniteFacts.lean ====
module

public import proofs.«01_k».proof.Pre_finite
public import proofs.«01_k».proof.Proof.AttnMath
public import Idealize.ShloMosaic.Lib.ReduceAll
public import Idealize.ShloMosaic.Lib.Pointwise.Select

@[expose] public section

noncomputable section

/-! The precondition: its side conditions, and that it makes what the claim needs of the five arrays real. -/

namespace Cert.Pre_finite

open Idealize.ShloMosaic Cert.Attn

instance facts : Facts where
  bitsLt_bf16_f32 := by decide
  bcast_S_S16x32x512x128 := by decide
  reducesTo_S16x32x512x128_S_d0_1_2_3 := by decide
  h_S_ := by decide
  bcast_S_S65536x512 := by decide
  reducesTo_S65536x512_S_d0_1 := by decide
  bcast_S_S4x64 := by decide
  reducesTo_S4x64_S_d0_1 := by decide
  slices_S8x128_S1x1_2_0 := by decide
  bcast_S_S1x1 := by decide
  reducesTo_S1x1_S_d0_1 := by decide

theorem posInf : Ideal.ofBits .f32 0x7F800000#32 = (⊤ : EReal) := by
  simp [Ideal.ofBits, Ideal.ieee]

theorem and_one {x y : BitVec 1} (h : x &&& y = 1#1) : x = 1#1 ∧ y = 1#1 := by
  revert x y; decide

/-- Strictly between the infinities is real. -/
theorem isReal_of {x : EReal} (h : BitVec.ofBool (decide (x < ⊤)) &&& BitVec.ofBool (decide (⊥ < x)) = 1#1) : IsReal x := by
  obtain ⟨a, b⟩ := and_one h
  have ha : x < ⊤ := by by_contra hn; simp [hn] at a
  have hb : ⊥ < x := by by_contra hn; simp [hn] at b
  exact ⟨x.toReal, (EReal.coe_toReal ha.ne hb.ne').symm⟩

instance : Subsingleton S_.Idx := ⟨fun a b => funext fun i => i.elim0⟩

/-- The precondition, read: four arrays are real, and of the last the entry that is read into the scalar. -/
theorem reals (x0 : Vec Ideal S16x4 .f32) (x1 : Vec Ideal S16x32x512x128 .bf16) (x2 : Vec Ideal S65536x512 .bf16) (x3 : Vec Ideal S16x32x512x128 .bf16)
    (x4 : Vec Ideal S4x64 .f32) (x5 : Vec Ideal S8x128 .f32) (h : fn (F := Ideal) x0 x1 x2 x3 x4 x5 = fun _ => 1#1) :
    (∀ i, IsReal (x1 i)) ∧ (∀ i, IsReal (x2 i)) ∧ (∀ i, IsReal (x3 i)) ∧ (∀ i, IsReal (x4 i)) ∧ IsReal (x5 (ix2 2 0)) := by
  have e := congrFun h (fun i => i.elim0)
  unfold fn fn_part1 fn_part2 at e
  obtain ⟨e, e5⟩ := and_one e
  obtain ⟨e, e4⟩ := and_one e
  obtain ⟨e, e3⟩ := and_one e
  obtain ⟨e1, e2⟩ := and_one e
  have r : ∀ {x : EReal}, BitVec.ofBool (decide (x < Ideal.ofBits .f32 0x7F800000#32)) &&& BitVec.ofBool (decide (Ideal.ofBits .f32 0xFF800000#32 < x)) = 1#1 → IsReal x :=
    fun h => by rw [posInf, negInf] at h; exact isReal_of h
  exact ⟨fun i => r (Host.reduce_andi_all _ _ _ _ _ e1 i), fun i => r (Host.reduce_andi_all _ _ _ _ _ e2 i),
    fun i => r (Host.reduce_andi_all _ _ _ _ _ e3 i), fun i => r (Host.reduce_andi_all _ _ _ _ _ e4 i),
    by
      obtain ⟨y, hy⟩ := r (Host.reduce_andi_all _ _ _ _ _ e5 (ix2 0 0))
      refine ⟨y, (congrArg x5 ?_).trans hy⟩
      funext a; apply Fin.ext
      match a with
      | ⟨0, _⟩ => rfl
      | ⟨1, _⟩ => rfl⟩

end Cert.Pre_finite

end
-- ==== Proof.AttnClaim.lean ====
/- The claim about the attention's result: the kernel's is the reference's, of real arguments. -/
module

public import proofs.«01_k».proof.Defs
public import proofs.«01_k».proof.Proof.AttnValue
public import proofs.«01_k».proof.Proof.FiniteFacts
public import proofs.«01_k».proof.Proof.Gen.ReferenceIdeal.Run

@[expose] public section

noncomputable section

namespace Cert.Proof

open Idealize.ShloMosaic Idealize.SL.Sem

/-- The kernel's result is the reference's. -/
theorem attention_algebraic : Cert.algebraic_KernelIdeal_ReferenceIdeal_pre_finite := fun m ρ m' ρ' hpre hagree => by
  have H : ∀ c, Cert.KernelIdeal.Whole.Reals m c := fun c => by
    obtain ⟨r1, r2, r3, r4, r5⟩ := Cert.Pre_finite.reals _ _ _ _ _ _ (hpre c)
    exact ⟨r1, r2, r3, r4, r5⟩
  refine ⟨Cert.KernelIdeal.Whole.result m, Cert.KernelIdeal.Whole.run m ρ H, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5⟩ := hagree c
  refine (Cert.ReferenceIdeal.Read.val_main_v74_eq _ c).trans ?_
  rw [h1, h2, h3, h4, h5]
  rfl

end Cert.Proof

end
-- ==== Proof.lean ====
/- The claim's proof, put together from the modules that prove its parts. -/
module

public import proofs.«01_k».proof.Defs
public import proofs.«01_k».proof.Proof.KernelBody
public import proofs.«01_k».proof.Proof.KernelIdealBody
public import proofs.«01_k».proof.Proof.FfnClaim
public import proofs.«01_k».proof.Proof.MixClaim
public import proofs.«01_k».proof.Proof.ProjClaim
public import proofs.«01_k».proof.Proof.AttnClaim
public import proofs.«01_k».proof.Proof.Gen.Kernel
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.KernelIdeal
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run

@[expose] public section

noncomputable section

namespace Cert.Proof

open Idealize.ShloMosaic Idealize.SL.Sem

/-- The attention's reference runs and keeps its arguments; it declares no semaphore. -/
theorem attention_reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Everything claimed in `Defs.lean`. -/
theorem claim : Cert.Claim :=
  ⟨Cert.Kernel.Gen.facts, Cert.KernelIdeal.Gen.facts, Cert.ReferenceIdeal.Gen.facts, Cert.Ffn.Gen.facts, Cert.FfnIdeal.Gen.facts, Cert.FfnRefIdeal.Gen.facts, Cert.Mix.Gen.facts, Cert.MixIdeal.Gen.facts, Cert.MixRefIdeal.Gen.facts, Cert.Proj.Gen.facts, Cert.ProjIdeal.Gen.facts, Cert.ProjRefIdeal.Gen.facts, Cert.Pre_finite.facts,
    fun m ρ _ => KernelBody.frame m ρ,
    fun m ρ _ => KernelIdealBody.frame m ρ,
    fun m ρ _ => KernelIdealBody.frame m ρ,
    attention_reference_frame,
    fun m ρ _ => attention_reference_frame m ρ trivial,
    fun m ρ _ => Cert.Ffn.Gen.frame m ρ,
    fun m ρ _ => Cert.FfnIdeal.Gen.frame m ρ,
    ffn_reference_frame,
    fun m ρ _ => Cert.Mix.Gen.frame m ρ,
    fun m ρ _ => Cert.MixIdeal.Gen.frame m ρ,
    mix_reference_frame,
    fun m ρ _ => Cert.Proj.Gen.frame m ρ,
    fun m ρ _ => Cert.ProjIdeal.Gen.frame m ρ,
    proj_reference_frame,
    trivial,
    attention_algebraic,
    trivial,
    ffn_algebraic,
    trivial,
    mix_algebraic,
    trivial,
    proj_algebraic⟩

end Cert.Proof

end
